-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v36)) (v1 : (c : Dev Cert.Kernel4Ideal.nD) → Buf (Elt Ideal) ((c.tc : Thread Cert.Kernel4Ideal.nD Cert.Kernel4Ideal.τ).loc Cert.Kernel4Ideal.main_v37)) (v2 : (c : Dev Cert.Kernel4Ideal.nD) → Buf (Elt Ideal) ((c.tc : Thread Cert.Kernel4Ideal.nD Cert.Kernel4Ideal.τ).loc Cert.Kernel4Ideal.main_v39)) (v3 : (c : Dev Cert.Kernel4Ideal.nD) → Buf (Elt Ideal) ((c.tc : Thread Cert.Kernel4Ideal.nD Cert.Kernel4Ideal.τ).loc Cert.Kernel4Ideal.main_v34)) (v4 : (c : Dev Cert.Kernel4Ideal.nD) → Buf (Elt Ideal) ((c.tc : Thread Cert.Kernel4Ideal.nD Cert.Kernel4Ideal.τ).loc Cert.Kernel4Ideal.main_v40)) (v5 : (c : Dev Cert.Kernel4Ideal.nD) → Buf (Elt Ideal) ((c.tc : Thread Cert.Kernel4Ideal.nD Cert.Kernel4Ideal.τ).loc Cert.Kernel4Ideal.main_v35)) (v6 : (c : Dev Cert.Kernel4Ideal.nD) → Buf (Elt Ideal) ((c.tc : Thread Cert.Kernel4Ideal.nD Cert.Kernel4Ideal.τ).loc Cert.Kernel4Ideal.main_v42)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36) = v0 c
          ∧ r.2.mem ((c.tc : Thread Cert.Kernel4Ideal.nD Cert.Kernel4Ideal.τ).loc Cert.Kernel4Ideal.main_v37) = v1 c
          ∧ r.2.mem ((c.tc : Thread Cert.Kernel4Ideal.nD Cert.Kernel4Ideal.τ).loc Cert.Kernel4Ideal.main_v39) = v2 c
          ∧ r.2.mem ((c.tc : Thread Cert.Kernel4Ideal.nD Cert.Kernel4Ideal.τ).loc Cert.Kernel4Ideal.main_v34) = v3 c
          ∧ r.2.mem ((c.tc : Thread Cert.Kernel4Ideal.nD Cert.Kernel4Ideal.τ).loc Cert.Kernel4Ideal.main_v40) = v4 c
          ∧ r.2.mem ((c.tc : Thread Cert.Kernel4Ideal.nD Cert.Kernel4Ideal.τ).loc Cert.Kernel4Ideal.main_v35) = v5 c
          ∧ r.2.mem ((c.tc : Thread Cert.Kernel4Ideal.nD Cert.Kernel4Ideal.τ).loc Cert.Kernel4Ideal.main_v42) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_v71) = v1 c
          ∧ r.2.mem ((c.tc : Thread Cert.Reference4Ideal.nD Cert.Reference4Ideal.τ).loc Cert.Reference4Ideal.main_v73) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v102) = v4 c
          ∧ r.2.mem ((c.tc : Thread Cert.Reference4Ideal.nD Cert.Reference4Ideal.τ).loc Cert.Reference4Ideal.main_v69) = v5 c
          ∧ r.2.mem ((c.tc : Thread Cert.Reference4Ideal.nD Cert.Reference4Ideal.τ).loc Cert.Reference4Ideal.main_v30) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v29)) (v1 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_v30) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v83) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x1024 : Shape := ⟨3, ![4, 4096, 1024]⟩
abbrev S4x4096x2x4x64 : Shape := ⟨5, ![4, 4096, 2, 4, 64]⟩
abbrev S4x4x16x64 : Shape := ⟨4, ![4, 4, 16, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4x16x64 : S_.BroadcastsInDim S4x4x16x64 (![] : Fin 0 → Fin S4x4x16x64.rank)
  reducesTo_S4x4x16x64_S_d0_1_2_3 : S4x4x16x64.ReducesTo [0, 1, 2, 3] S_

variable [Facts]

def fn {F : FTy → Type} [FloatOps F] (main_arg0 : FVec F S4x4096x1024 .f32) (main_arg1 : FVec F S4x4096x2x4x64 .f32) (main_arg2 : FVec F S4x4x16x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4x16x64 .f32 := Host.absf main_arg2
  let main_cst_0 : FVec F S_ .f32 := constant S_ .f32 0x7F800000#32
  let main_v5 : FVec F S4x4x16x64 .f32 := broadcastInDim S4x4x16x64 ![] bcast_S_S4x4x16x64 main_cst_0
  let main_v6 : IVec S4x4x16x64 1 := cmpf .olt main_v4 main_v5
  let main_c_1 : IVec S_ 1 := constantI S_ 1 1#1
  let main_v7 : IVec S_ 1 := (fun x v => Host.reduce IntOp.andi x v reducesTo_S4x4x16x64_S_d0_1_2_3 h_S_) main_v6 main_c_1
  let main_v8 : IVec S_ 1 := andi main_v3 main_v7
  main_v8
-- ==== Kernel.lean ====
abbrev S4x4096x1024 : Shape := ⟨3, ![4, 4096, 1024]⟩
abbrev S4x4096x2x4x64 : Shape := ⟨5, ![4, 4096, 2, 4, 64]⟩
abbrev S4x4x16x64 : Shape := ⟨4, ![4, 4, 16, 64]⟩
abbrev S16x16x64 : Shape := ⟨3, ![16, 16, 64]⟩
abbrev S_ : Shape := ⟨0, ![]⟩
abbrev S16x64x64 : Shape := ⟨3, ![16, 64, 64]⟩
abbrev S4x4096x1x4x64 : Shape := ⟨5, ![4, 4096, 1, 4, 64]⟩
abbrev S4x4096x4x64 : Shape := ⟨4, ![4, 4096, 4, 64]⟩
abbrev S4x4x4096x64 : Shape := ⟨4, ![4, 4, 4096, 64]⟩
abbrev S16x4096x64 : Shape := ⟨3, ![16, 4096, 64]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S1x4096x64 : Shape := ⟨3, ![1, 4096, 64]⟩
abbrev S16x4096x128 : Shape := ⟨3, ![16, 4096, 128]⟩
abbrev S4x4x64x4096 : Shape := ⟨4, ![4, 4, 64, 4096]⟩
abbrev S16x64x4096 : Shape := ⟨3, ![16, 64, 4096]⟩
abbrev S16x16x4096 : Shape := ⟨3, ![16, 16, 4096]⟩
abbrev S16x80x4096 : Shape := ⟨3, ![16, 80, 4096]⟩
abbrev S16384x1024 : Shape := ⟨2, ![16384, 1024]⟩
abbrev S512x256 : Shape := ⟨2, ![512, 256]⟩
abbrev S1x4096x128 : Shape := ⟨3, ![1, 4096, 128]⟩
abbrev S1x80x4096 : Shape := ⟨3, ![1, 80, 4096]⟩
abbrev S1x64x64 : Shape := ⟨3, ![1, 64, 64]⟩
abbrev S1x128x2048 : Shape := ⟨3, ![1, 128, 2048]⟩
abbrev S1x1x2048 : Shape := ⟨3, ![1, 1, 2048]⟩
abbrev S1x80x2048 : Shape := ⟨3, ![1, 80, 2048]⟩
abbrev S256x512 : Shape := ⟨2, ![256, 512]⟩
abbrev S64x512 : Shape := ⟨2, ![64, 512]⟩
abbrev S64x2048 : Shape := ⟨2, ![64, 2048]⟩
abbrev S1x64x2048 : Shape := ⟨3, ![1, 64, 2048]⟩
abbrev S1x16x64 : Shape := ⟨3, ![1, 16, 64]⟩
abbrev S1x16x2048 : Shape := ⟨3, ![1, 16, 2048]⟩
abbrev S1x16x1 : Shape := ⟨3, ![1, 16, 1]⟩
abbrev S1x48x2048 : Shape := ⟨3, ![1, 48, 2048]⟩
abbrev S1x512x128 : Shape := ⟨3, ![1, 512, 128]⟩
abbrev S1x512x2048 : Shape := ⟨3, ![1, 512, 2048]⟩
abbrev S1x2048 : Shape := ⟨2, ![1, 2048]⟩
abbrev S1x80x512 : Shape := ⟨3, ![1, 80, 512]⟩
abbrev S1x512x1 : Shape := ⟨3, ![1, 512, 1]⟩

abbrev nBuf : Space → Nat
  | .hbm => 60
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2x4x64, .f32⟩
  | .hbm, ⟨2, _⟩ => ⟨S4x4x16x64, .f32⟩
  | .hbm, ⟨3, _⟩ => ⟨S16x16x64, .f32⟩
  | .hbm, ⟨4, _⟩ => ⟨S_, .i32⟩
  | .hbm, ⟨5, _⟩ => ⟨S_, .f32⟩
  | .hbm, ⟨6, _⟩ => ⟨S16x64x64, .f32⟩
  | .hbm, ⟨7, _⟩ => ⟨S4x4096x1x4x64, .f32⟩
  | .hbm, ⟨8, _⟩ => ⟨S4x4096x4x64, .f32⟩
  | .hbm, ⟨9, _⟩ => ⟨S4x4x4096x64, .f32⟩
  | .hbm, ⟨10, _⟩ => ⟨S_, .i32⟩
  | .hbm, ⟨11, _⟩ => ⟨S_, .f32⟩
  | .hbm, ⟨12, _⟩ => ⟨S4x4x4096x64, .f32⟩
  | .hbm, ⟨13, _⟩ => ⟨S16x4096x64, .f32⟩
  | .hbm, ⟨14, _⟩ => ⟨S16x4096x64, .bf16⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S_, .i32⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S_, .i32⟩
  | .hbm, ⟨26, _⟩ => ⟨S4096x1, .i32⟩
  | .hbm, ⟨27, _⟩ => ⟨S4096x1, .i1⟩
  | .hbm, ⟨28, _⟩ => ⟨S4096x1, .i32⟩
  | .hbm, ⟨29, _⟩ => ⟨S4096x1, .i32⟩
  | .hbm, ⟨30, _⟩ => ⟨S_, .i32⟩
  | .hbm, ⟨31, _⟩ => ⟨S4096x1, .i32⟩
  | .hbm, ⟨32, _⟩ => ⟨S4096x1, .i1⟩
  | .hbm, ⟨33, _⟩ => ⟨S4096x1, .i1⟩
  | .hbm, ⟨34, _⟩ => ⟨S_, .i32⟩
  | .hbm, ⟨35, _⟩ => ⟨S4096x1, .i32⟩
  | .hbm, ⟨36, _⟩ => ⟨S4096x1, .i32⟩
  | .hbm, ⟨37, _⟩ => ⟨S4096x1, .i32⟩
  | .hbm, ⟨38, _⟩ => ⟨S64, .i32⟩
  | .hbm, ⟨39, _⟩ => ⟨S1x64, .i32⟩
  | .hbm, ⟨40, _⟩ => ⟨S4096x64, .i32⟩
  | .hbm, ⟨41, _⟩ => ⟨S4096x64, .i32⟩
  | .hbm, ⟨42, _⟩ => ⟨S4096x64, .i1⟩
  | .hbm, ⟨43, _⟩ => ⟨S4096x64, .bf16⟩
  | .hbm, ⟨44, _⟩ => ⟨S1x4096x64, .bf16⟩
  | .hbm, ⟨45, _⟩ => ⟨S16x4096x64, .bf16⟩
  | .hbm, ⟨46, _⟩ => ⟨S16x4096x128, .bf16⟩
  | .hbm, ⟨47, _⟩ => ⟨S4x4096x1x4x64, .f32⟩
  | .hbm, ⟨48, _⟩ => ⟨S4x4096x4x64, .f32⟩
  | .hbm, ⟨49, _⟩ => ⟨S4x4x64x4096, .f32⟩
  | .hbm, ⟨50, _⟩ => ⟨S_, .i32⟩
  | .hbm, ⟨51, _⟩ => ⟨S_, .f32⟩
  | .hbm, ⟨52, _⟩ => ⟨S4x4x64x4096, .f32⟩
  | .hbm, ⟨53, _⟩ => ⟨S16x64x4096, .f32⟩
  | .hbm, ⟨54, _⟩ => ⟨S_, .f32⟩
  | .hbm, ⟨55, _⟩ => ⟨S16x16x4096, .f32⟩
  | .hbm, ⟨56, _⟩ => ⟨S16x80x4096, .f32⟩
  | .hbm, ⟨57, _⟩ => ⟨S16x80x4096, .bf16⟩
  | .hbm, ⟨58, _⟩ => ⟨S16384x1024, .f32⟩
  | .hbm, ⟨59, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S1x4096x128, .bf16⟩
  | .local _ .vmem, ⟨3, _⟩ => ⟨S1x4096x128, .bf16⟩
  | .local _ .vmem, ⟨4, _⟩ => ⟨S1x80x4096, .bf16⟩
  | .local _ .vmem, ⟨5, _⟩ => ⟨S1x80x4096, .bf16⟩
  | .local _ .vmem, ⟨6, _⟩ => ⟨S1x64x64, .f32⟩
  | .local _ .vmem, ⟨7, _⟩ => ⟨S1x64x64, .f32⟩
  | .local _ .vmem, ⟨8, _⟩ => ⟨S512x256, .f32⟩
  | .local _ .vmem, ⟨9, _⟩ => ⟨S512x256, .f32⟩
  | .local _ .vmem, ⟨10, _⟩ => ⟨S1x128x2048, .bf16⟩
  | .local _ .vmem, ⟨11, _⟩ => ⟨S1x1x2048, .f32⟩
  | .local _ .vmem, ⟨12, _⟩ => ⟨S1x80x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_c : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_0 : Ref sig .tc := ⟨.hbm, 34, rfl⟩
abbrev main_call2_v12 : Ref sig .tc := ⟨.hbm, 35, rfl⟩
abbrev main_call2_v13 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_3 : Ref sig .tc := ⟨.hbm, 50, rfl⟩
abbrev main_call3_v0 : Ref sig .tc := ⟨.hbm, 51, rfl⟩
abbrev main_v25 : Ref sig .tc := ⟨.hbm, 52, rfl⟩
abbrev main_v26 : Ref sig .tc := ⟨.hbm, 53, rfl⟩
abbrev main_cst : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_130 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c512_i32_119 : BitVec 32 := 512#32
  let v403 : BitVec 32 := Scalar.addi v1 c512_i32_119
  let c1_i32_120 : BitVec 32 := 1#32
  let v404 : BitVec 32 := Scalar.subi v403 c1_i32_120
  let c0_i32_121 : BitVec 32 := 0#32
  let v405 : BitVec 32 := Scalar.subi v404 c0_i32_121
  let c0_i32_123 : BitVec 32 := 0#32
  let v407 : BitVec 1 := Scalar.cmpi .sgt v405 c0_i32_123
  let v408 : BitVec 32 := Scalar.extui v407
  let c0_i32_124 : BitVec 32 := 0#32
  let v409 : BitVec 1 := Scalar.cmpi .slt v405 c0_i32_124
  let v410 : BitVec 32 := Scalar.extui v409
  let v411 : BitVec 32 := Scalar.subi v408 v410
  let c512_i32_122 : BitVec 32 := 512#32
  let c0_i32_125 : BitVec 32 := 0#32
  let v412 : BitVec 1 := Scalar.cmpi .sgt c512_i32_122 c0_i32_125
  let v413 : BitVec 32 := Scalar.extui v412
  let c0_i32_126 : BitVec 32 := 0#32
  let v414 : BitVec 1 := Scalar.cmpi .slt c512_i32_122 c0_i32_126
  let v415 : BitVec 32 := Scalar.extui v414
  let v416 : BitVec 32 := Scalar.subi v413 v415
  let v417 : BitVec 1 := Scalar.cmpi .ne v411 v416
  let v418 : BitVec 32 := Scalar.remsi v405 c512_i32_122
  let c0_i32_127 : BitVec 32 := 0#32
  let v419 : BitVec 1 := Scalar.cmpi .ne v418 c0_i32_127
  let v420 : BitVec 1 := Scalar.andi v417 v419
  let v406 : BitVec 32 := Scalar.divsi v405 c512_i32_122
  let c1_i32_128 : BitVec 32 := 1#32
  let v421 : BitVec 32 := Scalar.subi v406 c1_i32_128
  let v422 : BitVec 32 := Scalar.select v420 v421 v406
  let v423 : BitVec 32 := Scalar.subi v422 c0_i32_130
  let c1_i32_131 : BitVec 32 := 1#32
  let v425 : BitVec 32 := Scalar.divsi v423 c1_i32_131
  let v426 : BitVec 32 := Scalar.muli v425 c1_i32_131
  let v427 : BitVec 32 := Scalar.addi c0_i32_130 v426
  let c1_i32_132 : BitVec 32 := 1#32
  ⟨c0_i32_130, v427, c1_i32_132⟩
def k0_mult1 (i : grid0.Coords) (k0_t1 : Fin (k0_t1_loop i).trips) : BitVec 32 :=
  let c0_i32_130 : BitVec 32 := 0#32
  let c1_i32_132 : BitVec 32 := 1#32
  let arg10 : BitVec 32 := Scf.iv c0_i32_130 c1_i32_132 k0_t1
  let c512_i32_165 : BitVec 32 := 512#32
  let v483 : BitVec 32 := Scalar.muli arg10 c512_i32_165
  v483
def k0_off1 (i : grid0.Coords) (k0_t1 : Fin (k0_t1_loop i).trips) : Fin 3 → Nat :=
  let c0_166 : Index := 0#32
  let c0_i32_130 : BitVec 32 := 0#32
  let c1_i32_132 : BitVec 32 := 1#32
  let arg10 : BitVec 32 := Scf.iv c0_i32_130 c1_i32_132 k0_t1
  let c512_i32_165 : BitVec 32 := 512#32
  let v483 : BitVec 32 := Scalar.muli arg10 c512_i32_165
  let v484 : BitVec 32 := v483
  let v485 : Index := Scalar.indexCast v484
  let c0_167 : Index := 0#32
  ![0, v485.toNat, 0]
def k0_off2 (i : grid0.Coords) (k0_t1 : Fin (k0_t1_loop i).trips) : Fin 3 → Nat :=
  let c0_179 : Index := 0#32
  let c0_180 : Index := 0#32
  let c0_i32_130 : BitVec 32 := 0#32
  let c1_i32_132 : BitVec 32 := 1#32
  let arg10 : BitVec 32 := Scf.iv c0_i32_130 c1_i32_132 k0_t1
  let c512_i32_165 : BitVec 32 := 512#32
  let v483 : BitVec 32 := Scalar.muli arg10 c512_i32_165
  let v484 : BitVec 32 := v483
  let v502 : Index := Scalar.indexCast v484
  ![0, 0, v502.toNat]
@[reducible] def k0_t2_loop (i : grid0.Coords) : Scf.Loop 32 :=
  let c0_i32_130 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c512_i32_119 : BitVec 32 := 512#32
  let v403 : BitVec 32 := Scalar.addi v1 c512_i32_119
  let c1_i32_120 : BitVec 32 := 1#32
  let v404 : BitVec 32 := Scalar.subi v403 c1_i32_120
  let c0_i32_121 : BitVec 32 := 0#32
  let v405 : BitVec 32 := Scalar.subi v404 c0_i32_121
  let c0_i32_123 : BitVec 32 := 0#32
  let v407 : BitVec 1 := Scalar.cmpi .sgt v405 c0_i32_123
  let v408 : BitVec 32 := Scalar.extui v407
  let c0_i32_124 : BitVec 32 := 0#32
  let v409 : BitVec 1 := Scalar.cmpi .slt v405 c0_i32_124
  let v410 : BitVec 32 := Scalar.extui v409
  let v411 : BitVec 32 := Scalar.subi v408 v410
  let c512_i32_122 : BitVec 32 := 512#32
  let c0_i32_125 : BitVec 32 := 0#32
  let v412 : BitVec 1 := Scalar.cmpi .sgt c512_i32_122 c0_i32_125
  let v413 : BitVec 32 := Scalar.extui v412
  let c0_i32_126 : BitVec 32 := 0#32
  let v414 : BitVec 1 := Scalar.cmpi .slt c512_i32_122 c0_i32_126
  let v415 : BitVec 32 := Scalar.extui v414
  let v416 : BitVec 32 := Scalar.subi v413 v415
  let v417 : BitVec 1 := Scalar.cmpi .ne v411 v416
  let v418 : BitVec 32 := Scalar.remsi v405 c512_i32_122
  let c0_i32_127 : BitVec 32 := 0#32
  let v419 : BitVec 1 := Scalar.cmpi .ne v418 c0_i32_127
  let v420 : BitVec 1 := Scalar.andi v417 v419
  let v406 : BitVec 32 := Scalar.divsi v405 c512_i32_122
  let c1_i32_128 : BitVec 32 := 1#32
  let v421 : BitVec 32 := Scalar.subi v406 c1_i32_128
  let v422 : BitVec 32 := Scalar.select v420 v421 v406
  let v423 : BitVec 32 := Scalar.subi v422 c0_i32_130
  let c1_i32_131 : BitVec 32 := 1#32
  let v425 : BitVec 32 := Scalar.divsi v423 c1_i32_131
  let v426 : BitVec 32 := Scalar.muli v425 c1_i32_131
  let v427 : BitVec 32 := Scalar.addi c0_i32_130 v426
  let v424 : BitVec 32 := Scalar.addi c0_i32_130 v423
  let c1_i32_133 : BitVec 32 := 1#32
  ⟨v427, v424, c1_i32_133⟩
def k0_mult2 (i : grid0.Coords) (k0_t2 : Fin (k0_t2_loop i).trips) : BitVec 32 :=
  let c0_i32_130 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c512_i32_119 : BitVec 32 := 512#32
  let v403 : BitVec 32 := Scalar.addi v1 c512_i32_119
  let c1_i32_120 : BitVec 32 := 1#32
  let v404 : BitVec 32 := Scalar.subi v403 c1_i32_120
  let c0_i32_121 : BitVec 32 := 0#32
  let v405 : BitVec 32 := Scalar.subi v404 c0_i32_121
  let c0_i32_123 : BitVec 32 := 0#32
  let v407 : BitVec 1 := Scalar.cmpi .sgt v405 c0_i32_123
  let v408 : BitVec 32 := Scalar.extui v407
  let c0_i32_124 : BitVec 32 := 0#32
  let v409 : BitVec 1 := Scalar.cmpi .slt v405 c0_i32_124
  let v410 : BitVec 32 := Scalar.extui v409
  let v411 : BitVec 32 := Scalar.subi v408 v410
  let c512_i32_122 : BitVec 32 := 512#32
  let c0_i32_125 : BitVec 32 := 0#32
  let v412 : BitVec 1 := Scalar.cmpi .sgt c512_i32_122 c0_i32_125
  let v413 : BitVec 32 := Scalar.extui v412
  let c0_i32_126 : BitVec 32 := 0#32
  let v414 : BitVec 1 := Scalar.cmpi .slt c512_i32_122 c0_i32_126
  let v415 : BitVec 32 := Scalar.extui v414
  let v416 : BitVec 32 := Scalar.subi v413 v415
  let v417 : BitVec 1 := Scalar.cmpi .ne v411 v416
  let v418 : BitVec 32 := Scalar.remsi v405 c512_i32_122
  let c0_i32_127 : BitVec 32 := 0#32
  let v419 : BitVec 1 := Scalar.cmpi .ne v418 c0_i32_127
  let v420 : BitVec 1 := Scalar.andi v417 v419
  let v406 : BitVec 32 := Scalar.divsi v405 c512_i32_122
  let c1_i32_128 : BitVec 32 := 1#32
  let v421 : BitVec 32 := Scalar.subi v406 c1_i32_128
  let v422 : BitVec 32 := Scalar.select v420 v421 v406
  let v423 : BitVec 32 := Scalar.subi v422 c0_i32_130
  let c1_i32_131 : BitVec 32 := 1#32
  let v425 : BitVec 32 := Scalar.divsi v423 c1_i32_131
  let v426 : BitVec 32 := Scalar.muli v425 c1_i32_131
  let v427 : BitVec 32 := Scalar.addi c0_i32_130 v426
  let c1_i32_133 : BitVec 32 := 1#32
  let arg10 : BitVec 32 := Scf.iv v427 c1_i32_133 k0_t2
  let c512_i32_165 : BitVec 32 := 512#32
  let v483 : BitVec 32 := Scalar.muli arg10 c512_i32_165
  v483
def k0_off3 (i : grid0.Coords) (k0_t2 : Fin (k0_t2_loop i).trips) : Fin 3 → Nat :=
  let c0_166 : Index := 0#32
  let c0_i32_130 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c512_i32_119 : BitVec 32 := 512#32
  let v403 : BitVec 32 := Scalar.addi v1 c512_i32_119
  let c1_i32_120 : BitVec 32 := 1#32
  let v404 : BitVec 32 := Scalar.subi v403 c1_i32_120
  let c0_i32_121 : BitVec 32 := 0#32
  let v405 : BitVec 32 := Scalar.subi v404 c0_i32_121
  let c0_i32_123 : BitVec 32 := 0#32
  let v407 : BitVec 1 := Scalar.cmpi .sgt v405 c0_i32_123
  let v408 : BitVec 32 := Scalar.extui v407
  let c0_i32_124 : BitVec 32 := 0#32
  let v409 : BitVec 1 := Scalar.cmpi .slt v405 c0_i32_124
  let v410 : BitVec 32 := Scalar.extui v409
  let v411 : BitVec 32 := Scalar.subi v408 v410
  let c512_i32_122 : BitVec 32 := 512#32
  let c0_i32_125 : BitVec 32 := 0#32
  let v412 : BitVec 1 := Scalar.cmpi .sgt c512_i32_122 c0_i32_125
  let v413 : BitVec 32 := Scalar.extui v412
  let c0_i32_126 : BitVec 32 := 0#32
  let v414 : BitVec 1 := Scalar.cmpi .slt c512_i32_122 c0_i32_126
  let v415 : BitVec 32 := Scalar.extui v414
  let v416 : BitVec 32 := Scalar.subi v413 v415
  let v417 : BitVec 1 := Scalar.cmpi .ne v411 v416
  let v418 : BitVec 32 := Scalar.remsi v405 c512_i32_122
  let c0_i32_127 : BitVec 32 := 0#32
  let v419 : BitVec 1 := Scalar.cmpi .ne v418 c0_i32_127
  let v420 : BitVec 1 := Scalar.andi v417 v419
  let v406 : BitVec 32 := Scalar.divsi v405 c512_i32_122
  let c1_i32_128 : BitVec 32 := 1#32
  let v421 : BitVec 32 := Scalar.subi v406 c1_i32_128
  let v422 : BitVec 32 := Scalar.select v420 v421 v406
  let v423 : BitVec 32 := Scalar.subi v422 c0_i32_130
  let c1_i32_131 : BitVec 32 := 1#32
  let v425 : BitVec 32 := Scalar.divsi v423 c1_i32_131
  let v426 : BitVec 32 := Scalar.muli v425 c1_i32_131
  let v427 : BitVec 32 := Scalar.addi c0_i32_130 v426
  let c1_i32_133 : BitVec 32 := 1#32
  let arg10 : BitVec 32 := Scf.iv v427 c1_i32_133 k0_t2
  let c512_i32_165 : BitVec 32 := 512#32
  let v483 : BitVec 32 := Scalar.muli arg10 c512_i32_165
  let v484 : BitVec 32 := v483
  let v485 : Index := Scalar.indexCast v484
  let c0_167 : Index := 0#32
  ![0, v485.toNat, 0]
def k0_off4 (i : grid0.Coords) (k0_t2 : Fin (k0_t2_loop i).trips) : Fin 3 → Nat :=
  let c0_179 : Index := 0#32
  let c0_180 : Index := 0#32
  let c0_i32_130 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c512_i32_119 : BitVec 32 := 512#32
  let v403 : BitVec 32 := Scalar.addi v1 c512_i32_119
  let c1_i32_120 : BitVec 32 := 1#32
  let v404 : BitVec 32 := Scalar.subi v403 c1_i32_120
  let c0_i32_121 : BitVec 32 := 0#32
  let v405 : BitVec 32 := Scalar.subi v404 c0_i32_121
  let c0_i32_123 : BitVec 32 := 0#32
  let v407 : BitVec 1 := Scalar.cmpi .sgt v405 c0_i32_123
  let v408 : BitVec 32 := Scalar.extui v407
  let c0_i32_124 : BitVec 32 := 0#32
  let v409 : BitVec 1 := Scalar.cmpi .slt v405 c0_i32_124
  let v410 : BitVec 32 := Scalar.extui v409
  let v411 : BitVec 32 := Scalar.subi v408 v410
  let c512_i32_122 : BitVec 32 := 512#32
  let c0_i32_125 : BitVec 32 := 0#32
  let v412 : BitVec 1 := Scalar.cmpi .sgt c512_i32_122 c0_i32_125
  let v413 : BitVec 32 := Scalar.extui v412
  let c0_i32_126 : BitVec 32 := 0#32
  let v414 : BitVec 1 := Scalar.cmpi .slt c512_i32_122 c0_i32_126
  let v415 : BitVec 32 := Scalar.extui v414
  let v416 : BitVec 32 := Scalar.subi v413 v415
  let v417 : BitVec 1 := Scalar.cmpi .ne v411 v416
  let v418 : BitVec 32 := Scalar.remsi v405 c512_i32_122
  let c0_i32_127 : BitVec 32 := 0#32
  let v419 : BitVec 1 := Scalar.cmpi .ne v418 c0_i32_127
  let v420 : BitVec 1 := Scalar.andi v417 v419
  let v406 : BitVec 32 := Scalar.divsi v405 c512_i32_122
  let c1_i32_128 : BitVec 32 := 1#32
  let v421 : BitVec 32 := Scalar.subi v406 c1_i32_128
  let v422 : BitVec 32 := Scalar.select v420 v421 v406
  let v423 : BitVec 32 := Scalar.subi v422 c0_i32_130
  let c1_i32_131 : BitVec 32 := 1#32
  let v425 : BitVec 32 := Scalar.divsi v423 c1_i32_131
  let v426 : BitVec 32 := Scalar.muli v425 c1_i32_131
  let v427 : BitVec 32 := Scalar.addi c0_i32_130 v426
  let c1_i32_133 : BitVec 32 := 1#32
  let arg10 : BitVec 32 := Scf.iv v427 c1_i32_133 k0_t2
  let c512_i32_165 : BitVec 32 := 512#32
  let v483 : BitVec 32 := Scalar.muli arg10 c512_i32_165
  let v484 : BitVec 32 := v483
  let v502 : Index := Scalar.indexCast v484
  ![0, 0, v502.toNat]
def k0_mult3 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c512_i32_119 : BitVec 32 := 512#32
  let v403 : BitVec 32 := Scalar.addi v1 c512_i32_119
  let c1_i32_120 : BitVec 32 := 1#32
  let v404 : BitVec 32 := Scalar.subi v403 c1_i32_120
  let c0_i32_121 : BitVec 32 := 0#32
  let v405 : BitVec 32 := Scalar.subi v404 c0_i32_121
  let c0_i32_123 : BitVec 32 := 0#32
  let v407 : BitVec 1 := Scalar.cmpi .sgt v405 c0_i32_123
  let v408 : BitVec 32 := Scalar.extui v407
  let c0_i32_124 : BitVec 32 := 0#32
  let v409 : BitVec 1 := Scalar.cmpi .slt v405 c0_i32_124
  let v410 : BitVec 32 := Scalar.extui v409
  let v411 : BitVec 32 := Scalar.subi v408 v410
  let c512_i32_122 : BitVec 32 := 512#32
  let c0_i32_125 : BitVec 32 := 0#32
  let v412 : BitVec 1 := Scalar.cmpi .sgt c512_i32_122 c0_i32_125
  let v413 : BitVec 32 := Scalar.extui v412
  let c0_i32_126 : BitVec 32 := 0#32
  let v414 : BitVec 1 := Scalar.cmpi .slt c512_i32_122 c0_i32_126
  let v415 : BitVec 32 := Scalar.extui v414
  let v416 : BitVec 32 := Scalar.subi v413 v415
  let v417 : BitVec 1 := Scalar.cmpi .ne v411 v416
  let v418 : BitVec 32 := Scalar.remsi v405 c512_i32_122
  let c0_i32_127 : BitVec 32 := 0#32
  let v419 : BitVec 1 := Scalar.cmpi .ne v418 c0_i32_127
  let v420 : BitVec 1 := Scalar.andi v417 v419
  let v406 : BitVec 32 := Scalar.divsi v405 c512_i32_122
  let c1_i32_128 : BitVec 32 := 1#32
  let v421 : BitVec 32 := Scalar.subi v406 c1_i32_128
  let v422 : BitVec 32 := Scalar.select v420 v421 v406
  let c512_i32_134 : BitVec 32 := 512#32
  let v428 : BitVec 32 := Scalar.muli v422 c512_i32_134
  v428
def k0_off5 (i : grid0.Coords) : Fin 3 → Nat :=
  let c0_135 : Index := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c512_i32_119 : BitVec 32 := 512#32
  let v403 : BitVec 32 := Scalar.addi v1 c512_i32_119
  let c1_i32_120 : BitVec 32 := 1#32
  let v404 : BitVec 32 := Scalar.subi v403 c1_i32_120
  let c0_i32_121 : BitVec 32 := 0#32
  let v405 : BitVec 32 := Scalar.subi v404 c0_i32_121
  let c0_i32_123 : BitVec 32 := 0#32
  let v407 : BitVec 1 := Scalar.cmpi .sgt v405 c0_i32_123
  let v408 : BitVec 32 := Scalar.extui v407
  let c0_i32_124 : BitVec 32 := 0#32
  let v409 : BitVec 1 := Scalar.cmpi .slt v405 c0_i32_124
  let v410 : BitVec 32 := Scalar.extui v409
  let v411 : BitVec 32 := Scalar.subi v408 v410
  let c512_i32_122 : BitVec 32 := 512#32
  let c0_i32_125 : BitVec 32 := 0#32
  let v412 : BitVec 1 := Scalar.cmpi .sgt c512_i32_122 c0_i32_125
  let v413 : BitVec 32 := Scalar.extui v412
  let c0_i32_126 : BitVec 32 := 0#32
  let v414 : BitVec 1 := Scalar.cmpi .slt c512_i32_122 c0_i32_126
  let v415 : BitVec 32 := Scalar.extui v414
  let v416 : BitVec 32 := Scalar.subi v413 v415
  let v417 : BitVec 1 := Scalar.cmpi .ne v411 v416
  let v418 : BitVec 32 := Scalar.remsi v405 c512_i32_122
  let c0_i32_127 : BitVec 32 := 0#32
  let v419 : BitVec 1 := Scalar.cmpi .ne v418 c0_i32_127
  let v420 : BitVec 1 := Scalar.andi v417 v419
  let v406 : BitVec 32 := Scalar.divsi v405 c512_i32_122
  let c1_i32_128 : BitVec 32 := 1#32
  let v421 : BitVec 32 := Scalar.subi v406 c1_i32_128
  let v422 : BitVec 32 := Scalar.select v420 v421 v406
  let c512_i32_134 : BitVec 32 := 512#32
  let v428 : BitVec 32 := Scalar.muli v422 c512_i32_134
  let v429 : BitVec 32 := v428
  let v430 : Index := Scalar.indexCast v429
  let c0_136 : Index := 0#32
  ![0, v430.toNat, 0]
def k0_off6 (i : grid0.Coords) : Fin 3 → Nat :=
  let c0_150 : Index := 0#32
  let c0_151 : Index := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let c512_i32_119 : BitVec 32 := 512#32
  let v403 : BitVec 32 := Scalar.addi v1 c512_i32_119
  let c1_i32_120 : BitVec 32 := 1#32
  let v404 : BitVec 32 := Scalar.subi v403 c1_i32_120
  let c0_i32_121 : BitVec 32 := 0#32
  let v405 : BitVec 32 := Scalar.subi v404 c0_i32_121
  let c0_i32_123 : BitVec 32 := 0#32
  let v407 : BitVec 1 := Scalar.cmpi .sgt v405 c0_i32_123
  let v408 : BitVec 32 := Scalar.extui v407
  let c0_i32_124 : BitVec 32 := 0#32
  let v409 : BitVec 1 := Scalar.cmpi .slt v405 c0_i32_124
  let v410 : BitVec 32 := Scalar.extui v409
  let v411 : BitVec 32 := Scalar.subi v408 v410
  let c512_i32_122 : BitVec 32 := 512#32
  let c0_i32_125 : BitVec 32 := 0#32
  let v412 : BitVec 1 := Scalar.cmpi .sgt c512_i32_122 c0_i32_125
  let v413 : BitVec 32 := Scalar.extui v412
  let c0_i32_126 : BitVec 32 := 0#32
  let v414 : BitVec 1 := Scalar.cmpi .slt c512_i32_122 c0_i32_126
  let v415 : BitVec 32 := Scalar.extui v414
  let v416 : BitVec 32 := Scalar.subi v413 v415
  let v417 : BitVec 1 := Scalar.cmpi .ne v411 v416
  let v418 : BitVec 32 := Scalar.remsi v405 c512_i32_122
  let c0_i32_127 : BitVec 32 := 0#32
  let v419 : BitVec 1 := Scalar.cmpi .ne v418 c0_i32_127
  let v420 : BitVec 1 := Scalar.andi v417 v419
  let v406 : BitVec 32 := Scalar.divsi v405 c512_i32_122
  let c1_i32_128 : BitVec 32 := 1#32
  let v421 : BitVec 32 := Scalar.subi v406 c1_i32_128
  let v422 : BitVec 32 := Scalar.select v420 v421 v406
  let c512_i32_134 : BitVec 32 := 512#32
  let v428 : BitVec 32 := Scalar.muli v422 c512_i32_134
  let v429 : BitVec 32 := v428
  let v456 : Index := Scalar.indexCast v429
  ![0, 0, v456.toNat]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : BitVec 32 := Scalar.addi v17 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : BitVec 32 := Scalar.addi v17 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S4x4096x2x4x64 : Shape := ⟨5, ![4, 4096, 2, 4, 64]⟩
abbrev S4x4x16x64 : Shape := ⟨4, ![4, 4, 16, 64]⟩
abbrev S_ : Shape := ⟨0, ![]⟩
abbrev S4x4096x4x4x64 : Shape := ⟨5, ![4, 4096, 4, 4, 64]⟩
abbrev S4x4x4x4096x64 : Shape := ⟨5, ![4, 4, 4, 4096, 64]⟩
abbrev S4096 : Shape := ⟨1, ![4096]⟩
abbrev S4096x1 : Shape := ⟨2, ![4096, 1]⟩
abbrev S16 : Shape := ⟨1, ![16]⟩
abbrev S4x4x4x4096x16 : Shape := ⟨5, ![4, 4, 4, 4096, 16]⟩
abbrev S1x16 : Shape := ⟨2, ![1, 16]⟩
abbrev S4096x16 : Shape := ⟨2, ![4096, 16]⟩
abbrev S4x4x4x4096x3 : Shape := ⟨5, ![4, 4, 4, 4096, 3]⟩
abbrev S4x4x4x4096x3x1 : Shape := ⟨6, ![4, 4, 4, 4096, 3, 1]⟩
abbrev S1x1x1x1x1x16 : Shape := ⟨6, ![1, 1, 1, 1, 1, 16]⟩
abbrev S4x4x4x4096x3x16 : Shape := ⟨6, ![4, 4, 4, 4096, 3, 16]⟩
abbrev S1x1x1x4096x16 : Shape := ⟨5, ![1, 1, 1, 4096, 16]⟩
abbrev S4x4x4x4096x16x256 : Shape := ⟨6, ![4, 4, 4, 4096, 16, 256]⟩
abbrev S4x4x4x4096x4096 : Shape := ⟨5, ![4, 4, 4, 4096, 4096]⟩
abbrev S1x4096 : Shape := ⟨2, ![1, 4096]⟩
abbrev S4096x4096 : Shape := ⟨2, ![4096, 4096]⟩
abbrev S1x1x1x4096x4096 : Shape := ⟨5, ![1, 1, 1, 4096, 4096]⟩
abbrev S4x4096x1x4x64 : Shape := ⟨5, ![4, 4096, 1, 4, 64]⟩
abbrev S4x4096x4x64 : Shape := ⟨4, ![4, 4096, 4, 64]⟩
abbrev S4x4x4096x64 : Shape := ⟨4, ![4, 4, 4096, 64]⟩
abbrev S4x4x4x4096 : Shape := ⟨4, ![4, 4, 4, 4096]⟩
abbrev S4x4x4x4096x1 : Shape := ⟨5, ![4, 4, 4, 4096, 1]⟩
abbrev S16384x1024 : Shape := ⟨2, ![16384, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2x4x64, .f32⟩
  | .hbm, ⟨2, _⟩ => ⟨S4x4x16x64, .f32⟩
  | .hbm, ⟨3, _⟩ => ⟨S_, .f32⟩
  | .hbm, ⟨4, _⟩ => ⟨S4x4096x1024, .f32⟩
  | .hbm, ⟨5, _⟩ => ⟨S4x4096x1024, .f32⟩
  | .hbm, ⟨6, _⟩ => ⟨S4x4096x4x4x64, .f32⟩
  | .hbm, ⟨7, _⟩ => ⟨S4x4x4x4096x64, .f32⟩
  | .hbm, ⟨8, _⟩ => ⟨S4096, .i32⟩
  | .hbm, ⟨9, _⟩ => ⟨S4096x1, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S4096x1, .i32⟩
  | .hbm, ⟨20, _⟩ => ⟨S4096x1, .i32⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S4096x1, .i1⟩
  | .hbm, ⟨25, _⟩ => ⟨S_, .i32⟩
  | .hbm, ⟨26, _⟩ => ⟨S4096x1, .i32⟩
  | .hbm, ⟨27, _⟩ => ⟨S4096x1, .i32⟩
  | .hbm, ⟨28, _⟩ => ⟨S4096x1, .i32⟩
  | .hbm, ⟨29, _⟩ => ⟨S4x4x4x4096x16, .f32⟩
  | .hbm, ⟨30, _⟩ => ⟨S1x16, .i32⟩
  | .hbm, ⟨31, _⟩ => ⟨S4096x16, .i32⟩
  | .hbm, ⟨32, _⟩ => ⟨S4096x16, .i32⟩
  | .hbm, ⟨33, _⟩ => ⟨S4096x16, .i1⟩
  | .hbm, ⟨34, _⟩ => ⟨S_, .f32⟩
  | .hbm, ⟨35, _⟩ => ⟨S_, .f32⟩
  | .hbm, ⟨36, _⟩ => ⟨S4x4x4x4096x16, .i1⟩
  | .hbm, ⟨37, _⟩ => ⟨S4x4x4x4096x16, .f32⟩
  | .hbm, ⟨38, _⟩ => ⟨S4x4x4x4096x16, .f32⟩
  | .hbm, ⟨39, _⟩ => ⟨S4x4x4x4096x3, .f32⟩
  | .hbm, ⟨40, _⟩ => ⟨S4x4x4x4096x3, .i32⟩
  | .hbm, ⟨41, _⟩ => ⟨S4x4x4x4096x3x1, .i32⟩
  | .hbm, ⟨42, _⟩ => ⟨S1x1x1x1x1x16, .i32⟩
  | .hbm, ⟨43, _⟩ => ⟨S4x4x4x4096x3x16, .i32⟩
  | .hbm, ⟨44, _⟩ => ⟨S4x4x4x4096x3x16, .i32⟩
  | .hbm, ⟨45, _⟩ => ⟨S4x4x4x4096x3x16, .i1⟩
  | .hbm, ⟨46, _⟩ => ⟨S4x4x4x4096x3, .f32⟩
  | .hbm, ⟨47, _⟩ => ⟨S_, .f32⟩
  | .hbm, ⟨48, _⟩ => ⟨S4x4x4x4096x3, .f32⟩
  | .hbm, ⟨49, _⟩ => ⟨S4x4x4x4096x3, .i1⟩
  | .hbm, ⟨50, _⟩ => ⟨S4x4x4x4096x3x1, .i1⟩
  | .hbm, ⟨51, _⟩ => ⟨S4x4x4x4096x3x16, .i1⟩
  | .hbm, ⟨52, _⟩ => ⟨S4x4x4x4096x3x16, .i1⟩
  | .hbm, ⟨53, _⟩ => ⟨S_, .i1⟩
  | .hbm, ⟨54, _⟩ => ⟨S4x4x4x4096x16, .i1⟩
  | .hbm, ⟨55, _⟩ => ⟨S1x16, .i32⟩
  | .hbm, ⟨56, _⟩ => ⟨S4096x16, .i32⟩
  | .hbm, ⟨57, _⟩ => ⟨S4096x16, .i32⟩
  | .hbm, ⟨58, _⟩ => ⟨S4096x16, .i1⟩
  | .hbm, ⟨59, _⟩ => ⟨S1x1x1x4096x16, .i1⟩
  | .hbm, ⟨60, _⟩ => ⟨S4x4x4x4096x16, .i1⟩
  | .hbm, ⟨61, _⟩ => ⟨S4x4x4x4096x16, .i1⟩
  | .hbm, ⟨62, _⟩ => ⟨S4096, .i32⟩
  | .hbm, ⟨63, _⟩ => ⟨S4x4x4x4096x16x256, .i1⟩
  | .hbm, ⟨64, _⟩ => ⟨S4x4x4x4096x4096, .i1⟩
  | .hbm, ⟨65, _⟩ => ⟨S1x4096, .i32⟩
  | .hbm, ⟨66, _⟩ => ⟨S4096x4096, .i32⟩
  | .hbm, ⟨67, _⟩ => ⟨S4096x4096, .i32⟩
  | .hbm, ⟨68, _⟩ => ⟨S4096x4096, .i1⟩
  | .hbm, ⟨69, _⟩ => ⟨S1x1x1x4096x4096, .i1⟩
  | .hbm, ⟨70, _⟩ => ⟨S4x4x4x4096x4096, .i1⟩
  | .hbm, ⟨71, _⟩ => ⟨S4x4x4x4096x4096, .i1⟩
  | .hbm, ⟨72, _⟩ => ⟨S4x4096x1x4x64, .f32⟩
  | .hbm, ⟨73, _⟩ => ⟨S4x4096x4x64, .f32⟩
  | .hbm, ⟨74, _⟩ => ⟨S4x4x4096x64, .f32⟩
  | .hbm, ⟨75, _⟩ => ⟨S4x4096x1x4x64, .f32⟩
  | .hbm, ⟨76, _⟩ => ⟨S4x4096x4x64, .f32⟩
  | .hbm, ⟨77, _⟩ => ⟨S4x4x4096x64, .f32⟩
  | .hbm, ⟨78, _⟩ => ⟨S4x4x4x4096x4096, .f32⟩
  | .hbm, ⟨79, _⟩ => ⟨S_, .f32⟩
  | .hbm, ⟨80, _⟩ => ⟨S_, .f32⟩
  | .hbm, ⟨81, _⟩ => ⟨S4x4x4x4096x4096, .f32⟩
  | .hbm, ⟨82, _⟩ => ⟨S4x4x4x4096x4096, .f32⟩
  | .hbm, ⟨83, _⟩ => ⟨S_, .f32⟩
  | .hbm, ⟨84, _⟩ => ⟨S4x4x4x4096, .f32⟩
  | .hbm, ⟨85, _⟩ => ⟨S4x4x4x4096x1, .f32⟩
  | .hbm, ⟨86, _⟩ => ⟨S4x4x4x4096x1, .f32⟩
  | .hbm, ⟨87, _⟩ => ⟨S_, .f32⟩
  | .hbm, ⟨88, _⟩ => ⟨S4x4x4x4096x1, .f32⟩
  | .hbm, ⟨89, _⟩ => ⟨S4x4x4x4096x1, .i1⟩
  | .hbm, ⟨90, _⟩ => ⟨S_, .f32⟩
  | .hbm, ⟨91, _⟩ => ⟨S_, .f32⟩
  | .hbm, ⟨92, _⟩ => ⟨S4x4x4x4096x1, .f32⟩
  | .hbm, ⟨93, _⟩ => ⟨S4x4x4x4096x1, .f32⟩
  | .hbm, ⟨94, _⟩ => ⟨S4x4x4x4096x4096, .f32⟩
  | .hbm, ⟨95, _⟩ => ⟨S4x4x4x4096x4096, .f32⟩
  | .hbm, ⟨96, _⟩ => ⟨S4x4x4x4096x4096, .f32⟩
  | .hbm, ⟨97, _⟩ => ⟨S_, .f32⟩
  | .hbm, ⟨98, _⟩ => ⟨S4x4x4x4096, .f32⟩
  | .hbm, ⟨99, _⟩ => ⟨S4x4x4x4096x1, .f32⟩
  | .hbm, ⟨100, _⟩ => ⟨S_, .f32⟩
  | .hbm, ⟨101, _⟩ => ⟨S4x4x4x4096x1, .f32⟩
  | .hbm, ⟨102, _⟩ => ⟨S4x4x4x4096x1, .f32⟩
  | .hbm, ⟨103, _⟩ => ⟨S4x4x4x4096x4096, .f32⟩
  | .hbm, ⟨104, _⟩ => ⟨S4x4x4x4096x4096, .f32⟩
  | .hbm, ⟨105, _⟩ => ⟨S4x4x4x4096x64, .f32⟩
  | .hbm, ⟨106, _⟩ => ⟨S4x4096x4x4x64, .f32⟩
  | .hbm, ⟨107, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v13 : Ref sig .tc := ⟨.hbm, 38, rfl⟩
abbrev main_values : Ref sig .tc := ⟨.hbm, 39, rfl⟩
abbrev main_indices : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_3 : Ref sig .tc := ⟨.hbm, 79, rfl⟩
abbrev main_call2_v0 : Ref sig .tc := ⟨.hbm, 80, rfl⟩
abbrev main_call2_v1 : Ref sig .tc := ⟨.hbm, 81, rfl⟩
abbrev main_v50 : Ref sig .tc := ⟨.hbm, 82, rfl⟩
abbrev main_cst_4 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_5 : Ref sig .tc := ⟨.hbm, 87, rfl⟩
abbrev main_v54 : Ref sig .tc := ⟨.hbm, 88, rfl⟩
abbrev main_v55 : Ref sig .tc := ⟨.hbm, 89, rfl⟩
abbrev main_cst_6 : Ref sig .tc := ⟨.hbm, 90, rfl⟩
abbrev main_call3_v0 : Ref sig .tc := ⟨.hbm, 91, rfl⟩
abbrev main_call3_v1 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_7 : Ref sig .tc := ⟨.hbm, 97, rfl⟩
abbrev main_v60 : Ref sig .tc := ⟨.hbm, 98, rfl⟩
abbrev main_v61 : Ref sig .tc := ⟨.hbm, 99, rfl⟩
abbrev main_cst_8 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S1024x3096 : Shape := ⟨2, ![1024, 3096]⟩
abbrev S24 : Shape := ⟨1, ![24]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1024x1792 : Shape := ⟨2, ![1024, 1792]⟩
abbrev S1024x512 : Shape := ⟨2, ![1024, 512]⟩
abbrev S1024x768 : Shape := ⟨2, ![1024, 768]⟩
abbrev S1024x24 : Shape := ⟨2, ![1024, 24]⟩
abbrev S1024x128 : Shape := ⟨2, ![1024, 128]⟩
abbrev S128 : Shape := ⟨1, ![128]⟩
abbrev S1x128 : Shape := ⟨2, ![1, 128]⟩
abbrev S16384x1024 : Shape := ⟨2, ![16384, 1024]⟩
abbrev S1x1024 : Shape := ⟨2, ![1, 1024]⟩
abbrev S16384x1792 : Shape := ⟨2, ![16384, 1792]⟩
abbrev S16384x512 : Shape := ⟨2, ![16384, 512]⟩
abbrev S16384x768 : Shape := ⟨2, ![16384, 768]⟩
abbrev S16384x128 : Shape := ⟨2, ![16384, 128]⟩
abbrev S512x1024 : Shape := ⟨2, ![512, 1024]⟩
abbrev S512x128 : Shape := ⟨2, ![512, 128]⟩
abbrev S512x1792 : Shape := ⟨2, ![512, 1792]⟩
abbrev S512x512 : Shape := ⟨2, ![512, 512]⟩
abbrev S512x768 : Shape := ⟨2, ![512, 768]⟩
abbrev S512 : Shape := ⟨1, ![512]⟩
abbrev S512x1 : Shape := ⟨2, ![512, 1]⟩
abbrev S4x4096x1792 : Shape := ⟨3, ![4, 4096, 1792]⟩
abbrev S4x4096x6x2x64 : Shape := ⟨5, ![4, 4096, 6, 2, 64]⟩
abbrev S4x4096x4x2x64 : Shape := ⟨5, ![4, 4096, 4, 2, 64]⟩
abbrev S4x512x2x2x64 : Shape := ⟨5, ![4, 512, 2, 2, 64]⟩
abbrev S4x1x1792 : Shape := ⟨3, ![4, 1, 1792]⟩
abbrev S4x1792 : Shape := ⟨2, ![4, 1792]⟩
abbrev S4x4096x8x64 : Shape := ⟨4, ![4, 4096, 8, 64]⟩
abbrev S16384x24 : Shape := ⟨2, ![16384, 24]⟩
abbrev S4x4096x8x3 : Shape := ⟨4, ![4, 4096, 8, 3]⟩

abbrev nBuf : Space → Nat
  | .hbm => 56
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3096, .f32⟩
  | .hbm, ⟨3, _⟩ => ⟨S24, .f32⟩
  | .hbm, ⟨4, _⟩ => ⟨S4096, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S1x4096x1x32, .f32⟩
  | .hbm, ⟨22, _⟩ => ⟨S1x4096x4x32, .f32⟩
  | .hbm, ⟨23, _⟩ => ⟨S4096x128, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S1x4096x2x64, .f32⟩
  | .hbm, ⟨28, _⟩ => ⟨S4096x128, .f32⟩
  | .hbm, ⟨29, _⟩ => ⟨S1024x3096, .bf16⟩
  | .hbm, ⟨30, _⟩ => ⟨S1024x1792, .bf16⟩
  | .hbm, ⟨31, _⟩ => ⟨S1024x512, .bf16⟩
  | .hbm, ⟨32, _⟩ => ⟨S1024x768, .bf16⟩
  | .hbm, ⟨33, _⟩ => ⟨S1024x24, .bf16⟩
  | .hbm, ⟨34, _⟩ => ⟨S_, .i32⟩
  | .hbm, ⟨35, _⟩ => ⟨S_, .bf16⟩
  | .hbm, ⟨36, _⟩ => ⟨S1024x128, .bf16⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S16384x1024, .f32⟩
  | .hbm, ⟨42, _⟩ => ⟨S1x1024, .f32⟩
  | .hbm, ⟨43, _⟩ => ⟨S16384x1792, .f32⟩
  | .hbm, ⟨44, _⟩ => ⟨S16384x512, .f32⟩
  | .hbm, ⟨45, _⟩ => ⟨S16384x768, .f32⟩
  | .hbm, ⟨46, _⟩ => ⟨S16384x128, .f32⟩
  | .hbm, ⟨47, _⟩ => ⟨S4x4096x1792, .f32⟩
  | .hbm, ⟨48, _⟩ => ⟨S4x4096x6x2x64, .f32⟩
  | .hbm, ⟨49, _⟩ => ⟨S4x4096x4x2x64, .f32⟩
  | .hbm, ⟨50, _⟩ => ⟨S4x512x2x2x64, .f32⟩
  | .hbm, ⟨51, _⟩ => ⟨S4x1x1792, .f32⟩
  | .hbm, ⟨52, _⟩ => ⟨S4x1792, .f32⟩
  | .hbm, ⟨53, _⟩ => ⟨S4x4096x8x64, .f32⟩
  | .hbm, ⟨54, _⟩ => ⟨S16384x24, .f32⟩
  | .hbm, ⟨55, _⟩ => ⟨S4x4096x8x3, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x1792, .bf16⟩
  | .local _ .vmem, ⟨8, _⟩ => ⟨S1024x512, .bf16⟩
  | .local _ .vmem, ⟨9, _⟩ => ⟨S1024x768, .bf16⟩
  | .local _ .vmem, ⟨10, _⟩ => ⟨S1024x128, .bf16⟩
  | .local _ .vmem, ⟨11, _⟩ => ⟨S1x128, .f32⟩
  | .local _ .vmem, ⟨12, _⟩ => ⟨S512x1792, .f32⟩
  | .local _ .vmem, ⟨13, _⟩ => ⟨S512x1792, .f32⟩
  | .local _ .vmem, ⟨14, _⟩ => ⟨S512x512, .f32⟩
  | .local _ .vmem, ⟨15, _⟩ => ⟨S512x512, .f32⟩
  | .local _ .vmem, ⟨16, _⟩ => ⟨S512x768, .f32⟩
  | .local _ .vmem, ⟨17, _⟩ => ⟨S512x768, .f32⟩
  | .local _ .vmem, ⟨18, _⟩ => ⟨S512x128, .f32⟩
  | .local _ .vmem, ⟨19, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_c_1 : Ref sig .tc := ⟨.hbm, 37, rfl⟩
abbrev main_call1_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S4x4096x1024 : Shape := ⟨3, ![4, 4096, 1024]⟩
abbrev S1024 : Shape := ⟨1, ![1024]⟩
abbrev S1024x3096 : Shape := ⟨2, ![1024, 3096]⟩
abbrev S24 : Shape := ⟨1, ![24]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3096 : Shape := ⟨3, ![4, 4096, 3096]⟩
abbrev S4x4096x1792 : Shape := ⟨3, ![4, 4096, 1792]⟩
abbrev S4x4096x512 : Shape := ⟨3, ![4, 4096, 512]⟩
abbrev S4x4096x8x64 : Shape := ⟨4, ![4, 4096, 8, 64]⟩
abbrev S4x4096x768 : Shape := ⟨3, ![4, 4096, 768]⟩
abbrev S4x4096x3x2x2x64 : Shape := ⟨6, ![4, 4096, 3, 2, 2, 64]⟩
abbrev S4x4096x24 : Shape := ⟨3, ![4, 4096, 24]⟩
abbrev S1x1x24 : Shape := ⟨3, ![1, 1, 24]⟩
abbrev S4x4096x8x3 : Shape := ⟨4, ![4, 4096, 8, 3]⟩
abbrev S4x4096x3x1x2x64 : Shape := ⟨6, ![4, 4096, 3, 1, 2, 64]⟩
abbrev S4x4096x3x2x64 : Shape := ⟨5, ![4, 4096, 3, 2, 64]⟩
abbrev S4x4096x6x64 : Shape := ⟨4, ![4, 4096, 6, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x6x32 : Shape := ⟨4, ![4, 4096, 6, 32]⟩
abbrev S4x4096x6x2x64 : Shape := ⟨5, ![4, 4096, 6, 2, 64]⟩
abbrev S4x4096x4x2x64 : Shape := ⟨5, ![4, 4096, 4, 2, 64]⟩
abbrev S4x512x2x2x64 : Shape := ⟨5, ![4, 512, 2, 2, 64]⟩
abbrev S4x1x1792 : Shape := ⟨3, ![4, 1, 1792]⟩
abbrev S4x1792 : Shape := ⟨2, ![4, 1792]⟩
abbrev S4x4096x8x32 : Shape := ⟨4, ![4, 4096, 8, 32]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3096, .f32⟩
  | .hbm, ⟨3, _⟩ => ⟨S24, .f32⟩
  | .hbm, ⟨4, _⟩ => ⟨S4096, .i32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x3096, .f32⟩
  | .hbm, ⟨22, _⟩ => ⟨S4x4096x1792, .f32⟩
  | .hbm, ⟨23, _⟩ => ⟨S4x4096x512, .f32⟩
  | .hbm, ⟨24, _⟩ => ⟨S4x4096x8x64, .f32⟩
  | .hbm, ⟨25, _⟩ => ⟨S4x4096x768, .f32⟩
  | .hbm, ⟨26, _⟩ => ⟨S4x4096x3x2x2x64, .f32⟩
  | .hbm, ⟨27, _⟩ => ⟨S4x4096x24, .f32⟩
  | .hbm, ⟨28, _⟩ => ⟨S1x1x24, .f32⟩
  | .hbm, ⟨29, _⟩ => ⟨S4x4096x24, .f32⟩
  | .hbm, ⟨30, _⟩ => ⟨S4x4096x24, .f32⟩
  | .hbm, ⟨31, _⟩ => ⟨S4x4096x24, .f32⟩
  | .hbm, ⟨32, _⟩ => ⟨S4x4096x24, .f32⟩
  | .hbm, ⟨33, _⟩ => ⟨S_, .f32⟩
  | .hbm, ⟨34, _⟩ => ⟨S4x4096x24, .f32⟩
  | .hbm, ⟨35, _⟩ => ⟨S4x4096x24, .f32⟩
  | .hbm, ⟨36, _⟩ => ⟨S_, .f32⟩
  | .hbm, ⟨37, _⟩ => ⟨S4x4096x24, .f32⟩
  | .hbm, ⟨38, _⟩ => ⟨S4x4096x24, .f32⟩
  | .hbm, ⟨39, _⟩ => ⟨S4x4096x8x3, .f32⟩
  | .hbm, ⟨40, _⟩ => ⟨S4x4096x3x1x2x64, .f32⟩
  | .hbm, ⟨41, _⟩ => ⟨S4x4096x3x2x64, .f32⟩
  | .hbm, ⟨42, _⟩ => ⟨S4x4096x6x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S4096, .f32⟩
  | .hbm, ⟨52, _⟩ => ⟨S4096x1, .f32⟩
  | .hbm, ⟨53, _⟩ => ⟨S1x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S1x4096x1x32, .f32⟩
  | .hbm, ⟨59, _⟩ => ⟨S4096x32, .f32⟩
  | .hbm, ⟨60, _⟩ => ⟨S1x4096x1x32, .f32⟩
  | .hbm, ⟨61, _⟩ => ⟨S4x4096x6x32, .f32⟩
  | .hbm, ⟨62, _⟩ => ⟨S4x4096x6x32, .f32⟩
  | .hbm, ⟨63, _⟩ => ⟨S4x4096x6x32, .f32⟩
  | .hbm, ⟨64, _⟩ => ⟨S4x4096x6x32, .f32⟩
  | .hbm, ⟨65, _⟩ => ⟨S4x4096x6x32, .f32⟩
  | .hbm, ⟨66, _⟩ => ⟨S4x4096x6x32, .f32⟩
  | .hbm, ⟨67, _⟩ => ⟨S4x4096x6x32, .f32⟩
  | .hbm, ⟨68, _⟩ => ⟨S4x4096x6x32, .f32⟩
  | .hbm, ⟨69, _⟩ => ⟨S4x4096x6x32, .f32⟩
  | .hbm, ⟨70, _⟩ => ⟨S4x4096x6x32, .f32⟩
  | .hbm, ⟨71, _⟩ => ⟨S4x4096x6x32, .f32⟩
  | .hbm, ⟨72, _⟩ => ⟨S4x4096x6x32, .f32⟩
  | .hbm, ⟨73, _⟩ => ⟨S4x4096x6x64, .f32⟩
  | .hbm, ⟨74, _⟩ => ⟨S4x4096x3x2x64, .f32⟩
  | .hbm, ⟨75, _⟩ => ⟨S4x4096x3x1x2x64, .f32⟩
  | .hbm, ⟨76, _⟩ => ⟨S4x4096x3x2x64, .f32⟩
  | .hbm, ⟨77, _⟩ => ⟨S4x4096x3x1x2x64, .f32⟩
  | .hbm, ⟨78, _⟩ => ⟨S4x4096x3x1x2x64, .f32⟩
  | .hbm, ⟨79, _⟩ => ⟨S4x4096x3x2x2x64, .f32⟩
  | .hbm, ⟨80, _⟩ => ⟨S4x4096x6x2x64, .f32⟩
  | .hbm, ⟨81, _⟩ => ⟨S4x4096x4x2x64, .f32⟩
  | .hbm, ⟨82, _⟩ => ⟨S4x512x2x2x64, .f32⟩
  | .hbm, ⟨83, _⟩ => ⟨S4x1x1792, .f32⟩
  | .hbm, ⟨84, _⟩ => ⟨S4x1792, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S4096, .f32⟩
  | .hbm, ⟨94, _⟩ => ⟨S4096x1, .f32⟩
  | .hbm, ⟨95, _⟩ => ⟨S1x32, .f32⟩
  | .hbm, ⟨96, _⟩ => ⟨S4096x32, .f32⟩
  | .hbm, ⟨97, _⟩ => ⟨S4096x32, .f32⟩
  | .hbm, ⟨98, _⟩ => ⟨S4096x32, .f32⟩
  | .hbm, ⟨99, _⟩ => ⟨S4096x32, .f32⟩
  | .hbm, ⟨100, _⟩ => ⟨S1x4096x1x32, .f32⟩
  | .hbm, ⟨101, _⟩ => ⟨S4096x32, .f32⟩
  | .hbm, ⟨102, _⟩ => ⟨S1x4096x1x32, .f32⟩
  | .hbm, ⟨103, _⟩ => ⟨S4x4096x8x32, .f32⟩
  | .hbm, ⟨104, _⟩ => ⟨S4x4096x8x32, .f32⟩
  | .hbm, ⟨105, _⟩ => ⟨S4x4096x8x32, .f32⟩
  | .hbm, ⟨106, _⟩ => ⟨S4x4096x8x32, .f32⟩
  | .hbm, ⟨107, _⟩ => ⟨S4x4096x8x32, .f32⟩
  | .hbm, ⟨108, _⟩ => ⟨S4x4096x8x32, .f32⟩
  | .hbm, ⟨109, _⟩ => ⟨S4x4096x8x32, .f32⟩
  | .hbm, ⟨110, _⟩ => ⟨S4x4096x8x32, .f32⟩
  | .hbm, ⟨111, _⟩ => ⟨S4x4096x8x32, .f32⟩
  | .hbm, ⟨112, _⟩ => ⟨S4x4096x8x32, .f32⟩
  | .hbm, ⟨113, _⟩ => ⟨S4x4096x8x32, .f32⟩
  | .hbm, ⟨114, _⟩ => ⟨S4x4096x8x32, .f32⟩
  | .hbm, ⟨115, _⟩ => ⟨S4x4096x8x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_cst_6 : Ref sig .tc := ⟨.hbm, 87, rfl⟩
abbrev main_v76 : Ref sig .tc := ⟨.hbm, 88, rfl⟩
abbrev main_v77 : Ref sig .tc := ⟨.hbm, 89, rfl⟩
abbrev main_cst_7 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S1024x1536 : Shape := ⟨2, ![1024, 1536]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1024x1024 : Shape := ⟨2, ![1024, 1024]⟩
abbrev S1024x512 : Shape := ⟨2, ![1024, 512]⟩
abbrev S16384x1024 : Shape := ⟨2, ![16384, 1024]⟩
abbrev S1x1024 : Shape := ⟨2, ![1, 1024]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S4x4096x16x64 : Shape := ⟨4, ![4, 4096, 16, 64]⟩
abbrev S4x4096x2x4x64 : Shape := ⟨5, ![4, 4096, 2, 4, 64]⟩

abbrev nBuf : Space → Nat
  | .hbm => 37
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1536, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S1x4096x1x32, .f32⟩
  | .hbm, ⟨21, _⟩ => ⟨S1x4096x4x32, .f32⟩
  | .hbm, ⟨22, _⟩ => ⟨S4096x128, .f32⟩
  | .hbm, ⟨23, _⟩ => ⟨S4096x32, .f32⟩
  | .hbm, ⟨24, _⟩ => ⟨S4096x64, .f32⟩
  | .hbm, ⟨25, _⟩ => ⟨S1x4096x1x64, .f32⟩
  | .hbm, ⟨26, _⟩ => ⟨S1x4096x2x64, .f32⟩
  | .hbm, ⟨27, _⟩ => ⟨S4096x128, .f32⟩
  | .hbm, ⟨28, _⟩ => ⟨S1024x1536, .bf16⟩
  | .hbm, ⟨29, _⟩ => ⟨S1024x1024, .bf16⟩
  | .hbm, ⟨30, _⟩ => ⟨S1024x512, .bf16⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x512, .f32⟩
  | .hbm, ⟨35, _⟩ => ⟨S4x4096x16x64, .f32⟩
  | .hbm, ⟨36, _⟩ => ⟨S4x4096x2x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x1024, .bf16⟩
  | .local _ .vmem, ⟨8, _⟩ => ⟨S1024x512, .bf16⟩
  | .local _ .vmem, ⟨9, _⟩ => ⟨S512x1024, .f32⟩
  | .local _ .vmem, ⟨10, _⟩ => ⟨S512x1024, .f32⟩
  | .local _ .vmem, ⟨11, _⟩ => ⟨S512x512, .f32⟩
  | .local _ .vmem, ⟨12, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x4096x1024 : Shape := ⟨3, ![4, 4096, 1024]⟩
abbrev S1024 : Shape := ⟨1, ![1024]⟩
abbrev S1024x1536 : Shape := ⟨2, ![1024, 1536]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1536 : Shape := ⟨3, ![4, 4096, 1536]⟩
abbrev S4x4096x16x64 : Shape := ⟨4, ![4, 4096, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x16x32 : Shape := ⟨4, ![4, 4096, 16, 32]⟩
abbrev S4x4096x512 : Shape := ⟨3, ![4, 4096, 512]⟩
abbrev S4x4096x2x4x64 : Shape := ⟨5, ![4, 4096, 2, 4, 64]⟩
abbrev S4x4096x1x4x64 : Shape := ⟨5, ![4, 4096, 1, 4, 64]⟩
abbrev S4x4096x4x64 : Shape := ⟨4, ![4, 4096, 4, 64]⟩
abbrev S4x4096x4x32 : Shape := ⟨4, ![4, 4096, 4, 32]⟩

abbrev nBuf : Space → Nat
  | .hbm => 94
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1536, .f32⟩
  | .hbm, ⟨3, _⟩ => ⟨S4096, .i32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x1536, .f32⟩
  | .hbm, ⟨21, _⟩ => ⟨S4x4096x1024, .f32⟩
  | .hbm, ⟨22, _⟩ => ⟨S4x4096x16x64, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S4096, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S1x4096x1x32, .f32⟩
  | .hbm, ⟨39, _⟩ => ⟨S4096x32, .f32⟩
  | .hbm, ⟨40, _⟩ => ⟨S1x4096x1x32, .f32⟩
  | .hbm, ⟨41, _⟩ => ⟨S4x4096x16x32, .f32⟩
  | .hbm, ⟨42, _⟩ => ⟨S4x4096x16x32, .f32⟩
  | .hbm, ⟨43, _⟩ => ⟨S4x4096x16x32, .f32⟩
  | .hbm, ⟨44, _⟩ => ⟨S4x4096x16x32, .f32⟩
  | .hbm, ⟨45, _⟩ => ⟨S4x4096x16x32, .f32⟩
  | .hbm, ⟨46, _⟩ => ⟨S4x4096x16x32, .f32⟩
  | .hbm, ⟨47, _⟩ => ⟨S4x4096x16x32, .f32⟩
  | .hbm, ⟨48, _⟩ => ⟨S4x4096x16x32, .f32⟩
  | .hbm, ⟨49, _⟩ => ⟨S4x4096x16x32, .f32⟩
  | .hbm, ⟨50, _⟩ => ⟨S4x4096x16x32, .f32⟩
  | .hbm, ⟨51, _⟩ => ⟨S4x4096x16x32, .f32⟩
  | .hbm, ⟨52, _⟩ => ⟨S4x4096x16x32, .f32⟩
  | .hbm, ⟨53, _⟩ => ⟨S4x4096x16x64, .f32⟩
  | .hbm, ⟨54, _⟩ => ⟨S4x4096x512, .f32⟩
  | .hbm, ⟨55, _⟩ => ⟨S4x4096x2x4x64, .f32⟩
  | .hbm, ⟨56, _⟩ => ⟨S4x4096x1x4x64, .f32⟩
  | .hbm, ⟨57, _⟩ => ⟨S4x4096x4x64, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S4096, .f32⟩
  | .hbm, ⟨67, _⟩ => ⟨S4096x1, .f32⟩
  | .hbm, ⟨68, _⟩ => ⟨S1x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S1x4096x1x32, .f32⟩
  | .hbm, ⟨74, _⟩ => ⟨S4096x32, .f32⟩
  | .hbm, ⟨75, _⟩ => ⟨S1x4096x1x32, .f32⟩
  | .hbm, ⟨76, _⟩ => ⟨S4x4096x4x32, .f32⟩
  | .hbm, ⟨77, _⟩ => ⟨S4x4096x4x32, .f32⟩
  | .hbm, ⟨78, _⟩ => ⟨S4x4096x4x32, .f32⟩
  | .hbm, ⟨79, _⟩ => ⟨S4x4096x4x32, .f32⟩
  | .hbm, ⟨80, _⟩ => ⟨S4x4096x4x32, .f32⟩
  | .hbm, ⟨81, _⟩ => ⟨S4x4096x4x32, .f32⟩
  | .hbm, ⟨82, _⟩ => ⟨S4x4096x4x32, .f32⟩
  | .hbm, ⟨83, _⟩ => ⟨S4x4096x4x32, .f32⟩
  | .hbm, ⟨84, _⟩ => ⟨S4x4096x4x32, .f32⟩
  | .hbm, ⟨85, _⟩ => ⟨S4x4096x4x32, .f32⟩
  | .hbm, ⟨86, _⟩ => ⟨S4x4096x4x32, .f32⟩
  | .hbm, ⟨87, _⟩ => ⟨S4x4096x4x32, .f32⟩
  | .hbm, ⟨88, _⟩ => ⟨S4x4096x4x64, .f32⟩
  | .hbm, ⟨89, _⟩ => ⟨S4x4096x1x4x64, .f32⟩
  | .hbm, ⟨90, _⟩ => ⟨S4x4096x4x64, .f32⟩
  | .hbm, ⟨91, _⟩ => ⟨S4x4096x1x4x64, .f32⟩
  | .hbm, ⟨92, _⟩ => ⟨S4x4096x1x4x64, .f32⟩
  | .hbm, ⟨93, _⟩ => ⟨S4x4096x2x4x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩

abbrev nD : Nat := 1
abbrev τ : Topo := Topo.v7x

variable {F : FTy → Type} [FloatOps F]
-- ==== Proof.Host.lean ====
module

public import proofs.«01_k».proof.Proof.Gen.KernelIdeal.Value
public import Idealize.ShloMosaic.Lib.Pipeline.ValueKit
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.Moba

open Cert.KernelIdeal Cert.KernelIdeal.Gen

variable (m : (ℓ : Loc nD τ sig) → Buf (Elt Ideal) ℓ) (c : Dev nD)

/-- The query operand: the queries, rows numbered over batch and position. -/
theorem v30_at (row : Fin 16384) (h : Fin 1024) :
    (V m c main_v30 : FVec Ideal S16384x1024 .f32) (ix2 row h) = (m ((c : Thread nD τ).loc main_arg0) : FVec Ideal S4x4096x1024 .f32) (ix3 ⟨row.val / 4096, by omega⟩ ⟨row.val % 4096, by omega⟩ h) := by
  unfold V
  after_reads_at

/-- The means operand, its first sixteen rows: the block means. -/
theorem v1_at (bg : Fin 16) (n : Fin 16) (d : Fin 64) :
    (V m c main_v1 : FVec Ideal S16x64x64 .f32) (ix3 bg (n.castLE (by norm_num)) d) = (m ((c : Thread nD τ).loc main_arg2) : FVec Ideal S4x4x16x64 .f32) (ix4 ⟨bg.val / 4, by omega⟩ ⟨bg.val % 4, by omega⟩ n d) := by
  unfold V
  after_reads_at
  exact dif_pos (show ((n.castLE (by norm_num) : Fin 64)).val < 16 from n.isLt)

/-- The key operand, its first 64 columns: the keys. -/
theorem v21_lo (bg : Fin 16) (p : Fin 4096) (d : Fin 64) :
    (V m c main_v21 : FVec Ideal S16x4096x128 .bf16) (ix3 bg p (d.castLE (by norm_num))) = (m ((c : Thread nD τ).loc main_arg1) : FVec Ideal S4x4096x2x4x64 .f32) (ix5 ⟨bg.val / 4, by omega⟩ p 0 ⟨bg.val % 4, by omega⟩ d) := by
  unfold V
  after_reads_at
  exact (dif_pos (show ((d.castLE (by norm_num) : Fin 128)).val < 64 from d.isLt)).trans (dif_pos (show bg.val / 4 < 4 ∧ bg.val % 4 < 4 by omega))

/-- The value operand, its first 64 rows: the values. -/
theorem v29_lo (bg : Fin 16) (p : Fin 4096) (d : Fin 64) :
    (V m c main_v29 : FVec Ideal S16x80x4096 .bf16) (ix3 bg (d.castLE (by norm_num)) p) = (m ((c : Thread nD τ).loc main_arg1) : FVec Ideal S4x4096x2x4x64 .f32) (ix5 ⟨bg.val / 4, by omega⟩ p 1 ⟨bg.val % 4, by omega⟩ d) := by
  unfold V
  after_reads_at
  repeat after_reads_at
  exact (dif_pos (show ((d.castLE (by norm_num) : Fin 80)).val < 64 from d.isLt)).trans (dif_pos (show bg.val / 4 < 4 ∧ bg.val % 4 < 4 ∧ ((d.castLE (by norm_num) : Fin 80)).val < 64 from ⟨by omega, by omega, d.isLt⟩))

/-- The value operand's row 64: ones. -/
theorem v29_one (bg : Fin 16) (p : Fin 4096) :
    (V m c main_v29 : FVec Ideal S16x80x4096 .bf16) (ix3 bg 64 p) = (1 : EReal) := by
  unfold V
  repeat after_reads_at

theorem onehot_word : ∀ p : Fin 4096, (Scalar.select
          (IntOp.andi
            (IntOp.cmpi CmpIPredicate.ne
              (if IntOp.addi (0#32) (BitVec.ofNat 32 p.val) = 0 then (0 : BitVec 32)
              else if (IntOp.addi (0#32) (BitVec.ofNat 32 p.val)).msb = true then -1 else 1)
              (if id (256#32) = 0 then (0 : BitVec 32)
              else if BitVec.msb (id (256#32)) = true then -1 else 1))
            (IntOp.cmpi CmpIPredicate.ne
              (IntOp.remsi ArithUnit.host (IntOp.addi (0#32) (BitVec.ofNat 32 p.val)) (id (256#32)))
              0#32))
          (IntOp.subi
            (IntOp.divsi ArithUnit.host (IntOp.addi (0#32) (BitVec.ofNat 32 p.val)) (id (256#32)))
            1#32)
          (IntOp.divsi ArithUnit.host (IntOp.addi (0#32) (BitVec.ofNat 32 p.val)) (id (256#32)))) = BitVec.ofNat 32 (p.val / 256) := by decide +kernel

theorem block_word : ∀ (a : Fin 16) (j : Fin 64), IntOp.cmpi CmpIPredicate.eq (BitVec.ofNat 32 a.val) (BitVec.ofNat 32 j.val) = BitVec.ofBool (decide (a.val = j.val)) := by decide +kernel

/-- The key operand's further columns: a one at the position's block. -/
theorem v21_hi (bg : Fin 16) (p : Fin 4096) (j : Fin 64) :
    (V m c main_v21 : FVec Ideal S16x4096x128 .bf16) (ix3 bg p ⟨64 + j.val, by omega⟩) = if p.val / 256 = j.val then (1 : EReal) else 0 := by
  unfold V
  after_reads_at
  refine (congrArg (fun w => FloatOps.uitofp (F := Ideal) FTy.bf16 (IntOp.cmpi CmpIPredicate.eq w (BitVec.ofNat 32 j.val))) (onehot_word p)).trans ?_
  have := block_word ⟨p.val / 256, by omega⟩ j
  dsimp only at this ⊢
  rw [this]
  by_cases h : p.val / 256 = j.val
  · rw [if_pos h, decide_eq_true h]
    show (((1#1 : BitVec 1).toNat : ℝ) : EReal) = 1
    simp
  · rw [if_neg h, decide_eq_false h]
    show (((0#1 : BitVec 1).toNat : ℝ) : EReal) = 0
    simp

end Cert.KernelIdeal.Moba
-- ==== Proof.Trip.lean ====
module

public import proofs.«01_k».proof.Proof.Gen.KernelIdeal.Frame.RunA
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.KernelIdeal.Moba

open Cert.KernelIdeal Cert.KernelIdeal.Gen

variable {F : FTy → Type} [FloatOps F] [Named F]

/-- Key tile `n`: rows `512 n … 512 n + 511` of the key operand. -/
def tileK (x : Vec F S1x4096x128 .bf16) (n : ℕ) : Vec F S1x512x128 .bf16 :=
  fun y => x (ix3 0 ⟨(512 * n + (y 1).val) % 4096, Nat.mod_lt _ (by norm_num)⟩ (y 2))

/-- Value tile `n`: columns `512 n … 512 n + 511` of the value operand. -/
def tileV (x : Vec F S1x80x4096 .bf16) (n : ℕ) : Vec F S1x80x512 .bf16 :=
  fun y => x (ix3 0 (y 1) ⟨(512 * n + (y 2).val) % 4096, Nat.mod_lt _ (by norm_num)⟩)

/-- The running maximum and the accumulator after the first `n` key tiles, each tile taken unmasked. -/
def st (x1 : Vec F S1x4096x128 .bf16) (x2 : Vec F S1x80x4096 .bf16) (lhs : Vec F S1x128x2048 .bf16) :
    ℕ → Vec F S1x1x2048 .f32 × Vec F S1x80x2048 .f32
  | 0 => (k0_pay31, k0_pay32)
  | n + 1 => (k0_pay36 (tileK x1 n) lhs (st x1 x2 lhs n).1,
      k0_pay35 (tileK x1 n) lhs (st x1 x2 lhs n).1 (st x1 x2 lhs n).2 (tileV x2 n))

theorem readTileK (v : View sig .tc .vmem S1x4096x128 .bf16) (X : BufTy.Contents (Elt F) v.ty) {off : Fin 3 → ℕ} (n : ℕ)
    (h : off = ![0, 512 * n, 0]) (inb : ∀ a, off a + (![1, 512, 128] : Fin 3 → ℕ) a ≤ S1x4096x128.size a) :
    v.readAt (Elt F) (Rect.unit off ![1, 512, 128] inb).toLoadRect X = tileK (v.read (Elt F) X) n := by
  subst h
  funext y
  refine congrArg (v.read (Elt F) X) (funext fun a => Fin.ext ?_)
  have h1 := inb 1
  have hy0 : (y 0).val < 1 := (y 0).isLt
  have hy : (y 1).val < 512 := (y 1).isLt
  match a with
  | ⟨0, _⟩ => show 0 + 1 * (y 0).val = 0; omega
  | ⟨1, _⟩ =>
    show 512 * n + 1 * (y 1).val = (512 * n + (y 1).val) % 4096
    change 512 * n + 512 ≤ 4096 at h1
    rw [Nat.mod_eq_of_lt (by omega)]; omega
  | ⟨2, _⟩ => show 0 + 1 * (y 2).val = (y 2).val; omega

theorem readTileV (v : View sig .tc .vmem S1x80x4096 .bf16) (X : BufTy.Contents (Elt F) v.ty) {off : Fin 3 → ℕ} (n : ℕ)
    (h : off = ![0, 0, 512 * n]) (inb : ∀ a, off a + (![1, 80, 512] : Fin 3 → ℕ) a ≤ S1x80x4096.size a) :
    v.readAt (Elt F) (Rect.unit off ![1, 80, 512] inb).toLoadRect X = tileV (v.read (Elt F) X) n := by
  subst h
  funext y
  refine congrArg (v.read (Elt F) X) (funext fun a => Fin.ext ?_)
  have h1 := inb 2
  have hy0 : (y 0).val < 1 := (y 0).isLt
  have hy : (y 2).val < 512 := (y 2).isLt
  match a with
  | ⟨0, _⟩ => show 0 + 1 * (y 0).val = 0; omega
  | ⟨1, _⟩ => show 0 + 1 * (y 1).val = (y 1).val; omega
  | ⟨2, _⟩ =>
    show 512 * n + 1 * (y 2).val = (512 * n + (y 2).val) % 4096
    change 512 * n + 512 ≤ 4096 at h1
    rw [Nat.mod_eq_of_lt (by omega)]; omega

theorem trips1 : ∀ i : grid0.Coords, (k0_t1_loop i).trips = (i 1).val := by decide +kernel

theorem trips2 : ∀ i : grid0.Coords, (k0_t2_loop i).trips = 0 := by decide +kernel

theorem off5_eq : ∀ i : grid0.Coords, k0_off5 i = ![0, 512 * (i 1).val, 0] := by decide +kernel

theorem off6_eq : ∀ i : grid0.Coords, k0_off6 i = ![0, 0, 512 * (i 1).val] := by decide +kernel

theorem off_word : ∀ k : Fin 8, (Scalar.indexCast (Scalar.muli (Scf.iv 0#32 1#32 k.val) 512#32) : Index).toNat = 512 * k.val := by decide +kernel

theorem off1_eq (i : grid0.Coords) (k : Fin (k0_t1_loop i).trips) : k0_off1 i k = ![0, 512 * k.val, 0] := by
  have hk : k.val < 8 := lt_of_lt_of_le k.isLt (by rw [trips1]; exact (i 1).isLt.le)
  have h := off_word ⟨k.val, hk⟩
  unfold k0_off1
  dsimp only at h ⊢
  rw [h]

theorem off2_eq (i : grid0.Coords) (k : Fin (k0_t1_loop i).trips) : k0_off2 i k = ![0, 0, 512 * k.val] := by
  have hk : k.val < 8 := lt_of_lt_of_le k.isLt (by rw [trips1]; exact (i 1).isLt.le)
  have h := off_word ⟨k.val, hk⟩
  unfold k0_off2
  dsimp only at h ⊢
  rw [h]

section
variable (𝒱 : Variants) (c : Dev nD) (bd : Option 𝒱.V) (i : grid0.Coords) (arg2 : Memref sig .tc .vmem S512x256 .f32) (harg2 : arg2.IsWhole) (arg3 : Memref sig .tc .vmem S1x4096x128 .bf16) (harg3 : arg3.IsWhole) (arg4 : Memref sig .tc .vmem S1x80x4096 .bf16) (harg4 : arg4.IsWhole) (arg5 : Memref sig .tc .vmem S1x64x64 .f32) (harg5 : arg5.IsWhole) (arg6 : Memref sig .tc .vmem S512x256 .f32) (harg6 : arg6.IsWhole) (arg7 : Memref sig .tc .vmem S1x128x2048 .bf16) (harg7 : arg7.IsWhole) (arg8 : Memref sig .tc .vmem S1x1x2048 .f32) (harg8 : arg8.IsWhole) (arg9 : Memref sig .tc .vmem S1x80x2048 .f32) (harg9 : arg9.IsWhole) (v1 : BitVec 32) (X_arg3 : BufTy.Contents (Elt F) arg3.view.ty) (X_arg4 : BufTy.Contents (Elt F) arg4.view.ty) (X_arg7 : BufTy.Contents (Elt F) arg7.view.ty)

/-- After `n` trips of the first loop the two scratch buffers hold the recursion's state, when they held its start. -/
theorem loop1 (G8 : BufTy.Contents (Elt F) arg8.view.ty) (G9 : BufTy.Contents (Elt F) arg9.view.ty)
    (h8 : arg8.view.read (Elt F) G8 = k0_pay31) (h9 : arg9.view.read (Elt F) G9 = k0_pay32) : ∀ n, n ≤ (k0_t1_loop i).trips →
    arg8.view.read (Elt F) (arg8.view.writes (Elt F) G8 (pb_k0_t1 (F := F) 𝒱 c bd i arg2 harg2 arg3 harg3 arg4 harg4 arg5 harg5 arg6 harg6 arg7 harg7 arg8 harg8 arg9 harg9 v1 X_arg3 X_arg4 X_arg7 G8 G9 n).1)
      = (st (arg3.view.read (Elt F) X_arg3) (arg4.view.read (Elt F) X_arg4) (arg7.view.read (Elt F) X_arg7) n).1
    ∧ arg9.view.read (Elt F) (arg9.view.writes (Elt F) G9 (pb_k0_t1 (F := F) 𝒱 c bd i arg2 harg2 arg3 harg3 arg4 harg4 arg5 harg5 arg6 harg6 arg7 harg7 arg8 harg8 arg9 harg9 v1 X_arg3 X_arg4 X_arg7 G8 G9 n).2)
      = (st (arg3.view.read (Elt F) X_arg3) (arg4.view.read (Elt F) X_arg4) (arg7.view.read (Elt F) X_arg7) n).2
  | 0, _ => ⟨h8, h9⟩
  | n + 1, hn => by
    obtain ⟨e8, e9⟩ := loop1 G8 G9 h8 h9 n (by omega)
    have := pb_k0_t1_succ (F := F) 𝒱 c bd i arg2 harg2 arg3 harg3 arg4 harg4 arg5 harg5 arg6 harg6 arg7 harg7 arg8 harg8 arg9 harg9 v1 X_arg3 X_arg4 X_arg7 G8 G9 ⟨n, hn⟩
    rw [this]
    unfold tripL_k0_t1 trip_k0_t1
    dsimp only [List.cons_append, List.nil_append]
    refine ⟨(View.read_writes_full arg8.view _ inb_S1x1x2048_S1x1x2048_0_0_0 _ _).trans ?_,
      (View.read_writes_full arg9.view _ inb_S1x80x2048_S1x80x2048_0_0_0 _ _).trans ?_⟩
    · rw [View.readAt_full arg7.view, View.readAt_full arg8.view, readTileK _ _ n (off1_eq i ⟨n, hn⟩), e8]
      rfl
    · rw [View.readAt_full arg7.view, View.readAt_full arg8.view, View.readAt_full arg9.view, readTileK _ _ n (off1_eq i ⟨n, hn⟩),
        readTileV _ _ n (off2_eq i ⟨n, hn⟩), e8, e9]
      rfl

end

end Cert.KernelIdeal.Moba
-- ==== Proof.Out.lean ====
module

public import proofs.«01_k».proof.Proof.Trip
public import proofs.«01_k».proof.Proof.Gen.KernelIdeal.Frame

@[expose] public section

set_option maxRecDepth 16384

noncomputable section

open Idealize.ShloMosaic Idealize.ShloMosaic.TcCoe Idealize.SL.Sem

namespace Cert.KernelIdeal.Moba

open Cert.KernelIdeal Cert.KernelIdeal.Gen

variable {F : FTy → Type} [FloatOps F] [Named F]

/-- The sixteen rows of the block means that hold a block. -/
def mean16 (x3 : Vec F S1x64x64 .f32) : Vec F S1x16x64 .f32 := fun y => x3 (ix3 0 ⟨(y 1).val, lt_trans (y 1).isLt (by decide)⟩ (y 2))

/-- The block numbers `0 … 15` as a column. -/
abbrev iota16 : IVec S1x16x1 32 := iota .tc S1x16x1 32 [1] iota_S1x16x1_d1_w32

/-- The masked gate scores of a query tile. -/
def gates (i : grid0.Coords) (x0 : Vec F S512x256 .f32) (x3 : Vec F S1x64x64 .f32) : FVec F S1x16x2048 .f32 :=
  k0_pay7 (k0_pay2 i) (k0_pay5 x0 (mean16 x3))

/-- The bias rows computed from gate scores `v` and block numbers `cur`. -/
def biasOf (cur : IVec S1x1x2048 32) (v v0 : FVec F S1x16x2048 .f32) (v1 : IVec S1x16x2048 1) (v2 : FVec F S1x16x1 .f32) : FVec F S1x64x2048 .bf16 :=
  k0_pay30 iota16 cur v
    (k0_pay27 iota16 v
      (k0_pay24 iota16 v
        (k0_pay21 iota16 v
          (k0_pay19 iota16 v
            (k0_pay16 iota16 v (k0_pay12 iota16 v v0 v1 v2 (Scalar.ofBits .f32 0x00000000#32)) (k0_pay13 v) (k0_pay14 v)
              (Scalar.ofBits .f32 0x3F800000#32) (Scalar.ofBits .f32 0x00000000#32))
            (k0_pay17 v) (k0_pay18 iota16) (Scalar.ofBits .f32 0x3F800000#32)))
        (k0_pay22 v))
      (k0_pay25 v) (k0_pay26 iota16) (Scalar.ofBits .f32 0x00000000#32))
    (k0_pay28 v) (k0_pay29 v) (Scalar.ofBits .f32 0x3F800000#32) (Scalar.ofBits .f32 0x00000000#32)

/-- The bias rows of a query tile. -/
def bias (i : grid0.Coords) (x0 : Vec F S512x256 .f32) (x3 : Vec F S1x64x64 .f32) : FVec F S1x64x2048 .bf16 :=
  biasOf (k0_pay6 (k0_pay2 i)) (gates i x0 x3) (k0_pay9 (k0_pay2 i) (k0_pay5 x0 (mean16 x3)))
    (k0_pay10 (k0_pay2 i) (k0_pay5 x0 (mean16 x3))) (k0_pay11 (F := F))

/-- The left operand of the score products: the scaled queries over the bias rows. -/
def lhsOf (i : grid0.Coords) (x0 : Vec F S512x256 .f32) (x3 : Vec F S1x64x64 .f32) : Vec F S1x128x2048 .bf16 := fun y =>
  if h : (y 1).val < 64 then k0_pay4 x0 (ix3 0 ⟨(y 1).val, h⟩ (y 2))
  else bias i x0 x3 (ix3 0 ⟨(y 1).val - 64, by have : (y 1).val < 128 := (y 1).isLt; omega⟩ (y 2))

/-- What one grid point leaves in its block of the result. -/
def outOf (i : grid0.Coords) (x0 : Vec F S512x256 .f32) (x1 : Vec F S1x4096x128 .bf16) (x2 : Vec F S1x80x4096 .bf16) (x3 : Vec F S1x64x64 .f32) :
    Vec F S512x256 .f32 :=
  k0_pay1 (k0_pay44 (k0_pay2 i) (BitVec.ofNat 32 (512 * (i 1).val)) (k0_pay41 (tileK x1 (i 1).val)) (lhsOf i x0 x3)
    (st x1 x2 (lhsOf i x0 x3) (i 1).val).1 (st x1 x2 (lhsOf i x0 x3) (i 1).val).2 (tileV x2 (i 1).val))

theorem hz2 : (![0, 0] : Fin 2 → ℕ) = fun _ => 0 := funext fun a => by fin_cases a <;> rfl

theorem pay44_congr {a a' : IVec S1x1x2048 32} {b b' : BitVec 32} {k k' : FVec F S1x512x128 .bf16} {l l' : Vec F S1x128x2048 .bf16}
    {m m' : Vec F S1x1x2048 .f32} {n n' : Vec F S1x80x2048 .f32} {v v' : Vec F S1x80x512 .bf16}
    (ha : a = a') (hb : b = b') (hk : k = k') (hl : l = l') (hm : m = m') (hn : n = n') (hv : v = v') :
    k0_pay44 a b k l m n v = k0_pay44 a' b' k' l' m' n' v' := by subst ha hb hk hl hm hn hv; rfl

theorem read_two (v : View sig .tc .vmem S1x128x2048 .bf16) (f : BufTy.Contents (Elt F) v.ty) (inb1 inb0) (p q : FVec F S1x64x2048 .bf16) :
    v.read (Elt F) (v.writes (Elt F) f [⟨Rect.unit ![0, 64, 0] ![1, 64, 2048] inb1, p⟩, ⟨Rect.unit ![0, 0, 0] ![1, 64, 2048] inb0, q⟩])
      = fun y => if h : (y 1).val < 64 then q (ix3 0 ⟨(y 1).val, h⟩ (y 2))
          else p (ix3 0 ⟨(y 1).val - 64, by have : (y 1).val < 128 := (y 1).isLt; omega⟩ (y 2)) := by
  funext y
  have hy0 : (y 0).val < 1 := (y 0).isLt
  have hy1 : (y 1).val < 128 := (y 1).isLt
  have hy2 : (y 2).val < 2048 := (y 2).isLt
  by_cases h : (y 1).val < 64
  · rw [dif_pos h]
    refine (View.read_writes_cons_unit_of_not_mem v f inb1 _ _ y rfl 1 (Or.inl h)).trans ?_
    refine View.read_writes_cons_unit_of_mem v f inb0 _ _ y (ix3 0 ⟨(y 1).val, h⟩ (y 2)) rfl fun a => ?_
    match a with
    | ⟨0, _⟩ => show (y 0).val = 0 + 0; omega
    | ⟨1, _⟩ => show (y 1).val = 0 + (y 1).val; omega
    | ⟨2, _⟩ => show (y 2).val = 0 + (y 2).val; omega
  · rw [dif_neg h]
    refine View.read_writes_cons_unit_of_mem v f inb1 _ _ y (ix3 0 ⟨(y 1).val - 64, by omega⟩ (y 2)) rfl fun a => ?_
    match a with
    | ⟨0, _⟩ => show (y 0).val = 0 + 0; omega
    | ⟨1, _⟩ => show (y 1).val = 64 + ((y 1).val - 64); omega
    | ⟨2, _⟩ => show (y 2).val = 0 + (y 2).val; omega

theorem read_mean (v : View sig .tc .vmem S1x64x64 .f32) (X : BufTy.Contents (Elt F) v.ty) (inb) :
    v.readAt (Elt F) (Rect.unit ![0, 0, 0] ![1, 16, 64] inb).toLoadRect X = mean16 (v.read (Elt F) X) := by
  funext y
  refine congrArg (v.read (Elt F) X) (funext fun a => Fin.ext ?_)
  have hy0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

theorem out_eq (c : Dev nD) (i : grid0.Coords) (arg2 : Memref sig .tc .vmem S512x256 .f32) (harg2 : arg2.IsWhole) (arg3 : Memref sig .tc .vmem S1x4096x128 .bf16) (harg3 : arg3.IsWhole) (arg4 : Memref sig .tc .vmem S1x80x4096 .bf16) (harg4 : arg4.IsWhole) (arg5 : Memref sig .tc .vmem S1x64x64 .f32) (harg5 : arg5.IsWhole) (arg6 : Memref sig .tc .vmem S512x256 .f32) (harg6 : arg6.IsWhole) (arg7 : Memref sig .tc .vmem S1x128x2048 .bf16) (harg7 : arg7.IsWhole) (arg8 : Memref sig .tc .vmem S1x1x2048 .f32) (harg8 : arg8.IsWhole) (arg9 : Memref sig .tc .vmem S1x80x2048 .f32) (harg9 : arg9.IsWhole)
    (x0 : Vec F S512x256 .f32) (x1 : Vec F S1x4096x128 .bf16) (x2 : Vec F S1x80x4096 .bf16) (x3 : Vec F S1x64x64 .f32) :
    out0_A_4 c i arg2 harg2 arg3 harg3 arg4 harg4 arg5 harg5 arg6 harg6 arg7 harg7 arg8 harg8 arg9 harg9 x0 x1 x2 x3 = outOf i x0 x1 x2 x3 := by
  unfold out0_A_4
  rw [View.read_writes_eq_canon _ _ _ (cover0_A_4 c i arg2 harg2 arg3 harg3 arg4 harg4 arg5 harg5 arg6 harg6 arg7 harg7 arg8 harg8 arg9 harg9 x0 x1 x2 x3)]
  unfold kernelRun0_A
  dsimp only
  sl_unfold_words
  refine (View.canon_unit_zero (S := S512x256) hz2 _ _).trans ?_
  unfold outOf
  refine congrArg k0_pay1 ?_
  refine (View.readAt_writes_full arg9.view _ _ _ _ _).trans ?_
  have ex0 : arg2.view.readAt (Elt F) (Rect.unit ![0, 0] S512x256.size inb_S512x256_S512x256_0_0).toLoadRect (harg2.unread x0) = x0 :=
    (View.readAt_full arg2.view _ _).trans (harg2.read_unread _)
  have ex3 : arg5.view.readAt (Elt F) (Rect.unit (s := S1x64x64) ![0, 0, 0] S1x16x64.size inb_S1x64x64_S1x16x64_0_0_0).toLoadRect (harg5.unread x3) = mean16 x3 := by
    refine (read_mean arg5.view _ _).trans ?_
    rw [harg5.read_unread]
  rw [ex0, ex3]
  simp only [View.readCov]
  generalize hX7 : arg7.view.writes (Elt F) arg7.view.junk _ = X7
  have hl : arg7.view.read (Elt F) X7 = lhsOf i x0 x3 := by
    rw [← hX7]
    exact read_two arg7.view _ _ _ _ _
  clear hX7
  have e2 : Scf.trips (k0_t2_loop i).lb (k0_t2_loop i).ub (k0_t2_loop i).st = 0 := trips2 i
  have e1 : Scf.trips (k0_t1_loop i).lb (k0_t1_loop i).ub (k0_t1_loop i).st = (i 1).val := trips1 i
  rw [e2, e1]
  have H := loop1 (F := F) Variants.none c none i arg2 harg2 arg3 harg3 arg4 harg4 arg5 harg5 arg6 harg6 arg7 harg7 arg8 harg8 arg9 harg9 (Scalar.addi (0#32) (Scalar.muli (BitVec.ofNat 32 (i 1).val) 512#32))
    (harg3.unread x1) (harg4.unread x2) X7
    (arg8.view.writes (Elt F) arg8.view.junk [⟨Rect.unit ![0, 0, 0] S1x1x2048.size inb_S1x1x2048_S1x1x2048_0_0_0, k0_pay31⟩])
    (arg9.view.writes (Elt F) arg9.view.junk [⟨Rect.unit ![0, 0, 0] S1x80x2048.size inb_S1x80x2048_S1x80x2048_0_0_0, k0_pay32⟩])
    (View.read_writes_full arg8.view _ inb_S1x1x2048_S1x1x2048_0_0_0 _ _)
    (View.read_writes_full arg9.view _ inb_S1x80x2048_S1x80x2048_0_0_0 _ _) (i 1).val (trips1 i).ge
  rw [harg3.read_unread, harg4.read_unread, hl] at H
  obtain ⟨H8, H9⟩ := H
  refine pay44_congr rfl ?_ ?_ ?_ ?_ ?_ ?_
  · clear * -
    revert i
    decide +kernel
  · refine congrArg k0_pay41 ((readTileK _ _ _ (off5_eq i) _).trans ?_)
    rw [harg3.read_unread]
  · exact (View.readAt_full arg7.view _ _).trans hl
  · refine (View.readAt_full arg8.view _ _).trans ?_
    rw [View.writes_append, View.writes_append, pb_k0_t2.eq_1, View.writes_nil]
    exact H8
  · refine (View.readAt_full arg9.view _ _).trans ?_
    rw [View.writes_append, View.writes_append, pb_k0_t2.eq_1, View.writes_nil]
    exact H9
  · refine (readTileV _ _ _ (off6_eq i) _).trans ?_
    rw [harg4.read_unread]

end Cert.KernelIdeal.Moba
-- ==== Proof.Soft.lean ====
module

public import Idealize.ShloMosaic.Lib.Pointwise
public import Idealize.ShloMosaic.Lib.SortPrefix
public import Idealize.ShloMosaic.Lib.SortFacts

@[expose] public section

set_option maxRecDepth 16384

noncomputable section

open Idealize.ShloMosaic

namespace Moba

/-! ## The softmax over key tiles, over the extended reals -/

theorem exp_nonneg (x : EReal) : 0 ≤ Ideal.exp x := by
  induction x with
  | bot => simp
  | top => simp
  | coe r => simpa using (Real.exp_pos r).le

theorem sub_bot_or (x : EReal) : x - ⊤ = ⊥ := by
  rw [sub_eq_add_neg, EReal.neg_top, EReal.add_bot]

theorem bot_sub (x : EReal) : (⊥ : EReal) - x = ⊥ := by
  rw [sub_eq_add_neg, EReal.bot_add]

/-- A nonnegative real goes into a finite sum of products. -/
theorem coe_mul_sum {ι : Type} (A : Finset ι) (f : ι → EReal) (c : ℝ) (hc : 0 ≤ c) :
    (c : EReal) * ∑ p ∈ A, f p = ∑ p ∈ A, (c : EReal) * f p := by
  classical
  induction A using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- Scores weighted by the exponential of their distance below `M`. -/
def acc {ι : Type} (A : Finset ι) (S V : ι → EReal) (M : EReal) : EReal := ∑ p ∈ A, V p * Ideal.exp (S p - M)

/-- Moving the reference point of the exponentials from `M` up to `M'`. -/
theorem rescale {ι : Type} (A : Finset ι) (S V : ι → EReal) (M M' : EReal) (hS : ∀ p ∈ A, S p ≤ M) (hM : M ≤ M') :
    Ideal.exp (M - M') * acc A S V M = acc A S V M' := by
  unfold acc
  induction M' with
  | top =>
    simp only [sub_bot_or, Ideal.exp_bot, zero_mul, mul_zero, Finset.sum_const_zero]
  | bot =>
    have : M = ⊥ := le_bot_iff.mp hM
    subst this
    rw [bot_sub, Ideal.exp_bot, zero_mul, eq_comm]
    refine Finset.sum_eq_zero fun p hp => ?_
    rw [le_bot_iff.mp (hS p hp), bot_sub, Ideal.exp_bot, mul_zero]
  | coe m' =>
    induction M with
    | top => exact absurd hM (by simp)
    | bot =>
      rw [bot_sub, Ideal.exp_bot, zero_mul, eq_comm]
      refine Finset.sum_eq_zero fun p hp => ?_
      rw [le_bot_iff.mp (hS p hp), bot_sub, Ideal.exp_bot, mul_zero]
    | coe m =>
      rw [← EReal.coe_sub, Ideal.exp_coe, coe_mul_sum _ _ _ (Real.exp_pos _).le]
      refine Finset.sum_congr rfl fun p hp => ?_
      have hp' := hS p hp
      induction hs : S p with
      | top => rw [hs] at hp'; exact absurd hp' (by simp)
      | bot => simp only [bot_sub, Ideal.exp_bot, mul_zero]
      | coe s =>
        rw [← EReal.coe_sub, ← EReal.coe_sub, Ideal.exp_coe, Ideal.exp_coe, mul_left_comm, ← EReal.coe_mul, ← Real.exp_add,
          show m - m' + (s - m) = s - m' by ring]

/-- The state after a further tile `B`. -/
theorem acc_step {ι : Type} [DecidableEq ι] (A B : Finset ι) (hd : Disjoint A B) (S V : ι → EReal) :
    Ideal.exp (A.sup S - max (A.sup S) (B.sup S)) * acc A S V (A.sup S) + acc B S V (max (A.sup S) (B.sup S))
      = acc (A ∪ B) S V ((A ∪ B).sup S) := by
  rw [rescale A S V (A.sup S) _ (fun p hp => Finset.le_sup hp) (le_max_left _ _), Finset.sup_union]
  unfold acc
  rw [Finset.sum_union hd]

theorem div_pos_coe {ε : ℝ} (hε : 0 < ε) (x : EReal) : Ideal.div x (ε : EReal) = x * ((1 / ε : ℝ) : EReal) :=
  Ideal.div_coe hε.ne' x

/-- A finite sum of nonnegative reals is a nonnegative real. -/
theorem sum_real {ι : Type} (A : Finset ι) (f : ι → EReal) (h : ∀ p ∈ A, ∃ r : ℝ, 0 ≤ r ∧ f p = r) :
    ∃ r : ℝ, 0 ≤ r ∧ ∑ p ∈ A, f p = r := by
  classical
  induction A using Finset.induction_on with
  | empty => exact ⟨0, le_rfl, by simp⟩
  | insert a s ha ih =>
    obtain ⟨x, hx, ex⟩ := h a (Finset.mem_insert_self _ _)
    obtain ⟨y, hy, ey⟩ := ih fun p hp => h p (Finset.mem_insert_of_mem hp)
    exact ⟨x + y, add_nonneg hx hy, by rw [Finset.sum_insert ha, ex, ey, EReal.coe_add]⟩

open Classical in
/-- The weighted sum divided by the sum of the weights is the sum of the quotients, whatever the scores: with the
    exponentials' reference point at the greatest score on the left, at 0 on the right where that is infinite. -/
theorem softmax_eq {ι : Type} [Fintype ι] (S V : ι → EReal) (ε : ℝ) (hε : 0 < ε) (m0 : EReal)
    (h0 : m0 = if Finset.univ.sup S = ⊤ ∨ Finset.univ.sup S = ⊥ then 0 else Finset.univ.sup S) :
    Ideal.div (acc Finset.univ S V (Finset.univ.sup S)) (max (acc Finset.univ S (fun _ => 1) (Finset.univ.sup S)) (ε : EReal))
      = ∑ p, Ideal.div (Ideal.exp (S p - m0)) (max (∑ p, Ideal.exp (S p - m0)) (ε : EReal)) * V p := by
  have hle : ∀ p, S p ≤ Finset.univ.sup S := fun p => Finset.le_sup (Finset.mem_univ p)
  generalize hM : Finset.univ.sup S = M at *
  unfold acc
  simp only [one_mul]
  induction M with
  | bot =>
    have hS : ∀ p, S p = ⊥ := fun p => le_bot_iff.mp (hle p)
    simp only [hS, bot_sub, Ideal.exp_bot, mul_zero, Finset.sum_const_zero]
    rw [max_eq_right (by exact_mod_cast hε.le), div_pos_coe hε, zero_mul]
    simp
  | top =>
    rw [if_pos (Or.inl rfl)] at h0
    subst h0
    simp only [sub_bot_or, Ideal.exp_bot, mul_zero, Finset.sum_const_zero]
    rw [max_eq_right (by exact_mod_cast hε.le), div_pos_coe hε, zero_mul]
    have hne : (Finset.univ : Finset ι).Nonempty := by
      rw [Finset.nonempty_iff_ne_empty]; intro h; rw [h, Finset.sup_empty] at hM; exact absurd hM (by simp)
    obtain ⟨q, -, hq⟩ := Finset.exists_mem_eq_sup _ hne S
    have hsum : ∑ p, Ideal.exp (S p - 0) = ⊤ := by
      refine top_le_iff.mp ?_
      calc (⊤ : EReal) = Ideal.exp (S q - 0) := by rw [sub_zero, ← hq, hM, Ideal.exp_top]
        _ ≤ _ := Finset.single_le_sum (f := fun p => Ideal.exp (S p - 0)) (fun p _ => exp_nonneg _) (Finset.mem_univ q)
    rw [hsum, max_eq_left le_top, eq_comm]
    refine Finset.sum_eq_zero fun p _ => ?_
    rw [Ideal.div, if_neg (by simp), EReal.inv_top, mul_zero, zero_mul]
  | coe m =>
    rw [if_neg (by simp)] at h0
    subst h0
    obtain ⟨L, hL, eL⟩ := sum_real Finset.univ (fun p => Ideal.exp (S p - (m : EReal))) fun p _ => by
      have := hle p
      induction hs : S p with
      | top => rw [hs] at this; exact absurd this (by simp)
      | bot => exact ⟨0, le_rfl, by rw [bot_sub, Ideal.exp_bot]; rfl⟩
      | coe s => exact ⟨Real.exp (s - m), (Real.exp_pos _).le, by rw [← EReal.coe_sub, Ideal.exp_coe]⟩
    have hLε : 0 < max L ε := lt_of_lt_of_le hε (le_max_right _ _)
    have : max (∑ p, Ideal.exp (S p - (m : EReal))) (ε : EReal) = ((max L ε : ℝ) : EReal) := by
      rw [eL]; exact (Monotone.map_max EReal.coe_strictMono.monotone).symm
    rw [this, div_pos_coe hLε, mul_comm, coe_mul_sum _ _ _ (by positivity)]
    refine Finset.sum_congr rfl fun p _ => ?_
    rw [div_pos_coe hLε, mul_comm (V p), ← mul_assoc, mul_comm _ (Ideal.exp _)]

/-! ## The three greatest of the gate scores -/

/-- The stable sort by "greater" is the sort by "greater, or equal and at the lower position". -/
theorem stableSort_eq {ι : Type} (B R : ι → ι → Bool) : ∀ l : List ι, l.Pairwise (fun a b => B b a = R b a) → stableSort B l = stableSort R l
  | [], _ => rfl
  | a :: l, h => by
    rw [List.pairwise_cons] at h
    unfold stableSort
    rw [stableSort_eq B R l h.2]
    exact insertBefore_congr B R a _ fun b hb => h.1 b ((perm_stableSort R l).mem_iff.mp hb)

/-- Position `k`'s score comes before position `k'`'s: it is greater, or equal and at the lower position. -/
def bef {n : ℕ} (g : Fin n → EReal) : Fin n → Fin n → Bool := fun k k' => decide (g k' < g k) || (decide (g k = g k') && decide (k < k'))

theorem bef_total {n : ℕ} (g : Fin n → EReal) : StrictTotalBefore (bef g) :=
  StrictTotalBefore.of_key_then_position (fun a b : EReal => decide (b < a)) g (fun a => by simp)
    (fun a b c h1 h2 => by simp only [decide_eq_true_eq] at *; exact lt_trans h2 h1)
    (fun a b => by simp only [decide_eq_true_eq]; rcases lt_trichotomy a b with h | h | h <;> tauto)

theorem sortedFrom_gt {n : ℕ} (g : Fin n → EReal) : sortedFrom (fun k k' => decide (g k' < g k)) = sortedFrom (bef g) := by
  have : sortPositions n (fun k k' => decide (g k' < g k)) = sortPositions n (bef g) := by
    refine stableSort_eq _ _ _ ?_
    refine (List.pairwise_lt_finRange n).imp fun {a b} h => ?_
    unfold bef
    have : ¬ b < a := not_lt.mpr h.le
    simp [this]
  funext k
  unfold sortedFrom
  rw [List.get_of_eq this]
  rfl

/-- How many scores come before position `b`'s. -/
def rank {n : ℕ} (g : Fin n → EReal) (b : Fin n) : ℕ := (Finset.univ.filter fun j => bef g j b = true).card

theorem rank_sorted {n : ℕ} (g : Fin n → EReal) (i : Fin n) : rank g (sortedFrom (bef g) i) = i.val := by
  have ht := bef_total g
  have hlt : ∀ a b : Fin n, a < b → bef g (sortedFrom (bef g) a) (sortedFrom (bef g) b) = true := fun a b h => by
    have h1 := sortedFrom_noInversion (bef g) (bef g) (fun a b h => ht.asymm a b h) (fun _ _ h => h) ht.negTrans a b h
    rcases ht.total (sortedFrom (bef g) a) (sortedFrom (bef g) b) (fun e => absurd (sortedFrom_injective _ e) h.ne) with h2 | h2
    · exact h2
    · rw [h1] at h2; exact absurd h2 (by decide)
  unfold rank
  have : (Finset.univ.filter fun j => bef g j (sortedFrom (bef g) i) = true) = (Finset.univ.filter fun j : Fin n => j < i).image (sortedFrom (bef g)) := by
    ext j
    simp only [Finset.mem_filter, Finset.mem_univ, true_and, Finset.mem_image]
    constructor
    · intro hj
      obtain ⟨k, rfl⟩ := sortedFrom_surjective (bef g) j
      refine ⟨k, ?_, rfl⟩
      by_contra hk
      rcases lt_or_eq_of_le (not_lt.mp hk) with h | h
      · rw [ht.asymm _ _ (hlt i k h)] at hj; exact absurd hj (by decide)
      · subst h; rw [ht.irrefl] at hj; exact absurd hj (by decide)
    · rintro ⟨k, hk, rfl⟩
      exact hlt k i hk
  rw [this, Finset.card_image_of_injective _ (sortedFrom_injective _)]
  have : (Finset.univ.filter fun j : Fin n => j < i) = Finset.Iio i := by ext; simp
  rw [this, Fin.card_Iio]

/-- A position is the source of one of the first `k` outputs exactly when fewer than `k` scores come before its own. -/
theorem exists_sorted_iff {n k : ℕ} (hk : k ≤ n) (g : Fin n → EReal) (b : Fin n) :
    (∃ i : Fin k, sortedFrom (fun k k' => decide (g k' < g k)) (i.castLE hk) = b) ↔ rank g b < k := by
  rw [sortedFrom_gt]
  constructor
  · rintro ⟨i, rfl⟩
    rw [rank_sorted]; exact i.isLt
  · intro h
    obtain ⟨j, rfl⟩ := sortedFrom_surjective (bef g) b
    rw [rank_sorted] at h
    exact ⟨⟨j.val, h⟩, rfl⟩

/-- A count as a sum of ones. -/
theorem rank_eq_sum {n : ℕ} (g : Fin n → EReal) (b : Fin n) :
    rank g b = ∑ j, ((if g b < g j then 1 else 0) + (if g j = g b then (if j < b then 1 else 0) else 0)) := by
  unfold rank
  rw [Finset.card_filter]
  refine Finset.sum_congr rfl fun j _ => ?_
  unfold bef
  by_cases h1 : g b < g j
  · have : g j ≠ g b := h1.ne'
    simp [h1, this]
  · by_cases h2 : g j = g b
    · by_cases h3 : j < b <;> simp [h2, h3]
    · simp [h1, h2]

end Moba
-- ==== Proof.Reads.lean ====
module

public import proofs.«01_k».proof.Proof.Out
public import proofs.«01_k».proof.Proof.Soft

@[expose] public section

set_option maxRecDepth 16384

noncomputable section

open Idealize.ShloMosaic Idealize.ShloMosaic.TcCoe Idealize.SL.Sem

namespace Cert.KernelIdeal.Moba

open Cert.KernelIdeal Cert.KernelIdeal.Gen

theorem ofBits_neg_inf : Ideal.ofBits .f32 0xFF800000#32 = ⊥ := by simp [Ideal.ofBits, Ideal.ieee]

/-- The scaled queries of a tile, one column per pair of head and position. -/
theorem pay3_at (x0 : Vec Ideal S512x256 .f32) (d : Fin 64) (col : Fin 2048) :
    k0_pay3 (F := Ideal) x0 (ix3 0 d col)
      = x0 (ix2 ⟨col.val % 512, Nat.mod_lt _ (by norm_num)⟩ ⟨col.val / 512 * 64 + d.val, by omega⟩) * Ideal.ofBits .f32 0x3E000000#32 := by
  pointwise [k0_pay3]
  have hc := col.isLt
  have hd := d.isLt
  refine congrArg (· * _) ?_
  by_cases h1 : col.val < 512
  · rw [dif_pos h1]; refine congrArg x0 ((ix2_inj _ _ _ _).2 ⟨Fin.ext ?_, Fin.ext ?_⟩) <;> show _ = _ <;> dsimp only <;> omega
  rw [dif_neg h1]
  by_cases h2 : col.val - 512 < 512
  · rw [dif_pos h2]; refine congrArg x0 ((ix2_inj _ _ _ _).2 ⟨Fin.ext ?_, Fin.ext ?_⟩) <;> show _ = _ <;> dsimp only <;> omega
  rw [dif_neg h2]
  by_cases h3 : col.val - 512 - 512 < 512
  · rw [dif_pos h3]; refine congrArg x0 ((ix2_inj _ _ _ _).2 ⟨Fin.ext ?_, Fin.ext ?_⟩) <;> show _ = _ <;> dsimp only <;> omega
  · rw [dif_neg h3]; refine congrArg x0 ((ix2_inj _ _ _ _).2 ⟨Fin.ext ?_, Fin.ext ?_⟩) <;> show _ = _ <;> dsimp only <;> omega

theorem pay5_at (x0 : Vec Ideal S512x256 .f32) (x : Vec Ideal S1x16x64 .f32) (n : Fin 16) (col : Fin 2048) :
    k0_pay5 (F := Ideal) x0 x (ix3 0 n col) = ∑ d : Fin 64, x (ix3 0 n d) * k0_pay3 (F := Ideal) x0 (ix3 0 d col) := by
  pointwise [k0_pay5]

theorem pay33_at (kt : Vec Ideal S1x512x128 .bf16) (lhs : Vec Ideal S1x128x2048 .bf16) (p : Fin 512) (col : Fin 2048) :
    k0_pay33 (F := Ideal) kt lhs (ix3 0 p col) = ∑ k : Fin 128, kt (ix3 0 p k) * lhs (ix3 0 k col) := by
  pointwise [k0_pay33]

theorem pay34_at (kt : Vec Ideal S1x512x128 .bf16) (lhs : Vec Ideal S1x128x2048 .bf16) (m : Vec Ideal S1x1x2048 .f32) (col : Fin 2048) :
    k0_pay34 (F := Ideal) kt lhs m (ix3 0 0 col) = max (m (ix3 0 0 col)) (Finset.univ.sup fun p : Fin 512 => k0_pay33 (F := Ideal) kt lhs (ix3 0 p col)) := by
  pointwise [k0_pay34]
  rw [ofBits_neg_inf]
  rfl

theorem pay36_at (kt : Vec Ideal S1x512x128 .bf16) (lhs : Vec Ideal S1x128x2048 .bf16) (m : Vec Ideal S1x1x2048 .f32) (col : Fin 2048) :
    k0_pay36 (F := Ideal) kt lhs m (ix3 0 0 col) = k0_pay34 (F := Ideal) kt lhs m (ix3 0 0 col) := by
  pointwise [k0_pay36]

theorem pay35_at (kt : Vec Ideal S1x512x128 .bf16) (lhs : Vec Ideal S1x128x2048 .bf16) (m : Vec Ideal S1x1x2048 .f32)
    (a : Vec Ideal S1x80x2048 .f32) (vt : Vec Ideal S1x80x512 .bf16) (r : Fin 80) (col : Fin 2048) :
    k0_pay35 (F := Ideal) kt lhs m a vt (ix3 0 r col)
      = Ideal.exp (m (ix3 0 0 col) - k0_pay34 (F := Ideal) kt lhs m (ix3 0 0 col)) * a (ix3 0 r col)
        + ∑ p : Fin 512, vt (ix3 0 r p) * Ideal.exp (k0_pay33 (F := Ideal) kt lhs (ix3 0 p col) - k0_pay34 (F := Ideal) kt lhs m (ix3 0 0 col)) := by
  pointwise [k0_pay35]

end Cert.KernelIdeal.Moba
-- ==== Proof.ReadsB.lean ====
module

public import proofs.«01_k».proof.Proof.Out
public import proofs.«01_k».proof.Proof.Soft

@[expose] public section

set_option maxRecDepth 16384

noncomputable section

open Idealize.ShloMosaic Idealize.ShloMosaic.TcCoe Idealize.SL.Sem

namespace Cert.KernelIdeal.Moba

open Cert.KernelIdeal Cert.KernelIdeal.Gen

theorem ofBits_neg_inf' : Ideal.ofBits .f32 0xFF800000#32 = ⊥ := by simp [Ideal.ofBits, Ideal.ieee]

theorem pay42_at (v20 : IVec S1x1x2048 32) (v429 : BitVec 32) (kt : FVec Ideal S1x512x128 .bf16) (lhs : Vec Ideal S1x128x2048 .bf16) (p : Fin 512) (col : Fin 2048) :
    k0_pay42 (F := Ideal) v20 v429 kt lhs (ix3 0 p col)
      = Scalar.select (IntOp.cmpi .sle (v429 + BitVec.ofNat 32 p.val) (v20 (ix3 0 0 col))) (∑ k : Fin 128, kt (ix3 0 p k) * lhs (ix3 0 k col)) ⊥ := by
  pointwise [k0_pay42]
  rw [show Scalar.addi (0#32) v429 = v429 from BitVec.zero_add _,
    show (Named.named κ "mask" 0xF149F2CA#32 : Ideal .f32) = ⊥ from IdealRules.named_const.ideal_named_scalar _ _ _ _ rfl]
  rfl

theorem pay43_at (v20 : IVec S1x1x2048 32) (v429 : BitVec 32) (kt : FVec Ideal S1x512x128 .bf16) (lhs : Vec Ideal S1x128x2048 .bf16) (m : Vec Ideal S1x1x2048 .f32) (col : Fin 2048) :
    k0_pay43 (F := Ideal) v20 v429 kt lhs m (ix3 0 0 col) = max (m (ix3 0 0 col)) (Finset.univ.sup fun p : Fin 512 => k0_pay42 (F := Ideal) v20 v429 kt lhs (ix3 0 p col)) := by
  pointwise [k0_pay43]
  rw [ofBits_neg_inf']
  rfl

theorem pay44_at (v20 : IVec S1x1x2048 32) (v429 : BitVec 32) (kt : FVec Ideal S1x512x128 .bf16) (lhs : Vec Ideal S1x128x2048 .bf16) (m : Vec Ideal S1x1x2048 .f32)
    (a : Vec Ideal S1x80x2048 .f32) (vt : Vec Ideal S1x80x512 .bf16) (r : Fin 80) (col : Fin 2048) :
    k0_pay44 (F := Ideal) v20 v429 kt lhs m a vt (ix3 0 r col)
      = Ideal.exp (m (ix3 0 0 col) - k0_pay43 (F := Ideal) v20 v429 kt lhs m (ix3 0 0 col)) * a (ix3 0 r col)
        + ∑ p : Fin 512, vt (ix3 0 r p) * Ideal.exp (k0_pay42 (F := Ideal) v20 v429 kt lhs (ix3 0 p col) - k0_pay43 (F := Ideal) v20 v429 kt lhs m (ix3 0 0 col)) := by
  pointwise [k0_pay44]

theorem pay1_at (a : Vec Ideal S1x80x2048 .f32) (τ : Fin 512) (h : Fin 256) :
    k0_pay1 (F := Ideal) a (ix2 τ h)
      = Ideal.div (a (ix3 0 ⟨h.val % 64, by omega⟩ ⟨h.val / 64 * 512 + τ.val, by omega⟩))
          (max (a (ix3 0 64 ⟨h.val / 64 * 512 + τ.val, by omega⟩)) (Ideal.ofBits .f32 0x0DA24260#32)) := by
  pointwise [k0_pay1]
  have hc := h.isLt
  have hd := τ.isLt
  have key : ∀ (a1 a2 : Fin 64) (c1 c2 : Fin 2048), a1.val = a2.val → c1.val = c2.val →
      Ideal.div (a (ix3 0 (a1.castLE (by norm_num)) c1)) (max (a (ix3 0 64 c1)) (Ideal.ofBits .f32 0x0DA24260#32))
        = Ideal.div (a (ix3 0 (a2.castLE (by norm_num)) c2)) (max (a (ix3 0 64 c2)) (Ideal.ofBits .f32 0x0DA24260#32)) := by
    intro a1 a2 c1 c2 h1 h2; rw [Fin.ext h1, Fin.ext h2]
  by_cases h1 : h.val < 64
  · rw [dif_pos h1]; exact key ⟨h.val, h1⟩ ⟨h.val % 64, by omega⟩ ⟨τ.val, by omega⟩ ⟨h.val / 64 * 512 + τ.val, by omega⟩ (by dsimp only; omega) (by dsimp only; omega)
  rw [dif_neg h1]
  by_cases h2 : h.val - 64 < 64
  · rw [dif_pos h2]; exact key ⟨h.val - 64, h2⟩ ⟨h.val % 64, by omega⟩ ⟨512 + τ.val, by omega⟩ ⟨h.val / 64 * 512 + τ.val, by omega⟩ (by dsimp only; omega) (by dsimp only; omega)
  rw [dif_neg h2]
  by_cases h3 : h.val - 64 - 64 < 64
  · rw [dif_pos h3]; exact key ⟨h.val - 64 - 64, h3⟩ ⟨h.val % 64, by omega⟩ ⟨1024 + τ.val, by omega⟩ ⟨h.val / 64 * 512 + τ.val, by omega⟩ (by dsimp only; omega) (by dsimp only; omega)
  · rw [dif_neg h3]; exact key ⟨h.val - 64 - 64 - 64, by omega⟩ ⟨h.val % 64, by omega⟩ ⟨1536 + τ.val, by omega⟩ ⟨h.val / 64 * 512 + τ.val, by omega⟩ (by dsimp only; omega) (by dsimp only; omega)

end Cert.KernelIdeal.Moba
-- ==== Proof.Bias.lean ====
module

public import proofs.«01_k».proof.Proof.Out
public import proofs.«01_k».proof.Proof.Soft

@[expose] public section

set_option maxRecDepth 16384

noncomputable section

open Idealize.ShloMosaic Idealize.ShloMosaic.TcCoe Idealize.SL.Sem

namespace Cert.KernelIdeal.Moba

open Cert.KernelIdeal Cert.KernelIdeal.Gen

/-- One when position `j`'s score is the greater. -/
def gtOne (g : Fin 16 → EReal) (b j : Fin 16) : EReal := if g b < g j then 1 else 0

/-- One when position `j`'s score is equal and `j` is lower. -/
def eqOne (g : Fin 16 → EReal) (b j : Fin 16) : EReal :=
  if g j = g b then Scalar.select (IntOp.cmpi .sgt (BitVec.ofNat 32 b.val) (BitVec.ofNat 32 j.val)) 1 0 else 0

/-- A column of gate scores. -/
abbrev colOf (v : FVec Ideal S1x16x2048 .f32) (col : Fin 2048) : Fin 16 → EReal := fun j => v (ix3 0 j col)

theorem pay9_at (v20 : IVec S1x1x2048 32) (v38 : FVec Ideal S1x16x2048 .f32) (b : Fin 16) (col : Fin 2048) :
    k0_pay9 (F := Ideal) v20 v38 (ix3 0 b col) = gtOne (colOf (k0_pay7 v20 v38) col) b 0 := by
  pointwise [k0_pay9, k0_pay8]
  rfl

theorem pay10_at (v20 : IVec S1x1x2048 32) (v38 : FVec Ideal S1x16x2048 .f32) (b : Fin 16) (col : Fin 2048) :
    k0_pay10 (F := Ideal) v20 v38 (ix3 0 b col) = BitVec.ofBool (decide (colOf (k0_pay7 v20 v38) col 0 = colOf (k0_pay7 v20 v38) col b)) := by
  pointwise [k0_pay10, k0_pay8]

theorem pay11_at (b : Fin 16) :
    k0_pay11 (F := Ideal) (ix3 0 b 0) = Scalar.select (IntOp.cmpi .sgt (BitVec.ofNat 32 b.val) 0#32) (1 : EReal) 0 := by
  pointwise [k0_pay11]

theorem select_ofBool (p : Prop) [Decidable p] (x y : EReal) : Scalar.select (BitVec.ofBool (decide p)) x y = if p then x else y := by
  by_cases h : p <;> simp [h, Scalar.select]

theorem pay12_at (v20 : IVec S1x1x2048 32) (v38 : FVec Ideal S1x16x2048 .f32) (b : Fin 16) (col : Fin 2048)
    (g : Fin 16 → EReal) (hg : g = colOf (k0_pay7 v20 v38) col) :
    k0_pay12 (F := Ideal) iota16 (k0_pay7 v20 v38) (k0_pay9 v20 v38) (k0_pay10 v20 v38) (k0_pay11 (F := Ideal)) (Scalar.ofBits .f32 0x00000000#32) (ix3 0 b col)
      = gtOne g b 0 + eqOne g b 0 + gtOne g b 1 + eqOne g b 1 + gtOne g b 2 + eqOne g b 2 := by
  subst hg
  pointwise [k0_pay12]
  rw [pay9_at, pay10_at, pay11_at, select_ofBool]
  rfl

theorem pay16_at (v r : FVec Ideal S1x16x2048 .f32) (b : Fin 16) (col : Fin 2048) :
    k0_pay16 (F := Ideal) iota16 v r (k0_pay13 v) (k0_pay14 v) (Scalar.ofBits .f32 0x3F800000#32) (Scalar.ofBits .f32 0x00000000#32) (ix3 0 b col)
      = r (ix3 0 b col) + gtOne (colOf v col) b 3 + eqOne (colOf v col) b 3 + gtOne (colOf v col) b 4 + eqOne (colOf v col) b 4 + gtOne (colOf v col) b 5 := by
  pointwise [k0_pay16, k0_pay13, k0_pay14, k0_pay15]
  rfl

theorem pay19_at (v r : FVec Ideal S1x16x2048 .f32) (b : Fin 16) (col : Fin 2048) :
    k0_pay19 (F := Ideal) iota16 v r (k0_pay17 v) (k0_pay18 iota16) (Scalar.ofBits .f32 0x3F800000#32) (ix3 0 b col)
      = r (ix3 0 b col) + eqOne (colOf v col) b 5 + gtOne (colOf v col) b 6 + eqOne (colOf v col) b 6 + gtOne (colOf v col) b 7 + eqOne (colOf v col) b 7 := by
  pointwise [k0_pay19, k0_pay17, k0_pay18, k0_pay15]
  rfl

theorem pay21_at (v r : FVec Ideal S1x16x2048 .f32) (b : Fin 16) (col : Fin 2048) :
    k0_pay21 (F := Ideal) iota16 v r (ix3 0 b col)
      = r (ix3 0 b col) + gtOne (colOf v col) b 8 + eqOne (colOf v col) b 8 + gtOne (colOf v col) b 9 + eqOne (colOf v col) b 9 + gtOne (colOf v col) b 10 := by
  pointwise [k0_pay21, k0_pay20]
  rfl

theorem pay24_at (v r : FVec Ideal S1x16x2048 .f32) (b : Fin 16) (col : Fin 2048) :
    k0_pay24 (F := Ideal) iota16 v r (k0_pay22 v) (ix3 0 b col)
      = r (ix3 0 b col) + eqOne (colOf v col) b 10 + gtOne (colOf v col) b 11 + eqOne (colOf v col) b 11 + gtOne (colOf v col) b 12 := by
  pointwise [k0_pay24, k0_pay22, k0_pay23, k0_pay20]
  rfl

theorem pay27_at (v r : FVec Ideal S1x16x2048 .f32) (b : Fin 16) (col : Fin 2048) :
    k0_pay27 (F := Ideal) iota16 v r (k0_pay25 v) (k0_pay26 iota16) (Scalar.ofBits .f32 0x00000000#32) (ix3 0 b col)
      = r (ix3 0 b col) + eqOne (colOf v col) b 12 + gtOne (colOf v col) b 13 + eqOne (colOf v col) b 13 + gtOne (colOf v col) b 14 + eqOne (colOf v col) b 14 := by
  pointwise [k0_pay27, k0_pay25, k0_pay26, k0_pay23]
  rfl

theorem ofBits_three : Ideal.ofBits .f32 0x40400000#32 = ((3 : ℕ) : EReal) := by
  have : Ideal.ofBits .f32 0x40400000#32 = ((3 : ℝ) : EReal) := by
    simp [Ideal.ofBits, Ideal.ieee]; rw [← EReal.coe_mul]; norm_num
  rw [this]; rfl

theorem named_mask : (Named.named κ "mask" 0xF149F2CA#32 : Ideal .f32) = (⊥ : EReal) :=
  IdealRules.named_const.ideal_named_scalar _ _ _ _ rfl

open Classical in
theorem pay30_at (cur : IVec S1x1x2048 32) (v r : FVec Ideal S1x16x2048 .f32) (b : Fin 16) (col : Fin 2048) :
    k0_pay30 (F := Ideal) iota16 cur v r (k0_pay28 v) (k0_pay29 v) (Scalar.ofBits .f32 0x3F800000#32) (Scalar.ofBits .f32 0x00000000#32)
        (ix3 0 (b.castLE (by norm_num)) col)
      = Scalar.select (IntOp.cmpi .eq (BitVec.ofNat 32 b.val) (cur (ix3 0 0 col))) (0 : EReal)
        (Scalar.select (IntOp.cmpi .slt (BitVec.ofNat 32 b.val) (cur (ix3 0 0 col)))
          (if r (ix3 0 b col) + gtOne (colOf v col) b 15 + eqOne (colOf v col) b 15 < ((3 : ℕ) : EReal) then 0 else ⊥) ⊥) := by
  pointwise [k0_pay30, k0_pay28, k0_pay29]
  have hb : ((b.castLE (by norm_num) : Fin 64)).val < 16 := b.isLt
  rw [dif_pos hb, ofBits_three, named_mask]
  unfold gtOne eqOne
  refine congrArg (Scalar.select _ _) (congrArg (fun z => Scalar.select _ z _) ?_)
  by_cases h : r (ix3 0 b col) + (if colOf v col b < colOf v col 15 then (1:EReal) else 0) + (if colOf v col 15 = colOf v col b then
     Scalar.select (IntOp.cmpi .sgt (BitVec.ofNat 32 b.val) (BitVec.ofNat 32 ((15 : Fin 16).val))) 1 0 else 0) < ((3 : ℕ) : EReal)
  · exact (if_pos h).trans (if_pos h).symm
  · exact (if_neg h).trans (if_neg h).symm

theorem pay30_hi (cur : IVec S1x1x2048 32) (v r : FVec Ideal S1x16x2048 .f32) (b : Fin 64) (hb : ¬ b.val < 16) (col : Fin 2048) :
    k0_pay30 (F := Ideal) iota16 cur v r (k0_pay28 v) (k0_pay29 v) (Scalar.ofBits .f32 0x3F800000#32) (Scalar.ofBits .f32 0x00000000#32)
        (ix3 0 b col) = (0 : EReal) := by
  pointwise [k0_pay30, k0_pay28, k0_pay29]
  exact dif_neg hb

theorem gt_word : ∀ b j : Fin 16, IntOp.cmpi .sgt (BitVec.ofNat 32 b.val) (BitVec.ofNat 32 j.val) = BitVec.ofBool (decide (j < b)) := by decide +kernel

theorem eqOne_eq (g : Fin 16 → EReal) (b j : Fin 16) : eqOne g b j = if g j = g b then (if j < b then 1 else 0) else 0 := by
  unfold eqOne; rw [gt_word, select_ofBool]

/-- The sixteen pairs of terms count the scores before position `b`'s. -/
theorem rank_terms (g : Fin 16 → EReal) (b : Fin 16) :
    gtOne g b 0 + eqOne g b 0 + gtOne g b 1 + eqOne g b 1 + gtOne g b 2 + eqOne g b 2 + gtOne g b 3 + eqOne g b 3 + gtOne g b 4 + eqOne g b 4 + gtOne g b 5
      + eqOne g b 5 + gtOne g b 6 + eqOne g b 6 + gtOne g b 7 + eqOne g b 7 + gtOne g b 8 + eqOne g b 8 + gtOne g b 9 + eqOne g b 9 + gtOne g b 10
      + eqOne g b 10 + gtOne g b 11 + eqOne g b 11 + gtOne g b 12 + eqOne g b 12 + gtOne g b 13 + eqOne g b 13 + gtOne g b 14 + eqOne g b 14
      + gtOne g b 15 + eqOne g b 15 = ((Moba.rank g b : ℕ) : EReal) := by
  rw [Moba.rank_eq_sum]
  have h1 : ∀ j, gtOne g b j = (((if g b < g j then 1 else 0 : ℕ)) : EReal) := fun j => by unfold gtOne; split <;> simp
  have h2 : ∀ j, eqOne g b j = (((if g j = g b then (if j < b then 1 else 0) else 0 : ℕ)) : EReal) := fun j => by
    rw [eqOne_eq]; split
    · split <;> simp
    · simp
  simp only [h1, h2, ← Nat.cast_add]
  refine congrArg Nat.cast ?_
  generalize (fun j => (if g b < g j then 1 else 0 : ℕ)) = u
  simp only [Fin.sum_univ_succ, Fin.sum_univ_zero]
  simp only [← add_assoc, add_zero]
  rfl

theorem pay2_word : ∀ (a : Fin 8) (col : Fin 2048), IntOp.addi (Scalar.addi (0#32) (Scalar.muli (BitVec.ofNat 32 a.val) 512#32))
      (Scalar.select
        (IntOp.andi
          (IntOp.xori
            (IntOp.cmpi CmpIPredicate.slt
              (IntOp.remsi ArithUnit.vector (BitVec.ofNat 32 col.val)
                (Scalar.select (Scalar.cmpi CmpIPredicate.eq 512#32 0#32) 1#32 512#32))
              0#32)
            (Scalar.cmpi CmpIPredicate.slt (Scalar.select (Scalar.cmpi CmpIPredicate.eq 512#32 0#32) 1#32 512#32) 0#32))
          (IntOp.cmpi CmpIPredicate.ne
            (IntOp.remsi ArithUnit.vector (BitVec.ofNat 32 col.val)
              (Scalar.select (Scalar.cmpi CmpIPredicate.eq 512#32 0#32) 1#32 512#32))
            0#32))
        (IntOp.addi
          (IntOp.remsi ArithUnit.vector (BitVec.ofNat 32 col.val)
            (Scalar.select (Scalar.cmpi CmpIPredicate.eq 512#32 0#32) 1#32 512#32))
          (Scalar.select (Scalar.cmpi CmpIPredicate.eq 512#32 0#32) 1#32 512#32))
        (IntOp.remsi ArithUnit.vector (BitVec.ofNat 32 col.val)
          (Scalar.select (Scalar.cmpi CmpIPredicate.eq 512#32 0#32) 1#32 512#32))) =
    BitVec.ofNat 32 (512 * a.val + col.val % 512) := by decide +kernel

/-- The position of a column's query. -/
theorem pay2_at (i : grid0.Coords) (col : Fin 2048) :
    k0_pay2 i (ix3 0 0 col) = BitVec.ofNat 32 (512 * (i 1).val + col.val % 512) := by
  pointwise [k0_pay2]
  exact pay2_word (i 1) col

theorem pay6_word : ∀ t : Fin 4096, Scalar.select
      (IntOp.andi
        (IntOp.cmpi CmpIPredicate.ne
          (IntOp.subi (BitVec.setWidth 32 (IntOp.cmpi CmpIPredicate.sgt (BitVec.ofNat 32 t.val) 0#32))
            (BitVec.setWidth 32 (IntOp.cmpi CmpIPredicate.slt (BitVec.ofNat 32 t.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 t.val) 256#32) 0#32))
      (IntOp.subi (IntOp.divsi ArithUnit.vector (BitVec.ofNat 32 t.val) 256#32) 1#32)
      (IntOp.divsi ArithUnit.vector (BitVec.ofNat 32 t.val) 256#32) =
    BitVec.ofNat 32 (t.val / 256) := by decide +kernel

/-- The block of a column's query. -/
theorem pay6_at (v : IVec S1x1x2048 32) (t : ℕ) (ht : t < 4096) (col : Fin 2048) (h : v (ix3 0 0 col) = BitVec.ofNat 32 t) :
    k0_pay6 v (ix3 0 0 col) = BitVec.ofNat 32 (t / 256) := by
  pointwise [k0_pay6]
  rw [h]
  exact pay6_word ⟨t, ht⟩

theorem pay7_at (v20 : IVec S1x1x2048 32) (v38 : FVec Ideal S1x16x2048 .f32) (j : Fin 16) (col : Fin 2048) :
    k0_pay7 (F := Ideal) v20 v38 (ix3 0 j col)
      = Scalar.select (IntOp.cmpi .slt (BitVec.ofNat 32 j.val) (k0_pay6 v20 (ix3 0 0 col))) (v38 (ix3 0 j col)) ⊥ := by
  pointwise [k0_pay7]
  rw [show Ideal.ofBits .f32 0xFF800000#32 = ⊥ by simp [Ideal.ofBits, Ideal.ieee]]

/-- The position of a column's query, and that of its query's block. -/
abbrev pos (a : Fin 8) (col : Fin 2048) : ℕ := 512 * a.val + col.val % 512

theorem pos_lt (a : Fin 8) (col : Fin 2048) : pos a col < 4096 := by
  have h1 := a.isLt
  have h2 : col.val % 512 < 512 := Nat.mod_lt _ (by norm_num)
  unfold pos; omega

theorem slt_word : ∀ b c : Fin 16, IntOp.cmpi .slt (BitVec.ofNat 32 b.val) (BitVec.ofNat 32 c.val) = BitVec.ofBool (decide (b.val < c.val)) := by decide +kernel

theorem eq_word : ∀ b c : Fin 16, IntOp.cmpi .eq (BitVec.ofNat 32 b.val) (BitVec.ofNat 32 c.val) = BitVec.ofBool (decide (b.val = c.val)) := by decide +kernel

/-- The masked gate scores: the products with the means of the blocks before the query's, −∞ for the others. -/
theorem gates_at (i : grid0.Coords) (x0 : Vec Ideal S512x256 .f32) (x3 : Vec Ideal S1x64x64 .f32) (j : Fin 16) (col : Fin 2048) :
    gates (F := Ideal) i x0 x3 (ix3 0 j col)
      = if j.val < pos (i 1) col / 256 then k0_pay5 (F := Ideal) x0 (mean16 x3) (ix3 0 j col) else ⊥ := by
  have hp := pos_lt (i 1) col
  unfold gates
  rw [pay7_at, pay6_at _ (pos (i 1) col) hp col (pay2_at i col)]
  have := slt_word j ⟨pos (i 1) col / 256, by omega⟩
  dsimp only at this
  rw [this, select_ofBool]

open Classical in
/-- The bias of a block: 0 for the query's own and for the three best before it, −∞ for the others. -/
theorem bias_at (i : grid0.Coords) (x0 : Vec Ideal S512x256 .f32) (x3 : Vec Ideal S1x64x64 .f32) (b : Fin 16) (col : Fin 2048) :
    bias (F := Ideal) i x0 x3 (ix3 0 (b.castLE (by norm_num)) col)
      = if b.val = pos (i 1) col / 256 ∨ b.val < pos (i 1) col / 256 ∧ Moba.rank (colOf (gates (F := Ideal) i x0 x3) col) b < 3 then 0 else ⊥ := by
  have hp := pos_lt (i 1) col
  unfold bias biasOf
  rw [pay30_at, pay27_at, pay24_at, pay21_at, pay19_at, pay16_at]
  unfold gates
  rw [pay12_at _ _ _ _ _ rfl]
  rw [rank_terms, pay6_at _ (pos (i 1) col) hp col (pay2_at i col)]
  have h1 := slt_word b ⟨pos (i 1) col / 256, by omega⟩
  have h2 := eq_word b ⟨pos (i 1) col / 256, by omega⟩
  dsimp only at h1 h2
  rw [h1, h2, select_ofBool, select_ofBool]
  have h3 : ∀ n : ℕ, ((n : ℕ) : EReal) < ((3 : ℕ) : EReal) ↔ n < 3 := fun n => Nat.cast_lt
  by_cases e1 : b.val = pos (i 1) col / 256
  · rw [if_pos e1, if_pos (Or.inl e1)]
  rw [if_neg e1]
  by_cases e2 : b.val < pos (i 1) col / 256
  · rw [if_pos e2]
    by_cases e3 : Moba.rank (colOf (k0_pay7 (F := Ideal) (k0_pay2 i) (k0_pay5 x0 (mean16 x3))) col) b < 3
    · rw [if_pos ((h3 _).2 e3), if_pos (Or.inr ⟨e2, e3⟩)]
    · rw [if_neg (fun h => e3 ((h3 _).1 h)), if_neg (fun h => h.elim e1 fun h => e3 h.2)]
  · rw [if_neg e2, if_neg (fun h => h.elim e1 fun h => e2 h.1)]

theorem bias_hi (i : grid0.Coords) (x0 : Vec Ideal S512x256 .f32) (x3 : Vec Ideal S1x64x64 .f32) (b : Fin 64) (hb : ¬ b.val < 16) (col : Fin 2048) :
    bias (F := Ideal) i x0 x3 (ix3 0 b col) = (0 : EReal) := by
  unfold bias biasOf
  exact pay30_hi _ _ _ b hb col

end Cert.KernelIdeal.Moba
-- ==== Proof.Tiles.lean ====
module

public import proofs.«01_k».proof.Proof.Reads
public import proofs.«01_k».proof.Proof.ReadsB
public import proofs.«01_k».proof.Proof.Bias

@[expose] public section

set_option maxRecDepth 16384

noncomputable section

open Idealize.ShloMosaic Idealize.ShloMosaic.TcCoe Idealize.SL.Sem

namespace Cert.KernelIdeal.Moba

open Cert.KernelIdeal Cert.KernelIdeal.Gen

/-- The positions of the first `n` tiles. -/
def before (n : ℕ) : Finset (Fin 4096) := Finset.univ.filter fun p => p.val < 512 * n

/-- Position `p` of tile `n`. -/
def inTile (n : ℕ) (p : Fin 512) : Fin 4096 := ⟨(512 * n + p.val) % 4096, Nat.mod_lt _ (by norm_num)⟩

/-- The positions of tile `n`. -/
def tile (n : ℕ) : Finset (Fin 4096) := Finset.univ.image (inTile n)

theorem inTile_val (n : ℕ) (hn : n < 8) (p : Fin 512) : (inTile n p).val = 512 * n + p.val := by
  have := p.isLt
  exact Nat.mod_eq_of_lt (by omega)

theorem inTile_inj (n : ℕ) (hn : n < 8) : Function.Injective (inTile n) := fun p p' e => by
  have := congrArg Fin.val e
  rw [inTile_val n hn, inTile_val n hn] at this
  exact Fin.ext (by omega)

theorem mem_tile (n : ℕ) (hn : n < 8) (p : Fin 4096) : p ∈ tile n ↔ 512 * n ≤ p.val ∧ p.val < 512 * (n + 1) := by
  unfold tile
  rw [Finset.mem_image]
  constructor
  · rintro ⟨k, -, rfl⟩
    have := k.isLt
    rw [inTile_val n hn]; omega
  · rintro ⟨h1, h2⟩
    exact ⟨⟨p.val - 512 * n, by omega⟩, Finset.mem_univ _, Fin.ext (by rw [inTile_val n hn]; dsimp only; omega)⟩

theorem mem_before (n : ℕ) (p : Fin 4096) : p ∈ before n ↔ p.val < 512 * n := by simp [before]

theorem before_zero : before 0 = ∅ := by ext p; simp [mem_before]

theorem before_succ (n : ℕ) (hn : n < 8) : before n ∪ tile n = before (n + 1) := by
  ext p; rw [Finset.mem_union, mem_before, mem_before, mem_tile n hn]; omega

theorem before_disjoint (n : ℕ) (hn : n < 8) : Disjoint (before n) (tile n) := by
  rw [Finset.disjoint_left]; intro p h1 h2; rw [mem_before] at h1; rw [mem_tile n hn] at h2; omega

theorem tile_sum (n : ℕ) (hn : n < 8) (f : Fin 4096 → EReal) : ∑ p : Fin 512, f (inTile n p) = ∑ p ∈ tile n, f p :=
  (Finset.sum_image (inTile_inj n hn).injOn).symm

theorem tile_sup (n : ℕ) (f : Fin 4096 → EReal) : (Finset.univ.sup fun p : Fin 512 => f (inTile n p)) = (tile n).sup f :=
  (Finset.sup_image _ _ _).symm

theorem pay31_at (col : Fin 2048) : k0_pay31 (F := Ideal) (ix3 0 0 col) = (⊥ : EReal) := by
  pointwise [k0_pay31]
  exact ofBits_neg_inf

theorem pay32_at (r : Fin 80) (col : Fin 2048) : k0_pay32 (F := Ideal) (ix3 0 r col) = (0 : EReal) := by
  pointwise [k0_pay32]

theorem pay4_at (x0 : Vec Ideal S512x256 .f32) (d : Fin 64) (col : Fin 2048) :
    k0_pay4 (F := Ideal) x0 (ix3 0 d col) = k0_pay3 (F := Ideal) x0 (ix3 0 d col) := by
  pointwise [k0_pay4]

theorem pay41_at (kt : Vec Ideal S1x512x128 .bf16) (p : Fin 512) (k : Fin 128) : k0_pay41 (F := Ideal) kt (ix3 0 p k) = kt (ix3 0 p k) := by
  pointwise [k0_pay41]

/-- The score of a key position for a column. -/
abbrev score (x1 : Vec Ideal S1x4096x128 .bf16) (lhs : Vec Ideal S1x128x2048 .bf16) (col : Fin 2048) : Fin 4096 → EReal :=
  fun p => ∑ k : Fin 128, x1 (ix3 0 p k) * lhs (ix3 0 k col)

/-- Row `r` of the value operand. -/
abbrev vrow (x2 : Vec Ideal S1x80x4096 .bf16) (r : Fin 80) : Fin 4096 → EReal := fun p => x2 (ix3 0 r p)

theorem pay33_tile (x1 : Vec Ideal S1x4096x128 .bf16) (lhs : Vec Ideal S1x128x2048 .bf16) (n : ℕ) (p : Fin 512) (col : Fin 2048) :
    k0_pay33 (F := Ideal) (tileK x1 n) lhs (ix3 0 p col) = score x1 lhs col (inTile n p) :=
  pay33_at (tileK x1 n) lhs p col

open _root_.Moba in
/-- After `n` tiles: the greatest score so far, and the value rows weighted by the exponentials relative to it. -/
theorem st_at (x1 : Vec Ideal S1x4096x128 .bf16) (x2 : Vec Ideal S1x80x4096 .bf16) (lhs : Vec Ideal S1x128x2048 .bf16) (col : Fin 2048) :
    ∀ n, n ≤ 8 → (st x1 x2 lhs n).1 (ix3 0 0 col) = (before n).sup (score x1 lhs col)
      ∧ ∀ r : Fin 80, (st x1 x2 lhs n).2 (ix3 0 r col) = acc (before n) (score x1 lhs col) (vrow x2 r) ((before n).sup (score x1 lhs col))
  | 0, _ => by
    rw [before_zero, Finset.sup_empty]
    refine ⟨pay31_at col, fun r => (pay32_at r col).trans ?_⟩
    unfold acc
    rw [Finset.sum_empty]
  | n + 1, hn => by
    obtain ⟨h1, h2⟩ := st_at x1 x2 lhs col n (by omega)
    have e34 : k0_pay34 (F := Ideal) (tileK x1 n) lhs (st x1 x2 lhs n).1 (ix3 0 0 col)
        = max ((before n).sup (score x1 lhs col)) ((tile n).sup (score x1 lhs col)) := by
      rw [pay34_at, h1, ← tile_sup n]
      refine congrArg (max _) (congrArg (Finset.sup _) (funext fun p => pay33_tile x1 lhs n p col))
    constructor
    · show k0_pay36 (F := Ideal) (tileK x1 n) lhs (st x1 x2 lhs n).1 (ix3 0 0 col) = _
      rw [pay36_at, e34, ← Finset.sup_union, before_succ n (by omega)]
    · intro r
      show k0_pay35 (F := Ideal) (tileK x1 n) lhs (st x1 x2 lhs n).1 (st x1 x2 lhs n).2 (tileV x2 n) (ix3 0 r col) = _
      rw [pay35_at, e34, h1, h2 r, ← before_succ n (by omega), ← acc_step _ _ (before_disjoint n (by omega))]
      refine congrArg₂ (· + ·) rfl ?_
      refine (Finset.sum_congr rfl fun p _ => ?_).trans (tile_sum n (by omega) fun p => vrow x2 r p * Ideal.exp (score x1 lhs col p - _))
      rw [pay33_tile]
      rfl

theorem le_word (p t : Nat) (hp : p < 8192) (ht : t < 8192) :
    IntOp.cmpi .sle (BitVec.ofNat 32 p) (BitVec.ofNat 32 t) = BitVec.ofBool (decide (p ≤ t)) := by
  have h : (BitVec.ofNat 32 p).sle (BitVec.ofNat 32 t) = decide (p ≤ t) := by
    rw [BitVec.sle_eq_decide, BitVec.toInt_eq_toNat_of_lt (by simp; omega), BitVec.toInt_eq_toNat_of_lt (by simp; omega)]
    simp only [BitVec.toNat_ofNat, Nat.cast_le, decide_eq_decide]
    rw [Nat.mod_eq_of_lt (by omega), Nat.mod_eq_of_lt (by omega)]
  show BitVec.ofBool ((BitVec.ofNat 32 p).sle (BitVec.ofNat 32 t)) = _
  rw [h]

/-- The scores of the positions up to the query's, −∞ after it. -/
def causal (t : ℕ) (S : Fin 4096 → EReal) : Fin 4096 → EReal := fun p => if p.val ≤ t then S p else ⊥

/-- The scores of the query's own tile. -/
theorem pay42_tile (i : grid0.Coords) (a : Fin 8) (ha : i 1 = a) (x1 : Vec Ideal S1x4096x128 .bf16) (lhs : Vec Ideal S1x128x2048 .bf16) (p : Fin 512) (col : Fin 2048) :
    k0_pay42 (F := Ideal) (k0_pay2 i) (BitVec.ofNat 32 (512 * a.val)) (k0_pay41 (tileK x1 a.val)) lhs (ix3 0 p col)
      = causal (pos a col) (score x1 lhs col) (inTile a.val p) := by
  subst ha
  have hp := pos_lt (i 1) col
  have h8 : (i 1).val < 8 := (i 1).isLt
  have hpp := p.isLt
  rw [pay42_at, pay2_at, ← BitVec.ofNat_add, le_word _ _ (by omega) (lt_trans hp (by norm_num))]
  rw [select_ofBool]
  unfold causal
  rw [inTile_val _ h8]
  refine if_congr Iff.rfl ?_ rfl
  exact Finset.sum_congr rfl fun k _ => congrArg (· * _) (pay41_at _ p k)

/-- What a column leaves after its own tile: the sums over all positions, the later ones having score −∞. -/
theorem last_at (i : grid0.Coords) (a : Fin 8) (ha : i 1 = a) (x1 : Vec Ideal S1x4096x128 .bf16) (x2 : Vec Ideal S1x80x4096 .bf16)
    (lhs : Vec Ideal S1x128x2048 .bf16) (r : Fin 80) (col : Fin 2048) :
    k0_pay44 (F := Ideal) (k0_pay2 i) (BitVec.ofNat 32 (512 * a.val)) (k0_pay41 (tileK x1 a.val)) lhs (st x1 x2 lhs a.val).1 (st x1 x2 lhs a.val).2
        (tileV x2 a.val) (ix3 0 r col)
      = _root_.Moba.acc Finset.univ (causal (pos a col) (score x1 lhs col)) (vrow x2 r) (Finset.univ.sup (causal (pos a col) (score x1 lhs col))) := by
  have h8 : a.val < 8 := a.isLt
  obtain ⟨h1, h2⟩ := st_at x1 x2 lhs col a.val (by omega)
  generalize hC : causal (pos a col) (score x1 lhs col) = C
  have hbefore : ∀ p ∈ before a.val, score x1 lhs col p = C p := fun p hp => by
    rw [mem_before] at hp
    rw [← hC]; unfold causal; rw [if_pos (by unfold pos; omega)]
  have hsup : (before a.val).sup (score x1 lhs col) = (before a.val).sup C := Finset.sup_congr rfl hbefore
  have hacc : ∀ M, _root_.Moba.acc (before a.val) (score x1 lhs col) (vrow x2 r) M = _root_.Moba.acc (before a.val) C (vrow x2 r) M := fun M => by
    unfold _root_.Moba.acc
    exact Finset.sum_congr rfl fun p hp => by rw [hbefore p hp]
  have e43 : k0_pay43 (F := Ideal) (k0_pay2 i) (BitVec.ofNat 32 (512 * a.val)) (k0_pay41 (tileK x1 a.val)) lhs (st x1 x2 lhs a.val).1 (ix3 0 0 col)
      = max ((before a.val).sup C) ((tile a.val).sup C) := by
    rw [pay43_at, h1, hsup, ← tile_sup a.val, ← hC]
    refine congrArg (max _) (congrArg (Finset.sup _) (funext fun p => pay42_tile i a ha x1 lhs p col))
  have hafter : ∀ p ∉ before (a.val + 1), C p = ⊥ := fun p hp => by
    rw [mem_before] at hp
    have := Nat.mod_lt col.val (show 0 < 512 by norm_num)
    rw [← hC]; unfold causal; rw [if_neg (by unfold pos; omega)]
  have hall : (before (a.val + 1)).sup C = Finset.univ.sup C := by
    refine le_antisymm (Finset.sup_mono (Finset.subset_univ _)) (Finset.sup_le fun p _ => ?_)
    by_cases hp : p ∈ before (a.val + 1)
    · exact Finset.le_sup hp
    · rw [hafter p hp]; exact bot_le
  rw [pay44_at, e43, h1, h2 r, hsup, hacc]
  refine (congrArg₂ (· + ·) rfl ?_).trans ((_root_.Moba.acc_step _ _ (before_disjoint a.val h8) C (vrow x2 r)).trans ?_)
  · refine (Finset.sum_congr rfl fun p _ => ?_).trans (tile_sum a.val h8 fun p => vrow x2 r p * Ideal.exp (C p - _))
    rw [pay42_tile i a ha, hC]
    rfl
  · rw [before_succ a.val h8, hall]
    unfold _root_.Moba.acc
    refine Finset.sum_subset (Finset.subset_univ _) fun p _ hp => ?_
    rw [hafter p hp, _root_.Moba.bot_sub, Ideal.exp_bot, mul_zero]

/-- What a grid point leaves in its block: the weighted sum of a value row over the sum of the weights. -/
theorem outOf_at (i : grid0.Coords) (a : Fin 8) (ha : i 1 = a) (x0 : Vec Ideal S512x256 .f32) (x1 : Vec Ideal S1x4096x128 .bf16) (x2 : Vec Ideal S1x80x4096 .bf16)
    (x3 : Vec Ideal S1x64x64 .f32) (τ : Fin 512) (h : Fin 256) (col : Fin 2048) (hcol : col.val = h.val / 64 * 512 + τ.val)
    (C : Fin 4096 → EReal) (hC : C = causal (pos a col) (score x1 (lhsOf (F := Ideal) i x0 x3) col)) :
    outOf (F := Ideal) i x0 x1 x2 x3 (ix2 τ h)
      = Ideal.div (_root_.Moba.acc Finset.univ C (vrow x2 ⟨h.val % 64, by omega⟩) (Finset.univ.sup C))
          (max (_root_.Moba.acc Finset.univ C (vrow x2 64) (Finset.univ.sup C)) (Ideal.ofBits .f32 0x0DA24260#32)) := by
  have e : (⟨h.val / 64 * 512 + τ.val, by omega⟩ : Fin 2048) = col := Fin.ext hcol.symm
  unfold outOf
  rw [pay1_at, e, ha, last_at i a ha, last_at i a ha, hC]

end Cert.KernelIdeal.Moba
-- ==== Proof.Blocks.lean ====
module

public import proofs.«01_k».proof.Proof.Host
public import proofs.«01_k».proof.Proof.Tiles

@[expose] public section

set_option maxRecDepth 16384

noncomputable section

open Idealize.ShloMosaic Idealize.ShloMosaic.TcCoe Idealize.SL.Sem

namespace Cert.KernelIdeal.Moba

open Cert.KernelIdeal Cert.KernelIdeal.Gen

variable (m : (ℓ : Loc nD τ sig) → Buf (Elt Ideal) ℓ) (c : Dev nD)

/-- The pair of batch and group of a grid point, and its query tile. -/
abbrev bgOf (t : Fin cfg0.N) : Fin 16 := ⟨t.val / 8, by have : t.val < 128 := t.isLt; omega⟩
abbrev tileOf (t : Fin cfg0.N) : Fin 8 := ⟨t.val % 8, Nat.mod_lt _ (by norm_num)⟩

theorem coords1_val : ∀ t : Fin cfg0.N, (grid0.coords t 1).val = t.val % 8 := by decide +kernel

theorem coords1 (t : Fin cfg0.N) : grid0.coords t 1 = tileOf t := Fin.ext (coords1_val t)

/-- Which block each window holds at a grid point. -/
theorem idx : ∀ t : Fin cfg0.N,
    (win0_0.index t 0 = t.val / 32 * 8 + t.val % 8 ∧ win0_0.index t 1 = t.val / 8 % 4)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_4.index t 0 = t.val / 32 * 8 + t.val % 8 ∧ win0_4.index t 1 = t.val / 8 % 4) :=
  (by decide +kernel : ∀ t : Fin grid0.N, _)

theorem blk0_at (t : Fin cfg0.N) (τ : Fin 512) (h : Fin 256) :
    (iblk m c 0 t : FVec Ideal S512x256 .f32) (ix2 τ h)
      = (V m c main_v30 : FVec Ideal S16384x1024 .f32) (ix2 ⟨(t.val / 32 * 8 + t.val % 8) * 512 + τ.val, by have : t.val < 128 := t.isLt; omega⟩ ⟨t.val / 8 % 4 * 256 + h.val, by omega⟩) := by
  obtain ⟨⟨h1, h2⟩, -⟩ := idx t
  blk_ext [iblk, h1, h2]

theorem blk1_at (t : Fin cfg0.N) (p : Fin 4096) (k : Fin 128) :
    (iblk m c 1 t : FVec Ideal S1x4096x128 .bf16) (ix3 0 p k) = (V m c main_v21 : FVec Ideal S16x4096x128 .bf16) (ix3 (bgOf t) p k) := by
  obtain ⟨-, ⟨h1, h2, h3⟩, -⟩ := idx t
  blk_ext [iblk, h1, h2, h3]

theorem blk2_at (t : Fin cfg0.N) (r : Fin 80) (p : Fin 4096) :
    (iblk m c 2 t : FVec Ideal S1x80x4096 .bf16) (ix3 0 r p) = (V m c main_v29 : FVec Ideal S16x80x4096 .bf16) (ix3 (bgOf t) r p) := by
  obtain ⟨-, -, ⟨h1, h2, h3⟩, -⟩ := idx t
  blk_ext [iblk, h1, h2, h3]

theorem blk3_at (t : Fin cfg0.N) (n d : Fin 64) :
    (iblk m c 3 t : FVec Ideal S1x64x64 .f32) (ix3 0 n d) = (V m c main_v1 : FVec Ideal S16x64x64 .f32) (ix3 (bgOf t) n d) := by
  obtain ⟨-, -, -, ⟨h1, h2, h3⟩, -⟩ := idx t
  blk_ext [iblk, h1, h2, h3]

/-- The result array is whatever function its blocks are read off from. -/
theorem final (G : FVec Ideal S16384x1024 .f32)
    (hG : ∀ (t : Fin cfg0.N) (τ : Fin 512) (h : Fin 256),
      outOf (F := Ideal) (grid0.coords t) (iblk m c 0 t) (iblk m c 1 t) (iblk m c 2 t) (iblk m c 3 t) (ix2 τ h)
        = G (ix2 ⟨(t.val / 32 * 8 + t.val % 8) * 512 + τ.val, by have : t.val < 128 := t.isLt; omega⟩ ⟨t.val / 8 % 4 * 256 + h.val, by omega⟩)) :
    (dats m 0 c).arrAt 4 cfg0.N = G := by
  refine (dats m 0 c).arrAt_eq_of_covers 4 G (by decide +kernel) fun t hf y => ?_
  obtain ⟨-, -, -, -, h1, h2⟩ := idx t
  blk_simp
  rw [after0_4]
  unfold outsAt0
  rw [out_eq]
  revert y
  intro (y : S512x256.Idx)
  obtain ⟨τ, h, rfl⟩ : ∃ (τ : Fin 512) (h : Fin 256), y = ix2 τ h := ⟨y 0, y 1, by
    funext a; match a with
    | ⟨0, _⟩ => rfl
    | ⟨1, _⟩ => rfl⟩
  refine (hG t τ h).trans ?_
  blk_ext [h1, h2]

end Cert.KernelIdeal.Moba
-- ==== Proof.RefA.lean ====
module

public import proofs.«01_k».proof.Proof.Gen.ReferenceIdeal.Read
public import proofs.«01_k».proof.Proof.Soft

@[expose] public section

set_option maxRecDepth 16384

noncomputable section

open Idealize.ShloMosaic Idealize.ShloMosaic.TcCoe Idealize.SL.Sem

namespace Cert.ReferenceIdeal.Moba

open Cert.ReferenceIdeal Cert.ReferenceIdeal.Gen Cert.ReferenceIdeal.Read

/-- The three arguments: queries, keys and values, block means. -/
abbrev Q := FVec Ideal S4x4096x1024 .f32
abbrev KV := FVec Ideal S4x4096x2x4x64 .f32
abbrev MM := FVec Ideal S4x4x16x64 .f32

theorem v3_at (q : Q) (b g r : Fin 4) (t : Fin 4096) (d : Fin 64) :
    val_main_v3 (F := Ideal) q (ix5 b g r t d)
      = q (ix3 b t ⟨g.val * 256 + r.val * 64 + d.val, by omega⟩) * Ideal.ofBits .f32 0x3E000000#32 := by
  pointwise [val_main_v3, val_main_v2, val_main_v1, val_main_v0, val_main_cst]

theorem v8_at (q : Q) (mm : MM) (b g r : Fin 4) (t : Fin 4096) (n : Fin 16) :
    val_main_v8 (F := Ideal) q mm (ix5 b g r t n) = ∑ d : Fin 64, val_main_v3 (F := Ideal) q (ix5 b g r t d) * mm (ix4 b g n d) := by
  pointwise [val_main_v8]

theorem v7_word : ∀ t : Fin 4096, Scalar.select
      (IntOp.andi
        (IntOp.cmpi CmpIPredicate.ne
          (if BitVec.ofNat 32 t.val = 0 then (0 : BitVec 32) else if (BitVec.ofNat 32 t.val).msb = true then -1 else 1)
          (if (256#32) = 0 then (0 : BitVec 32)
          else if BitVec.msb (256#32) = true then -1 else 1))
        (IntOp.cmpi CmpIPredicate.ne (IntOp.remsi ArithUnit.host (BitVec.ofNat 32 t.val) (256#32))
          0#32))
      (IntOp.subi (IntOp.divsi ArithUnit.host (BitVec.ofNat 32 t.val) (256#32)) 1#32)
      (IntOp.divsi ArithUnit.host (BitVec.ofNat 32 t.val) (256#32)) = BitVec.ofNat 32 (t.val / 256) := by decide +kernel

/-- The block of a position. -/
theorem v7_at (t : Fin 4096) : val_main_v7 (F := Ideal) (ix2 t 0) = BitVec.ofNat 32 (t.val / 256) := by
  pointwise [val_main_v7, val_main_call0_v13, val_main_call0_v12, val_main_call0_c_0, val_main_call0_v11, val_main_call0_v10, val_main_call0_v9, val_main_call0_v8, val_main_call0_v7,
   val_main_call0_v6, val_main_call0_v5, val_main_call0_v4, val_main_call0_v3, val_main_call0_v2, val_main_call0_v1, val_main_call0_v0, val_main_call0_c, val_main_v5, val_main_v4, val_main_c]
  exact v7_word t

theorem select_dec (p : Prop) [Decidable p] (x y : EReal) : Scalar.select (BitVec.ofBool (decide p)) x y = if p then x else y := by
  by_cases h : p <;> simp [h, Scalar.select]

theorem slt16 : ∀ b c : Fin 16, IntOp.cmpi .slt (BitVec.ofNat 32 b.val) (BitVec.ofNat 32 c.val) = BitVec.ofBool (decide (b.val < c.val)) := by decide +kernel

theorem neg_inf : Ideal.ofBits .f32 0xFF800000#32 = ⊥ := by simp [Ideal.ofBits, Ideal.ieee]

/-- The masked gate scores. -/
theorem v13_at (q : Q) (mm : MM) (b g r : Fin 4) (t : Fin 4096) (n : Fin 16) :
    val_main_v13 (F := Ideal) q mm (ix5 b g r t n) = if n.val < t.val / 256 then val_main_v8 (F := Ideal) q mm (ix5 b g r t n) else ⊥ := by
  pointwise [val_main_v13, val_main_call1_v1, val_main_call1_v2, val_main_call1_v0, val_main_cst_0, val_main_v12, val_main_v11, val_main_v10, val_main_v9, val_main_v6]
  rw [v7_at]
  have := slt16 n ⟨t.val / 256, by omega⟩
  dsimp only at this
  rw [this, select_dec]
  refine if_congr Iff.rfl rfl ?_
  exact neg_inf

end Cert.ReferenceIdeal.Moba
-- ==== Proof.RefT.lean ====
module

public import proofs.«01_k».proof.Proof.RefA

@[expose] public section

set_option maxRecDepth 16384

noncomputable section

open Idealize.ShloMosaic Idealize.ShloMosaic.TcCoe Idealize.SL.Sem

namespace Cert.ReferenceIdeal.Moba

open Cert.ReferenceIdeal Cert.ReferenceIdeal.Gen Cert.ReferenceIdeal.Read

/-- Two arrays sorted together along an axis, read at `j`: both are read at the position of the fiber that the stable sort
    puts at `j`'s coordinate. -/
theorem sort2_gen {s : Shape} {α β : Type} (d : Nat) (hd : d < s.rank) (x : s.Idx → α) (y : s.Idx → β) (gt : α → α → BitVec 1)
    (j : s.Idx) (e : Fin (s.size ⟨d, hd⟩) → s.Idx) (he : ∀ k, j.along ⟨d, hd⟩ k = e k) :
    (Host.sort2 s d (fun l r => gt l.1 r.1) x y).1 j = x (e (sortedFrom (fun k k' => gt (x (e k)) (x (e k')) == 1#1) (j ⟨d, hd⟩)))
    ∧ (Host.sort2 s d (fun l r => gt l.1 r.1) x y).2 j = y (e (sortedFrom (fun k k' => gt (x (e k)) (x (e k')) == 1#1) (j ⟨d, hd⟩))) := by
  unfold Host.sort2
  rw [dif_pos hd]
  dsimp only
  simp only [he]
  exact ⟨trivial, trivial⟩

/-- The masked gate scores of one query head and position. -/
abbrev gcol (q : Q) (mm : MM) (b g r : Fin 4) (t : Fin 4096) : Fin 16 → EReal := fun n => val_main_v13 (F := Ideal) q mm (ix5 b g r t n)

/-- The block that the `i`-th largest gate score of a position belongs to. -/
abbrev topBlock (q : Q) (mm : MM) (b g r : Fin 4) (t : Fin 4096) (i : Fin 3) : Fin 16 :=
  sortedFrom (fun k k' => decide (gcol q mm b g r t k' < gcol q mm b g r t k)) (i.castLE (by norm_num))

theorem sort_eq (q : Q) (mm : MM) (b g r : Fin 4) (t : Fin 4096) :
    (sortedFrom (fun k k' : Fin 16 => (FloatOps.cmpfTotal (F := Ideal) (φ := .f32) .gt (gcol q mm b g r t k) (gcol q mm b g r t k')) == 1#1))
      = sortedFrom (fun k k' => decide (gcol q mm b g r t k' < gcol q mm b g r t k)) := by
  refine congrArg sortedFrom (funext fun k => funext fun k' => ?_)
  show (BitVec.ofBool (decide (gcol q mm b g r t k' < gcol q mm b g r t k)) == 1#1) = _
  by_cases h : gcol q mm b g r t k' < gcol q mm b g r t k <;> simp [h]

theorem along_eq (b g r : Fin 4) (t : Fin 4096) (n k : Fin 16) :
    (ix5 b g r t n : S4x4x4x4096x16.Idx).along (4 : Fin 5) k = ix5 b g r t k := by
  funext a; match a with
  | ⟨0, _⟩ => rfl
  | ⟨1, _⟩ => rfl
  | ⟨2, _⟩ => rfl
  | ⟨3, _⟩ => rfl
  | ⟨4, _⟩ => rfl

theorem four_lt : 4 < S4x4x4x4096x16.rank := by decide

theorem sort2_at (x : S4x4x4x4096x16.Idx → EReal) (y : S4x4x4x4096x16.Idx → BitVec 32) (gt : EReal → EReal → BitVec 1)
    (b g r : Fin 4) (t : Fin 4096) (n : Fin 16) :
    (Host.sort2 S4x4x4x4096x16 4 (fun l r => gt l.1 r.1) x y).1 (ix5 b g r t n)
      = x (ix5 b g r t (sortedFrom (fun k k' : Fin 16 => gt (x (ix5 b g r t k)) (x (ix5 b g r t k')) == 1#1) n))
    ∧ (Host.sort2 S4x4x4x4096x16 4 (fun l r => gt l.1 r.1) x y).2 (ix5 b g r t n)
      = y (ix5 b g r t (sortedFrom (fun k k' : Fin 16 => gt (x (ix5 b g r t k)) (x (ix5 b g r t k')) == 1#1) n)) :=
  sort2_gen (s := S4x4x4x4096x16) 4 four_lt x y gt (ix5 b g r t n) (fun k : Fin 16 => ix5 b g r t k) (along_eq b g r t n)

/-- The `i`-th largest gate score. -/
theorem values_at (q : Q) (mm : MM) (b g r : Fin 4) (t : Fin 4096) (i : Fin 3) :
    val_main_values (F := Ideal) q mm (ix5 b g r t i) = gcol q mm b g r t (topBlock q mm b g r t i) := by
  unfold topBlock
  rw [← sort_eq]
  unfold val_main_values Host.topK
  dsimp only
  rw [extractStridedSlice_apply _ _ _ (ix5 b g r t i) (ix5 b g r t (i.castLE (by norm_num))) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm)]
  exact (sort2_at _ _ _ b g r t _).1

/-- The block of the `i`-th largest gate score, as a word. -/
theorem indices_at (q : Q) (mm : MM) (b g r : Fin 4) (t : Fin 4096) (i : Fin 3) :
    val_main_indices (F := Ideal) q mm (ix5 b g r t i) = BitVec.ofNat 32 (topBlock q mm b g r t i).val := by
  unfold topBlock
  rw [← sort_eq]
  unfold val_main_indices Host.topK
  dsimp only
  rw [extractStridedSlice_apply _ _ _ (ix5 b g r t i) (ix5 b g r t (i.castLE (by norm_num))) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm)]
  refine (sort2_at _ _ _ b g r t _).2.trans ?_
  rfl

end Cert.ReferenceIdeal.Moba
-- ==== Proof.RefB.lean ====
module

public import proofs.«01_k».proof.Proof.RefA

@[expose] public section

set_option maxRecDepth 16384

noncomputable section

open Idealize.ShloMosaic Idealize.ShloMosaic.TcCoe Idealize.SL.Sem

namespace Cert.ReferenceIdeal.Moba

open Cert.ReferenceIdeal Cert.ReferenceIdeal.Gen Cert.ReferenceIdeal.Read

/-- The score of a query and a key position. -/
theorem v49_at (q : Q) (kv : KV) (b g r : Fin 4) (t p : Fin 4096) :
    val_main_v49 (F := Ideal) q kv (ix5 b g r t p) = ∑ d : Fin 64, val_main_v3 (F := Ideal) q (ix5 b g r t d) * kv (ix5 b p 0 g d) := by
  pointwise [val_main_v49, val_main_v45, val_main_v44, val_main_v43]

/-- The masked score. -/
theorem v50_at (q : Q) (kv : KV) (mm : MM) (b g r : Fin 4) (t p : Fin 4096) :
    val_main_v50 (F := Ideal) q kv mm (ix5 b g r t p)
     = Scalar.select (val_main_v42 (F := Ideal) q mm (ix5 b g r t p)) (val_main_v49 (F := Ideal) q kv (ix5 b g r t p)) (Ideal.ofBits .f32 0xFF800000#32) := by
  pointwise [val_main_v50, val_main_call2_v1, val_main_call2_v0, val_main_cst_3]
  rfl

/-- The row's largest masked score. -/
theorem v51_at (q : Q) (kv : KV) (mm : MM) (b g r : Fin 4) (t : Fin 4096) :
    val_main_v51 (F := Ideal) q kv mm (ix4 b g r t)
     = (Finset.univ.sup fun p : Fin 4096 => val_main_v50 (F := Ideal) q kv mm (ix5 b g r t p) : EReal) := by
  pointwise [val_main_v51, val_main_cst_4]
  rw [neg_inf]; rfl

theorem pos_inf : Ideal.ofBits .f32 0x7F800000#32 = ⊤ := by simp [Ideal.ofBits, Ideal.ieee]

theorem bits_zero : Ideal.ofBits .f32 0x00000000#32 = 0 := by simp [Ideal.ofBits, Ideal.ieee]

/-- An absolute value below infinity: neither infinity. -/
theorem abs_lt_top (x : EReal) : ((x.abs : EReal) < ⊤) ↔ ¬ (x = ⊤ ∨ x = ⊥) := by
  induction x using EReal.rec with
  | bot => simp
  | top => simp
  | coe r => simp [EReal.abs_def]

/-- The word of `|x| < inf`. -/
theorem absf_word (x : EReal) :
    (FloatOps.cmpf (F := Ideal) (φ := .f32) .olt (FloatOps.hostAbsf (F := Ideal) (φ := .f32) x) (FloatOps.ofBits (F := Ideal) .f32 0x7F800000#32))
      = BitVec.ofBool (decide (¬ (x = ⊤ ∨ x = ⊥))) := by
  have h : (FloatOps.cmpf (F := Ideal) (φ := .f32) .olt (FloatOps.hostAbsf (F := Ideal) (φ := .f32) x) (FloatOps.ofBits (F := Ideal) .f32 0x7F800000#32))
      = BitVec.ofBool (decide ((max x (-x) : EReal) < Ideal.ofBits .f32 0x7F800000#32)) := rfl
  rw [h, pos_inf]
  congr 2
  apply propext
  induction x using EReal.rec with
  | bot => simp
  | top => simp
  | coe r => simp [← EReal.coe_neg]

/-- The shift of the exponentials: the largest score when it is finite, else zero. -/
theorem v56_at (q : Q) (kv : KV) (mm : MM) (b g r : Fin 4) (t : Fin 4096) :
    val_main_v56 (F := Ideal) q kv mm (ix5 b g r t 0)
     = if val_main_v51 (F := Ideal) q kv mm (ix4 b g r t) = ⊤ ∨ val_main_v51 (F := Ideal) q kv mm (ix4 b g r t) = ⊥ then 0
        else val_main_v51 (F := Ideal) q kv mm (ix4 b g r t) := by
  rw [val_main_v56_apply, val_main_v55_apply, val_main_v54_apply, val_main_v53_apply, val_main_v52_apply, val_main_call3_v1_apply,
    val_main_call3_v0_apply, val_main_cst_5_apply, val_main_cst_6_apply]
  have e : idx_main_v52 (ix5 b g r t 0) = ix4 b g r t := by
    funext a; match a with
    | ⟨0, _⟩ => rfl
    | ⟨1, _⟩ => rfl
    | ⟨2, _⟩ => rfl
    | ⟨3, _⟩ => rfl
  rw [e]
  generalize val_main_v51 (F := Ideal) q kv mm (ix4 b g r t) = m
  rw [absf_word, select_dec, ite_not]
  exact if_congr Iff.rfl bits_zero rfl

/-- The exponential of a shifted masked score. -/
theorem v59_at (q : Q) (kv : KV) (mm : MM) (b g r : Fin 4) (t p : Fin 4096) :
    val_main_v59 (F := Ideal) q kv mm (ix5 b g r t p)
     = Ideal.exp (val_main_v50 (F := Ideal) q kv mm (ix5 b g r t p) - val_main_v56 (F := Ideal) q kv mm (ix5 b g r t 0)) := by
  rw [val_main_v59_apply, val_main_v58_apply, val_main_v57_apply]
  have e : idx_main_v57 (ix5 b g r t p) = ix5 b g r t 0 := by
    funext a; match a with
    | ⟨0, _⟩ => rfl
    | ⟨1, _⟩ => rfl
    | ⟨2, _⟩ => rfl
    | ⟨3, _⟩ => rfl
    | ⟨4, _⟩ => rfl
  rw [e]
  generalize val_main_v50 (F := Ideal) q kv mm (ix5 b g r t p) = x
  generalize val_main_v56 (F := Ideal) q kv mm (ix5 b g r t 0) = y
  rfl

/-- The softmax weight. -/
theorem v65_at (q : Q) (kv : KV) (mm : MM) (b g r : Fin 4) (t p : Fin 4096) :
    val_main_v65 (F := Ideal) q kv mm (ix5 b g r t p)
     = Ideal.div (val_main_v59 (F := Ideal) q kv mm (ix5 b g r t p))
        (max (∑ p' : Fin 4096, val_main_v59 (F := Ideal) q kv mm (ix5 b g r t p')) (Ideal.ofBits .f32 0x0DA24260#32)) := by
  pointwise [val_main_v65, val_main_v64, val_main_v63, val_main_v62, val_main_v61, val_main_v60, val_main_cst_7, val_main_cst_8]

/-- The weighted sum of the values. -/
theorem v66_at (q : Q) (kv : KV) (mm : MM) (b g r : Fin 4) (t : Fin 4096) (d : Fin 64) :
    val_main_v66 (F := Ideal) q kv mm (ix5 b g r t d)
     = ∑ p : Fin 4096, val_main_v65 (F := Ideal) q kv mm (ix5 b g r t p) * kv (ix5 b p 1 g d) := by
  pointwise [val_main_v66, val_main_v48, val_main_v47, val_main_v46]

/-- The result, read at a row and a column. -/
theorem v68_at (q : Q) (kv : KV) (mm : MM) (row : Fin 16384) (h : Fin 1024) :
    val_main_v68 (F := Ideal) q kv mm (ix2 row h)
     = val_main_v66 (F := Ideal) q kv mm (ix5 ⟨row.val / 4096, by omega⟩ ⟨h.val / 256, by omega⟩ ⟨h.val / 64 % 4, by omega⟩ ⟨row.val % 4096, by omega⟩ ⟨h.val % 64, by omega⟩) := by
  pointwise [val_main_v68, val_main_v67]

end Cert.ReferenceIdeal.Moba
-- ==== Proof.RefM.lean ====
module

public import proofs.«01_k».proof.Proof.RefT
public import proofs.«01_k».proof.Proof.RefB

@[expose] public section

set_option maxRecDepth 16384

noncomputable section

open Idealize.ShloMosaic Idealize.ShloMosaic.TcCoe Idealize.SL.Sem

namespace Cert.ReferenceIdeal.Moba

open Cert.ReferenceIdeal Cert.ReferenceIdeal.Gen Cert.ReferenceIdeal.Read

theorem or_word (P R : Prop) [Decidable P] [Decidable R] [Decidable (P ∨ R)] :
    IntOp.ori (BitVec.ofBool (decide P)) (BitVec.ofBool (decide R)) = BitVec.ofBool (decide (P ∨ R)) := by
  by_cases h1 : P <;> by_cases h2 : R <;> simp [h1, h2, IntOp.ori]

theorem and_word (P R : Prop) [Decidable P] [Decidable R] [Decidable (P ∧ R)] :
    IntOp.andi (BitVec.ofBool (decide P)) (BitVec.ofBool (decide R)) = BitVec.ofBool (decide (P ∧ R)) := by
  by_cases h1 : P <;> by_cases h2 : R <;> simp [h1, h2, IntOp.andi]

theorem eq16 : ∀ b c : Fin 16, IntOp.cmpi .eq (BitVec.ofNat 32 b.val) (BitVec.ofNat 32 c.val) = BitVec.ofBool (decide (b = c)) := by decide +kernel

/-- One of the three largest gate scores is finite and belongs to block `n`. -/
theorem v24_at (q : Q) (mm : MM) (b g r : Fin 4) (t : Fin 4096) (i : Fin 3) (n : Fin 16) :
    val_main_v24 (F := Ideal) q mm (ix6 b g r t i n)
      = BitVec.ofBool (decide (topBlock q mm b g r t i = n ∧ ¬ (gcol q mm b g r t n = ⊤ ∨ gcol q mm b g r t n = ⊥))) := by
  have h : val_main_v24 (F := Ideal) q mm (ix6 b g r t i n)
      = IntOp.andi (IntOp.cmpi .eq (val_main_indices (F := Ideal) q mm (ix5 b g r t i)) (BitVec.ofNat 32 n.val))
        (FloatOps.cmpf (F := Ideal) (φ := .f32) .olt (FloatOps.hostAbsf (F := Ideal) (φ := .f32) (val_main_values (F := Ideal) q mm (ix5 b g r t i))) (FloatOps.ofBits (F := Ideal) .f32 0x7F800000#32)) := by
    pointwise [val_main_v24, val_main_v23, val_main_v22, val_main_v21, val_main_v20, val_main_v19, val_main_v18, val_main_v17, val_main_v16, val_main_v15, val_main_v14, val_main_cst_1, val_main_v6]
  rw [h, indices_at, values_at, absf_word, eq16]
  by_cases e : topBlock q mm b g r t i = n
  · rw [e]
    by_cases e' : gcol q mm b g r t n = ⊤ ∨ gcol q mm b g r t n = ⊥ <;> simp [e', IntOp.andi]
  · simp [e, IntOp.andi]

theorem fold_ori {ι : Type} [DecidableEq ι] (s : Finset ι) (P : ι → Prop) [DecidablePred P] :
    s.fold IntOp.ori (0#1) (fun i => BitVec.ofBool (decide (P i))) = BitVec.ofBool (decide (∃ i ∈ s, P i)) := by
  induction s using Finset.induction_on with
  | empty => simp
  | insert a s ha ih =>
    rw [Finset.fold_insert ha, ih]
    by_cases h1 : P a <;> by_cases h2 : ∃ i ∈ s, P i <;> simp [h1, h2, IntOp.ori]

theorem red24 : (S4x4x4x4096x3x16).Reduces [4] S4x4x4x4096x16 := by decide

theorem lift_eq (b g r : Fin 4) (t : Fin 4096) (n : Fin 16) (i : Fin 3) :
    red24.lift (ix5 b g r t n) i = ix6 b g r t i n := by
  funext a; match a with
  | ⟨0, _⟩ => rfl
  | ⟨1, _⟩ => rfl
  | ⟨2, _⟩ => rfl
  | ⟨3, _⟩ => rfl
  | ⟨4, _⟩ => rfl
  | ⟨5, _⟩ => rfl

/-- Block `n` is among the three best and its score is finite. -/
theorem v25_at (q : Q) (mm : MM) (b g r : Fin 4) (t : Fin 4096) (n : Fin 16) :
    val_main_v25 (F := Ideal) q mm (ix5 b g r t n)
      = BitVec.ofBool (decide ((∃ i, topBlock q mm b g r t i = n) ∧ ¬ (gcol q mm b g r t n = ⊤ ∨ gcol q mm b g r t n = ⊥))) := by
  unfold val_main_v25
  rw [Host.reduce_eq_fold_single IntOp.ori _ _ _ red24 h_S_]
  have e : (val_main_v24 (F := Ideal) q mm ∘ red24.lift (ix5 b g r t n))
      = fun i : Fin 3 => BitVec.ofBool (decide (topBlock q mm b g r t i = n ∧ ¬ (gcol q mm b g r t n = ⊤ ∨ gcol q mm b g r t n = ⊥))) := by
    funext i
    exact (congrArg _ (lift_eq b g r t n i)).trans (v24_at q mm b g r t i n)
  rw [e]
  refine (fold_ori (ι := Fin 3) Finset.univ _).trans ?_
  congr 2
  apply propext
  constructor
  · rintro ⟨i, _, h1, h2⟩; exact ⟨⟨i, h1⟩, h2⟩
  · rintro ⟨⟨i, h1⟩, h2⟩; exact ⟨i, Finset.mem_univ _, h1, h2⟩

/-- The chosen blocks of a position: those, and its own. -/
def Chosen (q : Q) (mm : MM) (b g r : Fin 4) (t : Fin 4096) (n : Fin 16) : Prop :=
  ((∃ i, topBlock q mm b g r t i = n) ∧ ¬ (gcol q mm b g r t n = ⊤ ∨ gcol q mm b g r t n = ⊥)) ∨ n.val = t.val / 256

theorem eq_block : ∀ b c : Fin 16, IntOp.cmpi .eq (BitVec.ofNat 32 b.val) (BitVec.ofNat 32 c.val) = BitVec.ofBool (decide (b.val = c.val)) := by decide +kernel

open Classical in
theorem v32_at (q : Q) (mm : MM) (b g r : Fin 4) (t : Fin 4096) (n : Fin 16) :
    val_main_v32 (F := Ideal) q mm (ix5 b g r t n) = BitVec.ofBool (decide (Chosen q mm b g r t n)) := by
  have h : val_main_v32 (F := Ideal) q mm (ix5 b g r t n)
      = IntOp.ori (val_main_v25 (F := Ideal) q mm (ix5 b g r t n)) (IntOp.cmpi .eq (BitVec.ofNat 32 n.val) (val_main_v7 (F := Ideal) (ix2 t 0))) := by
    pointwise [val_main_v32, val_main_v31, val_main_v30, val_main_v29, val_main_v28, val_main_v27, val_main_v26, val_main_v6]
  have := eq_block n ⟨t.val / 256, by omega⟩
  dsimp only at this
  rw [h, v25_at, v7_at, this]
  rw [or_word]
  congr 2

theorem v35_at (q : Q) (mm : MM) (b g r : Fin 4) (t p : Fin 4096) :
    val_main_v35 (F := Ideal) q mm (ix5 b g r t p) = val_main_v32 (F := Ideal) q mm (ix5 b g r t ⟨p.val / 256, by omega⟩) := by
  pointwise [val_main_v35, val_main_v34]

theorem sle_word (p t : Nat) (hp : p < 8192) (ht : t < 8192) :
    IntOp.cmpi .sle (BitVec.ofNat 32 p) (BitVec.ofNat 32 t) = BitVec.ofBool (decide (p ≤ t)) := by
  have h : (BitVec.ofNat 32 p).sle (BitVec.ofNat 32 t) = decide (p ≤ t) := by
    rw [BitVec.sle_eq_decide, BitVec.toInt_eq_toNat_of_lt (by simp; omega), BitVec.toInt_eq_toNat_of_lt (by simp; omega)]
    simp only [BitVec.toNat_ofNat, Nat.cast_le, decide_eq_decide]
    rw [Nat.mod_eq_of_lt (by omega), Nat.mod_eq_of_lt (by omega)]
  show BitVec.ofBool ((BitVec.ofNat 32 p).sle (BitVec.ofNat 32 t)) = _
  rw [h]

open Classical in
/-- The mask: a position of a chosen block, not after the query. -/
theorem v42_at (q : Q) (mm : MM) (b g r : Fin 4) (t p : Fin 4096) :
    val_main_v42 (F := Ideal) q mm (ix5 b g r t p)
      = BitVec.ofBool (decide (Chosen q mm b g r t ⟨p.val / 256, by omega⟩ ∧ p.val ≤ t.val)) := by
  have h : val_main_v42 (F := Ideal) q mm (ix5 b g r t p)
      = IntOp.andi (val_main_v35 (F := Ideal) q mm (ix5 b g r t p)) (IntOp.cmpi .sle (BitVec.ofNat 32 p.val) (BitVec.ofNat 32 t.val)) := by
    pointwise [val_main_v42, val_main_v41, val_main_v40, val_main_v39, val_main_v38, val_main_v37, val_main_v36, val_main_v33, val_main_v5, val_main_v4]
  rw [h, v35_at, v32_at, sle_word _ _ (by omega) (by omega)]
  rw [and_word]

open Classical in
/-- The masked score, in plain words: the score where the mask allows, minus infinity elsewhere. -/
theorem v50_if (q : Q) (kv : KV) (mm : MM) (b g r : Fin 4) (t p : Fin 4096) :
    val_main_v50 (F := Ideal) q kv mm (ix5 b g r t p)
     = if Chosen q mm b g r t ⟨p.val / 256, by omega⟩ ∧ p.val ≤ t.val then val_main_v49 (F := Ideal) q kv (ix5 b g r t p) else ⊥ := by
  rw [v50_at, v42_at, select_dec]
  exact if_congr Iff.rfl rfl neg_inf

end Cert.ReferenceIdeal.Moba
-- ==== Proof.Point.lean ====
module

public import proofs.«01_k».proof.Proof.Tiles
public import proofs.«01_k».proof.Proof.RefM

@[expose] public section

set_option maxRecDepth 16384

noncomputable section

open Idealize.ShloMosaic Idealize.ShloMosaic.TcCoe Idealize.SL.Sem

namespace Cert.KernelIdeal.Moba

open Cert.KernelIdeal Cert.KernelIdeal.Gen Cert.ReferenceIdeal.Read
open Cert.ReferenceIdeal.Moba (Q KV MM gcol Chosen topBlock v3_at v8_at v13_at v49_at v50_if v51_at v56_at v59_at v65_at v66_at)

/-- The stabiliser of the division, a positive real. -/
theorem eps_real : ∃ ε : ℝ, 0 < ε ∧ Ideal.ofBits .f32 0x0DA24260#32 = (ε : EReal) := by
  refine ⟨_, ?_, by simp [Ideal.ofBits, Ideal.ieee]; rw [← EReal.coe_mul]⟩
  norm_num

theorem eighth : Ideal.ofBits .f32 0x3E000000#32 = ((1 / 8 : ℝ) : EReal) := by
  simp [Ideal.ofBits, Ideal.ieee]; rw [← EReal.coe_mul]; norm_num

/-- A finite sum of real numbers is real. -/
theorem real_sum {n : ℕ} (f : Fin n → EReal) (h : ∀ k, ∃ x : ℝ, f k = x) : ∃ x : ℝ, ∑ k, f k = x := by
  choose g hg using h
  exact ⟨∑ k, g k, by simp only [hg]; exact (map_sum (⟨⟨((↑) : ℝ → EReal), rfl⟩, EReal.coe_add⟩ : ℝ →+ EReal) g Finset.univ).symm⟩

section
variable (q : Q) (kv : KV) (mm : MM)
variable (i : grid0.Coords) (a : Fin 8) (x0 : Vec Ideal S512x256 .f32) (x1 : Vec Ideal S1x4096x128 .bf16)
  (x2 : Vec Ideal S1x80x4096 .bf16) (x3 : Vec Ideal S1x64x64 .f32) (b g r : Fin 4) (τ : Fin 512) (T : Fin 4096) (col : Fin 2048)

/-- The scaled query of a column is the reference's. -/
theorem query_eq (hcol : col.val = r.val * 512 + τ.val)
    (hx0 : ∀ d : Fin 64, x0 (ix2 τ ⟨r.val * 64 + d.val, by omega⟩) = q (ix3 b T ⟨g.val * 256 + r.val * 64 + d.val, by omega⟩)) (d : Fin 64) :
    k0_pay3 (F := Ideal) x0 (ix3 0 d col) = val_main_v3 (F := Ideal) q (ix5 b g r T d) := by
  rw [pay3_at, v3_at, ← hx0 d]
  refine congrArg (· * _) (congrArg x0 ((ix2_inj _ _ _ _).2 ⟨Fin.ext ?_, Fin.ext ?_⟩))
  · show col.val % 512 = τ.val; omega
  · show col.val / 512 * 64 + d.val = r.val * 64 + d.val; omega

/-- The masked gate scores of a column are the reference's. -/
theorem gate_eq (ha : i 1 = a) (hcol : col.val = r.val * 512 + τ.val) (hT : T.val = 512 * a.val + τ.val)
    (hx0 : ∀ d : Fin 64, x0 (ix2 τ ⟨r.val * 64 + d.val, by omega⟩) = q (ix3 b T ⟨g.val * 256 + r.val * 64 + d.val, by omega⟩))
    (hx3 : ∀ (n : Fin 16) (d : Fin 64), x3 (ix3 0 (n.castLE (by norm_num)) d) = mm (ix4 b g n d)) :
    colOf (gates (F := Ideal) i x0 x3) col = gcol q mm b g r T := by
  subst ha
  funext n
  have hp : pos (i 1) col = T.val := by unfold pos; omega
  show gates (F := Ideal) i x0 x3 (ix3 0 n col) = val_main_v13 (F := Ideal) q mm (ix5 b g r T n)
  rw [gates_at, v13_at, hp, pay5_at, v8_at]
  refine if_congr Iff.rfl (Finset.sum_congr rfl fun d _ => ?_) rfl
  rw [query_eq q x0 b g r τ T col hcol hx0 d, mul_comm]
  exact congrArg (_ * ·) (hx3 n d)

/-- The gate score of an earlier block is a real number. -/
theorem gate_real (hq : ∀ j, ∃ x : ℝ, q j = x) (hm : ∀ j, ∃ x : ℝ, mm j = x) (n : Fin 16) :
    ∃ x : ℝ, val_main_v8 (F := Ideal) q mm (ix5 b g r T n) = x := by
  rw [v8_at]
  refine real_sum _ fun d => ?_
  obtain ⟨y, hy⟩ := hq (ix3 b T ⟨g.val * 256 + r.val * 64 + d.val, by omega⟩)
  obtain ⟨z, hz⟩ := hm (ix4 b g n d)
  refine ⟨y * (1 / 8) * z, ?_⟩
  rw [v3_at, hy, hz, eighth, ← EReal.coe_mul, ← EReal.coe_mul]

/-- The masked gate score is finite exactly for the blocks before the query's. -/
theorem gate_finite (hq : ∀ j, ∃ x : ℝ, q j = x) (hm : ∀ j, ∃ x : ℝ, mm j = x) (n : Fin 16) :
    (¬ (gcol q mm b g r T n = ⊤ ∨ gcol q mm b g r T n = ⊥)) ↔ n.val < T.val / 256 := by
  have e : gcol q mm b g r T n = if n.val < T.val / 256 then val_main_v8 (F := Ideal) q mm (ix5 b g r T n) else ⊥ := v13_at q mm b g r T n
  obtain ⟨x, hx⟩ := gate_real q mm b g r T hq hm n
  rw [e, hx]
  by_cases h : n.val < T.val / 256
  · rw [if_pos h]; simp [h]
  · rw [if_neg h]; simp [h]

theorem prop_swap (A B C : Prop) : (A ∨ B ∧ C) ↔ ((C ∧ B) ∨ A) := by tauto

/-- The kernel's and the reference's choice of blocks are the same. -/
theorem chosen_iff (hq : ∀ j, ∃ x : ℝ, q j = x) (hm : ∀ j, ∃ x : ℝ, mm j = x) (n : Fin 16) :
    (n.val = T.val / 256 ∨ n.val < T.val / 256 ∧ _root_.Moba.rank (gcol q mm b g r T) n < 3) ↔ Chosen q mm b g r T n := by
  have hs : (∃ k : Fin 3, topBlock q mm b g r T k = n) ↔ _root_.Moba.rank (gcol q mm b g r T) n < 3 :=
    _root_.Moba.exists_sorted_iff (by norm_num) (gcol q mm b g r T) n
  unfold Chosen
  rw [hs, gate_finite q mm b g r T hq hm n]
  exact prop_swap _ _ _

open Classical in
/-- The masked scores of a column are the reference's. -/
theorem score_eq (ha : i 1 = a) (hcol : col.val = r.val * 512 + τ.val) (hT : T.val = 512 * a.val + τ.val)
    (hq : ∀ j, ∃ x : ℝ, q j = x) (hm : ∀ j, ∃ x : ℝ, mm j = x)
    (hx0 : ∀ d : Fin 64, x0 (ix2 τ ⟨r.val * 64 + d.val, by omega⟩) = q (ix3 b T ⟨g.val * 256 + r.val * 64 + d.val, by omega⟩))
    (hx1 : ∀ (p : Fin 4096) (d : Fin 64), x1 (ix3 0 p (d.castLE (by norm_num))) = kv (ix5 b p 0 g d))
    (hx1' : ∀ (p : Fin 4096) (j : Fin 64), x1 (ix3 0 p ⟨64 + j.val, by omega⟩) = if p.val / 256 = j.val then (1 : EReal) else 0)
    (hx3 : ∀ (n : Fin 16) (d : Fin 64), x3 (ix3 0 (n.castLE (by norm_num)) d) = mm (ix4 b g n d)) :
    causal (pos a col) (score x1 (lhsOf (F := Ideal) i x0 x3) col) = fun p => val_main_v50 (F := Ideal) q kv mm (ix5 b g r T p) := by
  funext p
  have hp : pos a col = T.val := by unfold pos; omega
  have hlo : ∀ d : Fin 64, lhsOf (F := Ideal) i x0 x3 (ix3 0 (Fin.castAdd 64 d) col) = val_main_v3 (F := Ideal) q (ix5 b g r T d) := fun d => by
    refine (dif_pos (show ((Fin.castAdd 64 d : Fin 128)).val < 64 from d.isLt)).trans ?_
    exact (pay4_at x0 d col).trans (query_eq q x0 b g r τ T col hcol hx0 d)
  have hhi : ∀ j : Fin 64, lhsOf (F := Ideal) i x0 x3 (ix3 0 (Fin.natAdd 64 j) col) = bias (F := Ideal) i x0 x3 (ix3 0 j col) := fun j => by
    refine (dif_neg (show ¬ ((Fin.natAdd 64 j : Fin 128)).val < 64 by simp)).trans ?_
    refine congrArg (bias (F := Ideal) i x0 x3) ((ix3_inj _ _ _ _ _ _).2 ⟨rfl, Fin.ext ?_, rfl⟩)
    show 64 + j.val - 64 = j.val; omega
  have hbias : bias (F := Ideal) i x0 x3 (ix3 0 ⟨p.val / 256, by omega⟩ col) = if Chosen q mm b g r T ⟨p.val / 256, by omega⟩ then 0 else ⊥ := by
    refine (bias_at i x0 x3 ⟨p.val / 256, by omega⟩ col).trans ?_
    rw [gate_eq q mm i a x0 x3 b g r τ T col ha hcol hT hx0 hx3, ha, hp]
    exact if_congr (chosen_iff q mm b g r T hq hm ⟨p.val / 256, by omega⟩) rfl rfl
  have hscore : score x1 (lhsOf (F := Ideal) i x0 x3) col p
      = val_main_v49 (F := Ideal) q kv (ix5 b g r T p) + if Chosen q mm b g r T ⟨p.val / 256, by omega⟩ then 0 else ⊥ := by
    show (∑ k : Fin (64 + 64), x1 (ix3 0 p k) * lhsOf (F := Ideal) i x0 x3 (ix3 0 k col)) = _
    rw [Fin.sum_univ_add, v49_at]
    refine congrArg₂ (· + ·) (Finset.sum_congr rfl fun d _ => ?_) ?_
    · rw [hlo d, mul_comm]
      exact congrArg (_ * ·) (hx1 p d)
    · rw [Finset.sum_eq_single (⟨p.val / 256, by omega⟩ : Fin 64)]
      · rw [hhi, hbias]
        refine (congrArg (· * _) ((hx1' p ⟨p.val / 256, by omega⟩).trans (if_pos rfl))).trans (one_mul _)
      · intro j _ hj
        rw [hhi]
        refine (congrArg (· * _) ((hx1' p j).trans (if_neg fun h => hj (Fin.ext h.symm)))).trans (zero_mul _)
      · intro h; exact absurd (Finset.mem_univ _) h
  rw [v50_if]
  unfold causal
  rw [hp, hscore]
  by_cases h1 : p.val ≤ T.val
  · by_cases h2 : Chosen q mm b g r T ⟨p.val / 256, by omega⟩
    · rw [if_pos h1, if_pos h2, if_pos ⟨h2, h1⟩, add_zero]
    · rw [if_pos h1, if_neg h2, if_neg (fun h => h2 h.1), EReal.add_bot]
  · rw [if_neg h1, if_neg (fun h => h1 h.2)]

/-- What the kernel leaves at an element of a block is the reference's attention there. -/
theorem point_eq (ha : i 1 = a) (hcol : col.val = r.val * 512 + τ.val) (hT : T.val = 512 * a.val + τ.val)
    (hq : ∀ j, ∃ x : ℝ, q j = x) (hm : ∀ j, ∃ x : ℝ, mm j = x) (h : Fin 256) (d : Fin 64) (hr : h.val = r.val * 64 + d.val)
    (hx0 : ∀ d : Fin 64, x0 (ix2 τ ⟨r.val * 64 + d.val, by omega⟩) = q (ix3 b T ⟨g.val * 256 + r.val * 64 + d.val, by omega⟩))
    (hx1 : ∀ (p : Fin 4096) (d : Fin 64), x1 (ix3 0 p (d.castLE (by norm_num))) = kv (ix5 b p 0 g d))
    (hx1' : ∀ (p : Fin 4096) (j : Fin 64), x1 (ix3 0 p ⟨64 + j.val, by omega⟩) = if p.val / 256 = j.val then (1 : EReal) else 0)
    (hx2 : ∀ (p : Fin 4096) (d : Fin 64), x2 (ix3 0 (d.castLE (by norm_num)) p) = kv (ix5 b p 1 g d))
    (hx2' : ∀ p : Fin 4096, x2 (ix3 0 64 p) = (1 : EReal))
    (hx3 : ∀ (n : Fin 16) (d : Fin 64), x3 (ix3 0 (n.castLE (by norm_num)) d) = mm (ix4 b g n d)) :
    outOf (F := Ideal) i x0 x1 x2 x3 (ix2 τ h) = val_main_v66 (F := Ideal) q kv mm (ix5 b g r T d) := by
  have hC := (score_eq q kv mm i a x0 x1 x3 b g r τ T col ha hcol hT hq hm hx0 hx1 hx1' hx3).symm
  rw [outOf_at i a ha x0 x1 x2 x3 τ h col (by omega) _ hC]
  obtain ⟨ε, hε, e⟩ := eps_real
  have hV : vrow x2 ⟨h.val % 64, by omega⟩ = fun p => kv (ix5 b p 1 g d) := by
    funext p
    refine (congrArg x2 ((ix3_inj _ _ _ _ _ _).2 ⟨rfl, Fin.ext ?_, rfl⟩)).trans (hx2 p d)
    show h.val % 64 = d.val; omega
  have hO : vrow x2 64 = fun _ => 1 := funext hx2'
  rw [hV, hO, e, _root_.Moba.softmax_eq (fun p => val_main_v50 (F := Ideal) q kv mm (ix5 b g r T p)) (fun p => kv (ix5 b p 1 g d)) ε hε
    (val_main_v56 (F := Ideal) q kv mm (ix5 b g r T 0)) (by rw [v56_at, v51_at]), v66_at]
  refine Finset.sum_congr rfl fun p _ => ?_
  rw [v65_at, e]
  simp only [v59_at]

end

end Cert.KernelIdeal.Moba
-- ==== Proof.Main.lean ====
/-
  The attention whole. The result array of the kernel is the reference's attention: at each grid point the
  operand blocks are read through the host layout, and the block's elements are the reference's by `point_eq`.
  The precondition gives what that needs, queries and block means that are real numbers.
-/
module

public import proofs.«01_k».proof.Defs
public import proofs.«01_k».proof.Proof.Blocks
public import proofs.«01_k».proof.Proof.Point
public import Idealize.ShloMosaic.Lib.ReduceAll

@[expose] public section

set_option maxRecDepth 16384

noncomputable section

open Idealize.ShloMosaic Idealize.ShloMosaic.TcCoe Idealize.SL.Sem

namespace Cert.Pre_finite

/-- The shape facts the precondition's operations take. -/
theorem facts : Facts where
  bcast_S_S4x4096x1024 := by decide
  reducesTo_S4x4096x1024_S_d0_1_2 := by decide
  h_S_ := by decide
  bcast_S_S4x4x16x64 := by decide
  reducesTo_S4x4x16x64_S_d0_1_2_3 := by decide

instance : Subsingleton S_.Idx := ⟨fun a b => funext fun k => nomatch k⟩

/-- A word of the test `|x| < ∞` being 1 says that `x` is a real number. -/
theorem real_of_word (x : EReal)
    (h : (FloatOps.cmpf (F := Ideal) (φ := .f32) .olt (FloatOps.hostAbsf (F := Ideal) (φ := .f32) x) (FloatOps.ofBits (F := Ideal) .f32 0x7F800000#32)) = 1#1) :
    ∃ y : ℝ, x = y := by
  rw [Cert.ReferenceIdeal.Moba.absf_word] at h
  by_cases hx : x = ⊤ ∨ x = ⊥
  · rw [decide_eq_false (not_not.2 hx)] at h; exact absurd h (by decide)
  · rw [not_or] at hx
    exact ⟨x.toReal, (EReal.coe_toReal hx.1 hx.2).symm⟩

/-- What the precondition says of the arrays: queries and block means are real numbers. -/
theorem real [Facts] (q : FVec Ideal S4x4096x1024 .f32) (kv : FVec Ideal S4x4096x2x4x64 .f32) (mm : FVec Ideal S4x4x16x64 .f32)
    (h : fn (F := Ideal) q kv mm = fun _ => 1#1) : (∀ j, ∃ x : ℝ, q j = x) ∧ (∀ j, ∃ x : ℝ, mm j = x) := by
  have h0 := congrFun h (fun k => nomatch k)
  obtain ⟨h1, h2⟩ := IntOp.andi_eq_one.1 h0
  exact ⟨fun j => real_of_word _ (Host.reduce_andi_all _ _ _ _ _ h1 j), fun j => real_of_word _ (Host.reduce_andi_all _ _ _ _ _ h2 j)⟩

end Cert.Pre_finite

namespace Cert.KernelIdeal.Moba

open Cert.KernelIdeal Cert.KernelIdeal.Gen Cert.ReferenceIdeal.Read Cert.ReferenceIdeal.Moba

variable (m : (ℓ : Loc nD τ sig) → Buf (Elt Ideal) ℓ) (c : Dev nD)

/-- The kernel's result array is the reference's result of the same arguments. -/
theorem result_eq
    (hq : ∀ j, ∃ x : ℝ, @Eq EReal ((m ((c : Thread nD τ).loc main_arg0) : FVec Ideal S4x4096x1024 .f32) j) (x : EReal))
    (hm : ∀ j, ∃ x : ℝ, @Eq EReal ((m ((c : Thread nD τ).loc main_arg2) : FVec Ideal S4x4x16x64 .f32) j) (x : EReal)) :
    (dats m 0 c).arrAt 4 cfg0.N
      = val_main_v68 (F := Ideal) (m ((c : Thread nD τ).loc main_arg0)) (m ((c : Thread nD τ).loc main_arg1)) (m ((c : Thread nD τ).loc main_arg2)) := by
  refine final m c _ fun t τ h => ?_
  have ht : t.val < 128 := t.isLt
  rw [v68_at]
  refine (point_eq (m ((c : Thread nD _).loc main_arg0)) (m ((c : Thread nD _).loc main_arg1)) (m ((c : Thread nD _).loc main_arg2))
    (grid0.coords t) (tileOf t) (iblk m c 0 t) (iblk m c 1 t) (iblk m c 2 t) (iblk m c 3 t)
    ⟨t.val / 32, by omega⟩ ⟨t.val / 8 % 4, by omega⟩ ⟨h.val / 64, by omega⟩ τ ⟨512 * (t.val % 8) + τ.val, by omega⟩
    ⟨h.val / 64 * 512 + τ.val, by omega⟩ (coords1 t) rfl rfl hq hm h ⟨h.val % 64, by omega⟩ (by show h.val = h.val / 64 * 64 + h.val % 64; omega)
    ?_ ?_ ?_ ?_ ?_ ?_).trans ?_
  · intro d
    rw [blk0_at, v30_at]
    refine congrArg _ ((ix3_inj _ _ _ _ _ _).2 ⟨Fin.ext ?_, Fin.ext ?_, Fin.ext ?_⟩)
    · show ((t.val / 32 * 8 + t.val % 8) * 512 + τ.val) / 4096 = t.val / 32; omega
    · show ((t.val / 32 * 8 + t.val % 8) * 512 + τ.val) % 4096 = 512 * (t.val % 8) + τ.val; omega
    · show t.val / 8 % 4 * 256 + (h.val / 64 * 64 + d.val) = t.val / 8 % 4 * 256 + h.val / 64 * 64 + d.val; omega
  · intro p d
    rw [blk1_at, v21_lo]
    refine congrArg _ ((ix5_inj _ _ _ _ _ _ _ _ _ _).2 ⟨Fin.ext ?_, rfl, rfl, rfl, rfl⟩)
    show t.val / 8 / 4 = t.val / 32; omega
  · intro p j
    rw [blk1_at, v21_hi]
  · intro p d
    rw [blk2_at, v29_lo]
    refine congrArg _ ((ix5_inj _ _ _ _ _ _ _ _ _ _).2 ⟨Fin.ext ?_, rfl, rfl, rfl, rfl⟩)
    show t.val / 8 / 4 = t.val / 32; omega
  · intro p
    rw [blk2_at, v29_one]
  · intro n d
    rw [blk3_at, v1_at]
    refine congrArg _ ((ix4_inj _ _ _ _ _ _ _ _).2 ⟨Fin.ext ?_, rfl, rfl, rfl⟩)
    show t.val / 8 / 4 = t.val / 32; omega
  · refine congrArg _ ((ix5_inj _ _ _ _ _ _ _ _ _ _).2 ⟨Fin.ext ?_, Fin.ext ?_, Fin.ext ?_, Fin.ext ?_, Fin.ext ?_⟩)
    · show t.val / 32 = ((t.val / 32 * 8 + t.val % 8) * 512 + τ.val) / 4096; omega
    · show t.val / 8 % 4 = (t.val / 8 % 4 * 256 + h.val) / 256; omega
    · show h.val / 64 = (t.val / 8 % 4 * 256 + h.val) / 64 % 4; omega
    · show 512 * (t.val % 8) + τ.val = ((t.val / 32 * 8 + t.val % 8) * 512 + τ.val) % 4096; omega
    · show h.val % 64 = (t.val / 8 % 4 * 256 + h.val) % 64; omega

end Cert.KernelIdeal.Moba

end
-- ==== Proof.Cases2.lean ====
/-
  What the two points of a row tile leave in the buffers of the feed-forward kernel with the final norm: the first stores the
  normalised rows and the first column tile's products, the second adds its own products and stores the result.
-/
module

public import proofs.«01_k».proof.Proof.Gen.Kernel2Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable {F : FTy → Type} [FloatOps F]

theorem hz : (![0, 0] : Fin 2 → ℕ) = fun _ => 0 := funext fun a => by fin_cases a <;> rfl

/-- The first point leaves the normalised rows. -/
theorem first_rows (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i) (x0 : Vec F S512x1024 .f32) (x1 : Vec F S1x1024 .f32) (x2 : Vec F S1024x1408 .bf16) (x3 : Vec F S1024x1408 .bf16) (x4 : Vec F S1408x1024 .bf16) (x5 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero (S := S512x1024) hz]
  simp only [View.readAt_eq_ld, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz, View.ld_unit_zero (S := S1024x1408) hz, View.ld_unit_zero (S := S1408x1024) hz]

/-- The first point leaves the first column tile's products, added to zeros. -/
theorem first_sum (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i) (x0 : Vec F S512x1024 .f32) (x1 : Vec F S1x1024 .f32) (x2 : Vec F S1024x1408 .bf16) (x3 : Vec F S1024x1408 .bf16) (x4 : Vec F S1408x1024 .bf16) (x5 : Vec F S1x1024 .f32) :
    sout0_A_1 c i arg2 harg2 arg3 harg3 arg4 harg4 arg5 harg5 arg6 harg6 arg7 harg7 arg8 harg8 arg9 harg9 arg10 harg10 hc0 hc1 x0 x1 x2 x3 x4 x5 = k0_pay3 (k0_pay1 x0 x1) x2 x3 (k0_pay2 (F := F)) x4 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x1024) hz, View.readCov_unit_zero (S := S512x1024) _ hz, View.readCov_unit_zero (S := S512x1024) _ hz]
  simp only [View.readAt_eq_ld, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz, View.ld_unit_zero (S := S1024x1408) hz, View.ld_unit_zero (S := S1408x1024) hz]

/-- The second point leaves the block of the result. -/
theorem last_out (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : cond0_1 i) (x0 : Vec F S512x1024 .f32) (x1 : Vec F S1x1024 .f32) (x2 : Vec F S1024x1408 .bf16) (x3 : Vec F S1024x1408 .bf16) (x4 : Vec F S1408x1024 .bf16) (x5 : Vec F S1x1024 .f32) (xs0 : Vec F S512x1024 .bf16) (xs1 : Vec F S512x1024 .f32) :
    out0_B_6 c i arg2 harg2 arg3 harg3 arg4 harg4 arg5 harg5 arg6 harg6 arg7 harg7 arg8 harg8 arg9 harg9 arg10 harg10 hc0 hc1 x0 x1 x2 x3 x4 x5 xs0 xs1 = k0_pay4 x0 (k0_pay3 xs0 x2 x3 xs1 x4) x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S512x1024) hz, View.readCov_unit_zero (S := S512x1024) _ hz]
  simp only [View.readAt_eq_ld, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz, View.ld_unit_zero (S := S1024x1408) hz, View.ld_unit_zero (S := S1408x1024) hz]

end Cert.Kernel2Ideal.Ffn

end
-- ==== Proof.Ffn.lean ====
/-
  The feed-forward block on one row: the root-mean-square norm, the gated hidden unit, and the sum over
  the hidden units split into the two halves that the kernel takes one after the other.
-/
module

public import Idealize.ShloMosaic.Lib.Pointwise
public import Idealize.ShloMosaic.PureOps.Ideal.Laws

@[expose] public section

noncomputable section

open Idealize.ShloMosaic

namespace Cert.Ffn

/-- A row divided by the root of its mean square (with the small constant added), times the weights. -/
def normed (x g : Fin 1024 → EReal) (h : Fin 1024) : EReal :=
  x h * Ideal.rsqrt (Ideal.div (∑ k, x k * x k) (Ideal.ofBits .f32 0x44800000#32) + Ideal.ofBits .f32 0x358637BD#32) * g h

/-- One hidden unit: the gate's product times its logistic, times the other product. -/
def hidden (x a b : Fin 1024 → EReal) : EReal :=
  (∑ k, x k * a k) * Ideal.logistic (∑ k, x k * a k) * ∑ k, x k * b k

/-- A sum over the hidden units is the sum over the first half plus the sum over the second. -/
theorem sum_halves (f : Fin 2816 → EReal) :
    ∑ j, f j = (∑ j : Fin 1408, f ⟨j.val, by omega⟩) + ∑ j : Fin 1408, f ⟨1408 + j.val, by omega⟩ :=
  Fin.sum_univ_add (a := 1408) (b := 1408) f

end Cert.Ffn

end
-- ==== Proof.FfnReads2.lean ====
/-
  The feed-forward kernel's stored values, read at an index.
-/
module

public import proofs.«01_k».proof.Proof.Gen.Kernel2Ideal.Skeleton
public import proofs.«01_k».proof.Proof.Ffn

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn

/-- The normalised rows. -/
theorem pay1_at (x : Vec Ideal S512x1024 .f32) (g : Vec Ideal S1x1024 .f32) (r : Fin 512) (h : Fin 1024) :
    k0_pay1 (F := Ideal) x g (ix2 r h) = normed (fun k => x (ix2 r k)) (fun k => g (ix2 0 k)) h := by
  pointwise [k0_pay1]
  rfl

/-- The zeros the sum starts from. -/
theorem pay2_at (r : Fin 512) (h : Fin 1024) : k0_pay2 (F := Ideal) (ix2 r h) = (0 : EReal) := by
  pointwise [k0_pay2]

/-- The sum so far, plus the hidden units of a column tile times their output weights. -/
theorem pay3_at (x : Vec Ideal S512x1024 .bf16) (wg wu : Vec Ideal S1024x1408 .bf16) (a : Vec Ideal S512x1024 .f32) (wd : Vec Ideal S1408x1024 .bf16)
    (r : Fin 512) (h : Fin 1024) :
    k0_pay3 (F := Ideal) x wg wu a wd (ix2 r h)
      = a (ix2 r h) + ∑ j : Fin 1408, hidden (fun k => x (ix2 r k)) (fun k => wg (ix2 k j)) (fun k => wu (ix2 k j)) * wd (ix2 j h) := by
  pointwise [k0_pay3]
  rfl

/-- The result: the row plus the sum, normalised. -/
theorem pay4_at (x a : Vec Ideal S512x1024 .f32) (g : Vec Ideal S1x1024 .f32) (r : Fin 512) (h : Fin 1024) :
    k0_pay4 (F := Ideal) x a g (ix2 r h) = normed (fun k => x (ix2 r k) + a (ix2 r k)) (fun k => g (ix2 0 k)) h := by
  pointwise [k0_pay4]
  rfl

end Cert.Kernel2Ideal.Ffn

end
-- ==== Proof.FfnBlocks2.lean ====
/-
  The feed-forward kernel's operands and its blocks, read at an index, and what a row tile's second grid
  point writes back.
-/
module

public import proofs.«01_k».proof.Proof.Gen.Kernel2Ideal.Value
public import proofs.«01_k».proof.Proof.Cases2
public import proofs.«01_k».proof.Proof.FfnReads2
public import Idealize.ShloMosaic.Lib.Pipeline.ValueKit
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn

variable (m : (ℓ : Loc nD τ sig) → Buf (Elt Ideal) ℓ) (c : Dev nD)

/-- The operands are the arguments: the weights of the norms as one row, the others in another format. -/
theorem arg0_at (r : Fin 16384) (h : Fin 1024) :
    (V m c main_arg0 : FVec Ideal S16384x1024 .f32) (ix2 r h) = (m ((c : Thread nD τ).loc main_arg0) : FVec Ideal S16384x1024 .f32) (ix2 r h) := by
  rw [V_main_arg0]

theorem v0_at (h : Fin 1024) :
    (V m c main_v0 : FVec Ideal S1x1024 .f32) (ix2 0 h) = (m ((c : Thread nD τ).loc main_arg5) : FVec Ideal S1024 .f32) (ix1 h) := by
  unfold V
  repeat after_reads_at

theorem v1_at (h : Fin 1024) :
    (V m c main_v1 : FVec Ideal S1x1024 .f32) (ix2 0 h) = (m ((c : Thread nD τ).loc main_arg1) : FVec Ideal S1024 .f32) (ix1 h) := by
  unfold V
  repeat after_reads_at

theorem v2_at (k : Fin 1024) (j : Fin 2816) :
    (V m c main_v2 : FVec Ideal S1024x2816 .bf16) (ix2 k j) = (m ((c : Thread nD τ).loc main_arg2) : FVec Ideal S1024x2816 .f32) (ix2 k j) := by
  unfold V
  repeat after_reads_at

theorem v3_at (k : Fin 1024) (j : Fin 2816) :
    (V m c main_v3 : FVec Ideal S1024x2816 .bf16) (ix2 k j) = (m ((c : Thread nD τ).loc main_arg3) : FVec Ideal S1024x2816 .f32) (ix2 k j) := by
  unfold V
  repeat after_reads_at

theorem v4_at (j : Fin 2816) (h : Fin 1024) :
    (V m c main_v4 : FVec Ideal S2816x1024 .bf16) (ix2 j h) = (m ((c : Thread nD τ).loc main_arg4) : FVec Ideal S2816x1024 .f32) (ix2 j h) := by
  unfold V
  repeat after_reads_at

/-- Which block each window holds at a grid point. -/
theorem idx : ∀ t : Fin cfg0.N,
    (win0_0.index t 0 = t.val / 2 ∧ win0_0.index t 1 = 0)
    ∧ (win0_1.index t 0 = 0 ∧ win0_1.index t 1 = 0)
    ∧ (win0_2.index t 0 = 0 ∧ win0_2.index t 1 = t.val % 2)
    ∧ (win0_3.index t 0 = 0 ∧ win0_3.index t 1 = t.val % 2)
    ∧ (win0_4.index t 0 = t.val % 2 ∧ win0_4.index t 1 = 0)
    ∧ (win0_5.index t 0 = 0 ∧ win0_5.index t 1 = 0)
    ∧ (win0_6.index t 0 = t.val / 2 ∧ win0_6.index t 1 = 0) :=
  (by decide +kernel : ∀ t : Fin grid0.N, _)

theorem lt64 (t : Fin cfg0.N) : t.val < 64 := lt_of_lt_of_eq t.isLt N_0

theorem blk0_at (t : Fin cfg0.N) (r : Fin 512) (h : Fin 1024) :
    (iblk m c 0 t : FVec Ideal S512x1024 .f32) (ix2 r h)
      = (V m c main_arg0 : FVec Ideal S16384x1024 .f32) (ix2 ⟨t.val / 2 * 512 + r.val, by have := lt64 t; omega⟩ h) := by
  obtain ⟨⟨h1, h2⟩, -⟩ := idx t
  blk_ext [iblk, h1, h2]

theorem blk1_at (t : Fin cfg0.N) (h : Fin 1024) :
    (iblk m c 1 t : FVec Ideal S1x1024 .f32) (ix2 0 h) = (V m c main_v1 : FVec Ideal S1x1024 .f32) (ix2 0 h) := by
  obtain ⟨-, ⟨h1, h2⟩, -⟩ := idx t
  blk_ext [iblk, h1, h2]

theorem blk2_at (t : Fin cfg0.N) (k : Fin 1024) (j : Fin 1408) :
    (iblk m c 2 t : FVec Ideal S1024x1408 .bf16) (ix2 k j) = (V m c main_v2 : FVec Ideal S1024x2816 .bf16) (ix2 k ⟨t.val % 2 * 1408 + j.val, by omega⟩) := by
  obtain ⟨-, -, ⟨h1, h2⟩, -⟩ := idx t
  blk_ext [iblk, h1, h2]

theorem blk3_at (t : Fin cfg0.N) (k : Fin 1024) (j : Fin 1408) :
    (iblk m c 3 t : FVec Ideal S1024x1408 .bf16) (ix2 k j) = (V m c main_v3 : FVec Ideal S1024x2816 .bf16) (ix2 k ⟨t.val % 2 * 1408 + j.val, by omega⟩) := by
  obtain ⟨-, -, -, ⟨h1, h2⟩, -⟩ := idx t
  blk_ext [iblk, h1, h2]

theorem blk4_at (t : Fin cfg0.N) (j : Fin 1408) (h : Fin 1024) :
    (iblk m c 4 t : FVec Ideal S1408x1024 .bf16) (ix2 j h) = (V m c main_v4 : FVec Ideal S2816x1024 .bf16) (ix2 ⟨t.val % 2 * 1408 + j.val, by omega⟩ h) := by
  obtain ⟨-, -, -, -, ⟨h1, h2⟩, -⟩ := idx t
  blk_ext [iblk, h1, h2]

theorem blk5_at (t : Fin cfg0.N) (h : Fin 1024) :
    (iblk m c 5 t : FVec Ideal S1x1024 .f32) (ix2 0 h) = (V m c main_v0 : FVec Ideal S1x1024 .f32) (ix2 0 h) := by
  obtain ⟨-, -, -, -, -, ⟨h1, h2⟩, -⟩ := idx t
  blk_ext [iblk, h1, h2]

/-- What a row tile's first point leaves in the two scratch buffers. -/
theorem first (t : Fin cfg0.N) (h0 : t.val % 2 = 0) :
    (outsAt0 m c t.val t.isLt).2
      = (k0_pay1 (F := Ideal) (iblk m c 0 t) (iblk m c 1 t),
         k0_pay3 (F := Ideal) (k0_pay1 (F := Ideal) (iblk m c 0 t) (iblk m c 1 t)) (iblk m c 2 t) (iblk m c 3 t) (k0_pay2 (F := Ideal)) (iblk m c 4 t)) := by
  rw [outsAt0_A m c t h0 (by omega)]
  dsimp only
  rw [first_rows, first_sum]

/-- What a row tile's second point, `t`, leaves in the output block; `s` is the point before it. -/
theorem last (t s : Fin cfg0.N) (h1 : t.val % 2 = 1) (hs : s.val = t.val - 1) :
    (outsAt0 m c t.val t.isLt).1
      = k0_pay4 (F := Ideal) (iblk m c 0 t)
          (k0_pay3 (F := Ideal) (k0_pay1 (F := Ideal) (iblk m c 0 s) (iblk m c 1 s)) (iblk m c 2 t) (iblk m c 3 t)
            (k0_pay3 (F := Ideal) (k0_pay1 (F := Ideal) (iblk m c 0 s) (iblk m c 1 s)) (iblk m c 2 s) (iblk m c 3 s) (k0_pay2 (F := Ideal)) (iblk m c 4 s)) (iblk m c 4 t)) (iblk m c 5 t) := by
  obtain ⟨n, hn⟩ := s
  dsimp only at hs
  subst hs
  rw [outsAt0_B m c t (by omega) h1]
  dsimp only
  rw [last_out, first m c ⟨t.val - 1, hn⟩ (by dsimp only; omega)]

/-- The result array is whatever function its blocks are read off from. -/
theorem final (G : FVec Ideal S16384x1024 .f32)
    (hG : ∀ (t : Fin cfg0.N) (ht : t.val % 2 = 1) (r : Fin 512) (h : Fin 1024),
      ((outsAt0 m c t.val t.isLt).1 : FVec Ideal S512x1024 .f32) (ix2 r h)
        = G (ix2 ⟨t.val / 2 * 512 + r.val, by have := lt64 t; omega⟩ h)) :
    (dats m 0 c).arrAt 6 cfg0.N = G := by
  refine (dats m 0 c).arrAt_eq_of_covers 6 G (by decide +kernel) fun t hf y => ?_
  have ht : t.val % 2 = 1 := (flush0_6 t).mp hf
  obtain ⟨-, -, -, -, -, -, h1, h2⟩ := idx t
  blk_simp
  rw [after0_6]
  revert y
  intro (y : S512x1024.Idx)
  obtain ⟨r, h, rfl⟩ : ∃ (r : Fin 512) (h : Fin 1024), y = ix2 r h := ⟨y 0, y 1, by
    funext a; match a with
    | ⟨0, _⟩ => rfl
    | ⟨1, _⟩ => rfl⟩
  refine (hG t ht r h).trans ?_
  blk_ext [h1, h2]

end Cert.Kernel2Ideal.Ffn

end
-- ==== Proof.FfnRef2.lean ====
/-
  The feed-forward reference, read at an index.
-/
module

public import proofs.«01_k».proof.Proof.Gen.Reference2Ideal.Read
public import proofs.«01_k».proof.Proof.Ffn

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Reference2Ideal.Read Cert.Ffn

/-- The arguments' types: rows, norm weights, the two input weights, the output weights. -/
abbrev X := FVec Ideal S16384x1024 .f32
abbrev G := FVec Ideal S1024 .f32
abbrev W := FVec Ideal S1024x2816 .f32
abbrev D := FVec Ideal S2816x1024 .f32

theorem v12_at (x : X) (g : G) (r : Fin 16384) (h : Fin 1024) :
    val_main_v12 (F := Ideal) x g (ix2 r h) = normed (fun k => x (ix2 r k)) (fun k => g (ix1 k)) h := by
  pointwise [val_main_v12, val_main_v11, val_main_v10, val_main_v9, val_main_v8, val_main_v7, val_main_v6, val_main_v5, val_main_cst_1, val_main_v4, val_main_v3, val_main_cst_0,
    val_main_v2, val_main_v1, val_main_v0, val_main_cst]
  rfl

theorem v16_at (x : X) (g : G) (wg wu : W) (r : Fin 16384) (j : Fin 2816) :
    val_main_v16 (F := Ideal) x g wg wu (ix2 r j)
      = hidden (fun k => normed (fun k => x (ix2 r k)) (fun k => g (ix1 k)) k) (fun k => wg (ix2 k j)) (fun k => wu (ix2 k j)) := by
  pointwise [val_main_v16, val_main_v15, val_main_v14, val_main_v13, val_main_call0_v5, val_main_call0_v4, val_main_call0_cst_0, val_main_call0_v3, val_main_call0_v2, val_main_call0_cst, val_main_call0_v1, val_main_call0_v0]
  simp only [v12_at]
  rfl

/-- The residual sum. -/
theorem v18_at (x : X) (g : G) (wg wu : W) (wd : D) (r : Fin 16384) (h : Fin 1024) :
    val_main_v18 (F := Ideal) x g wg wu wd (ix2 r h)
      = x (ix2 r h) + ∑ j : Fin 2816, hidden (fun k => normed (fun k => x (ix2 r k)) (fun k => g (ix1 k)) k) (fun k => wg (ix2 k j)) (fun k => wu (ix2 k j)) * wd (ix2 j h) := by
  pointwise [val_main_v18, val_main_v17]
  simp only [v16_at]

/-- The result, normalised. -/
theorem v31_at (x : X) (g : G) (wg wu : W) (wd : D) (gf : G) (r : Fin 16384) (h : Fin 1024) :
    val_main_v31 (F := Ideal) x g wg wu wd gf (ix2 r h)
      = normed (fun k => val_main_v18 (F := Ideal) x g wg wu wd (ix2 r k)) (fun k => gf (ix1 k)) h := by
  pointwise [val_main_v31, val_main_v30, val_main_v29, val_main_v28, val_main_v27, val_main_v26, val_main_v25, val_main_v24, val_main_cst_4, val_main_v23, val_main_v22, val_main_cst_3,
    val_main_v21, val_main_v20, val_main_v19, val_main_cst_2]
  rfl

end Cert.Reference2Ideal.Ffn

end
-- ==== Proof.FfnMain2.lean ====
/-
  The feed-forward kernel's result is the reference's: the kernel adds the two halves of the hidden units
  one after the other to zero, the reference adds them all.
-/
module

public import proofs.«01_k».proof.Proof.FfnBlocks2
public import proofs.«01_k».proof.Proof.FfnRef2

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn

variable (m : (ℓ : Loc nD τ sig) → Buf (Elt Ideal) ℓ) (c : Dev nD)

/-- The arguments at their array types. -/
abbrev ax : FVec Ideal S16384x1024 .f32 := m ((c : Thread nD τ).loc main_arg0)
abbrev ag : FVec Ideal S1024 .f32 := m ((c : Thread nD τ).loc main_arg1)
abbrev awg : FVec Ideal S1024x2816 .f32 := m ((c : Thread nD τ).loc main_arg2)
abbrev awu : FVec Ideal S1024x2816 .f32 := m ((c : Thread nD τ).loc main_arg3)
abbrev awd : FVec Ideal S2816x1024 .f32 := m ((c : Thread nD τ).loc main_arg4)
abbrev agf : FVec Ideal S1024 .f32 := m ((c : Thread nD τ).loc main_arg5)

/-- The input blocks of a grid point, from the arguments. -/
theorem x_at (t : Fin cfg0.N) (r : Fin 512) (h : Fin 1024) :
    (iblk m c 0 t : FVec Ideal S512x1024 .f32) (ix2 r h) = ax m c (ix2 ⟨t.val / 2 * 512 + r.val, by have := lt64 t; omega⟩ h) :=
  (blk0_at m c t r h).trans (arg0_at m c _ h)

theorem g_at (t : Fin cfg0.N) (h : Fin 1024) : (iblk m c 1 t : FVec Ideal S1x1024 .f32) (ix2 0 h) = ag m c (ix1 h) :=
  (blk1_at m c t h).trans (v1_at m c h)

theorem wg_at (t : Fin cfg0.N) (k : Fin 1024) (j : Fin 1408) :
    (iblk m c 2 t : FVec Ideal S1024x1408 .bf16) (ix2 k j) = awg m c (ix2 k ⟨t.val % 2 * 1408 + j.val, by omega⟩) :=
  (blk2_at m c t k j).trans (v2_at m c k _)

theorem wu_at (t : Fin cfg0.N) (k : Fin 1024) (j : Fin 1408) :
    (iblk m c 3 t : FVec Ideal S1024x1408 .bf16) (ix2 k j) = awu m c (ix2 k ⟨t.val % 2 * 1408 + j.val, by omega⟩) :=
  (blk3_at m c t k j).trans (v3_at m c k _)

theorem wd_at (t : Fin cfg0.N) (j : Fin 1408) (h : Fin 1024) :
    (iblk m c 4 t : FVec Ideal S1408x1024 .bf16) (ix2 j h) = awd m c (ix2 ⟨t.val % 2 * 1408 + j.val, by omega⟩ h) :=
  (blk4_at m c t j h).trans (v4_at m c _ h)

theorem gf_at (t : Fin cfg0.N) (h : Fin 1024) : (iblk m c 5 t : FVec Ideal S1x1024 .f32) (ix2 0 h) = agf m c (ix1 h) :=
  (blk5_at m c t h).trans (v0_at m c h)

/-- The products of hidden unit `j` with its output weight, for a row and a column of the result. -/
abbrev unit (row : Fin 16384) (h : Fin 1024) (j : Fin 2816) : EReal :=
  hidden (fun k => normed (fun k => ax m c (ix2 row k)) (fun k => ag m c (ix1 k)) k) (fun k => awg m c (ix2 k j)) (fun k => awu m c (ix2 k j)) * awd m c (ix2 j h)

/-- A grid point's sum over its column tile, whose rows were normalised at point `s` of the same row tile. -/
theorem tile_sum (t s : Fin cfg0.N) (hs : s.val / 2 = t.val / 2) (a : FVec Ideal S512x1024 .f32) (r : Fin 512) (h : Fin 1024) :
    k0_pay3 (F := Ideal) (k0_pay1 (F := Ideal) (iblk m c 0 s) (iblk m c 1 s)) (iblk m c 2 t) (iblk m c 3 t) a (iblk m c 4 t) (ix2 r h)
      = a (ix2 r h) + ∑ j : Fin 1408, unit m c ⟨t.val / 2 * 512 + r.val, by have := lt64 t; omega⟩ h ⟨t.val % 2 * 1408 + j.val, by omega⟩ := by
  rw [pay3_at]
  simp only [pay1_at, x_at, g_at, wg_at, wu_at, wd_at, hs]

/-- The two tiles' sums, added to zero, are the reference's sum. -/
theorem sums (t s : Fin cfg0.N) (h1 : t.val % 2 = 1) (hs : s.val = t.val - 1) (r : Fin 512) (h : Fin 1024) :
    k0_pay3 (F := Ideal) (k0_pay1 (F := Ideal) (iblk m c 0 s) (iblk m c 1 s)) (iblk m c 2 t) (iblk m c 3 t)
        (k0_pay3 (F := Ideal) (k0_pay1 (F := Ideal) (iblk m c 0 s) (iblk m c 1 s)) (iblk m c 2 s) (iblk m c 3 s) (k0_pay2 (F := Ideal)) (iblk m c 4 s)) (iblk m c 4 t) (ix2 r h)
      = ∑ j : Fin 2816, unit m c ⟨t.val / 2 * 512 + r.val, by have := lt64 t; omega⟩ h j := by
  have h2 : s.val / 2 = t.val / 2 := by omega
  have h3 : s.val % 2 = 0 := by omega
  rw [tile_sum m c t s h2, tile_sum m c s s rfl, pay2_at, zero_add, sum_halves]
  congr 1
  · refine Finset.sum_congr rfl fun j _ => ?_
    congr 1 <;> simp only [h2, h3, zero_mul, zero_add]
  · refine Finset.sum_congr rfl fun j _ => ?_
    congr 1 <;> simp only [h1, one_mul]

open Cert.Reference2Ideal.Read Cert.Reference2Ideal.Ffn in
/-- The kernel's result array is the reference's result of the same arguments. -/
theorem result_eq :
    ((dats m 0 c).arrAt 6 cfg0.N : FVec Ideal S16384x1024 .f32)
      = val_main_v31 (F := Ideal) (ax m c) (ag m c) (awg m c) (awu m c) (awd m c) (agf m c) := by
  refine final m c _ fun t ht r h => ?_
  have hlt : t.val - 1 < cfg0.N := by have := t.isLt; omega
  rw [last m c t ⟨t.val - 1, hlt⟩ ht rfl, pay4_at]
  rw [v31_at]
  simp only [sums m c t ⟨t.val - 1, hlt⟩ ht rfl, x_at, gf_at, v18_at]

end Cert.Kernel2Ideal.Ffn

end
-- ==== Proof.Cases3.lean ====
/-
  What the two points of a row tile leave in the buffers of the feed-forward kernel: the first stores the
  normalised rows and the first column tile's products, the second adds its own products and stores the result.
-/
module

public import proofs.«01_k».proof.Proof.Gen.Kernel3Ideal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

variable {F : FTy → Type} [FloatOps F]

theorem hz : (![0, 0] : Fin 2 → ℕ) = fun _ => 0 := funext fun a => by fin_cases a <;> rfl

/-- The first point leaves the normalised rows. -/
theorem first_rows (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i) (x0 : Vec F S512x1024 .f32) (x1 : Vec F S1x1024 .f32) (x2 : Vec F S1024x1408 .bf16) (x3 : Vec F S1024x1408 .bf16) (x4 : Vec F S1408x1024 .bf16) (x5 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero (S := S512x1024) hz]
  simp only [View.readAt_eq_ld, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz, View.ld_unit_zero (S := S1024x1408) hz, View.ld_unit_zero (S := S1408x1024) hz]

/-- The first point leaves the first column tile's products, added to zeros. -/
theorem first_sum (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i) (x0 : Vec F S512x1024 .f32) (x1 : Vec F S1x1024 .f32) (x2 : Vec F S1024x1408 .bf16) (x3 : Vec F S1024x1408 .bf16) (x4 : Vec F S1408x1024 .bf16) (x5 : Vec F S1x1024 .f32) :
    sout0_A_1 c i arg2 harg2 arg3 harg3 arg4 harg4 arg5 harg5 arg6 harg6 arg7 harg7 arg8 harg8 arg9 harg9 arg10 harg10 hc0 hc1 x0 x1 x2 x3 x4 x5 = k0_pay3 (k0_pay1 x0 x1) x2 x3 (k0_pay2 (F := F)) x4 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x1024) hz, View.readCov_unit_zero (S := S512x1024) _ hz, View.readCov_unit_zero (S := S512x1024) _ hz]
  simp only [View.readAt_eq_ld, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz, View.ld_unit_zero (S := S1024x1408) hz, View.ld_unit_zero (S := S1408x1024) hz]

/-- The second point leaves the block of the result. -/
theorem last_out (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : cond0_1 i) (x0 : Vec F S512x1024 .f32) (x1 : Vec F S1x1024 .f32) (x2 : Vec F S1024x1408 .bf16) (x3 : Vec F S1024x1408 .bf16) (x4 : Vec F S1408x1024 .bf16) (x5 : Vec F S1x1024 .f32) (xs0 : Vec F S512x1024 .bf16) (xs1 : Vec F S512x1024 .f32) :
    out0_B_6 c i arg2 harg2 arg3 harg3 arg4 harg4 arg5 harg5 arg6 harg6 arg7 harg7 arg8 harg8 arg9 harg9 arg10 harg10 hc0 hc1 x0 x1 x2 x3 x4 x5 xs0 xs1 = k0_pay4 x0 (k0_pay3 xs0 x2 x3 xs1 x4) := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero (S := S512x1024) hz, View.readCov_unit_zero (S := S512x1024) _ hz]
  simp only [View.readAt_eq_ld, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz, View.ld_unit_zero (S := S1024x1408) hz, View.ld_unit_zero (S := S1408x1024) hz]

end Cert.Kernel3Ideal.Ffn

end
-- ==== Proof.FfnReads3.lean ====
/-
  The feed-forward kernel's stored values, read at an index.
-/
module

public import proofs.«01_k».proof.Proof.Gen.Kernel3Ideal.Skeleton
public import proofs.«01_k».proof.Proof.Ffn

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen Cert.Ffn

/-- The normalised rows. -/
theorem pay1_at (x : Vec Ideal S512x1024 .f32) (g : Vec Ideal S1x1024 .f32) (r : Fin 512) (h : Fin 1024) :
    k0_pay1 (F := Ideal) x g (ix2 r h) = normed (fun k => x (ix2 r k)) (fun k => g (ix2 0 k)) h := by
  pointwise [k0_pay1]
  rfl

/-- The zeros the sum starts from. -/
theorem pay2_at (r : Fin 512) (h : Fin 1024) : k0_pay2 (F := Ideal) (ix2 r h) = (0 : EReal) := by
  pointwise [k0_pay2]

/-- The sum so far, plus the hidden units of a column tile times their output weights. -/
theorem pay3_at (x : Vec Ideal S512x1024 .bf16) (wg wu : Vec Ideal S1024x1408 .bf16) (a : Vec Ideal S512x1024 .f32) (wd : Vec Ideal S1408x1024 .bf16)
    (r : Fin 512) (h : Fin 1024) :
    k0_pay3 (F := Ideal) x wg wu a wd (ix2 r h)
      = a (ix2 r h) + ∑ j : Fin 1408, hidden (fun k => x (ix2 r k)) (fun k => wg (ix2 k j)) (fun k => wu (ix2 k j)) * wd (ix2 j h) := by
  pointwise [k0_pay3]
  rfl

/-- The result: the row plus the sum. -/
theorem pay4_at (x a : Vec Ideal S512x1024 .f32) (r : Fin 512) (h : Fin 1024) :
    k0_pay4 (F := Ideal) x a (ix2 r h) = x (ix2 r h) + a (ix2 r h) := by
  pointwise [k0_pay4]

end Cert.Kernel3Ideal.Ffn

end
-- ==== Proof.FfnBlocks3.lean ====
/-
  The feed-forward kernel's operands and its blocks, read at an index, and what a row tile's second grid
  point writes back.
-/
module

public import proofs.«01_k».proof.Proof.Gen.Kernel3Ideal.Value
public import proofs.«01_k».proof.Proof.Cases3
public import proofs.«01_k».proof.Proof.FfnReads3
public import Idealize.ShloMosaic.Lib.Pipeline.ValueKit
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen Cert.Ffn

variable (m : (ℓ : Loc nD τ sig) → Buf (Elt Ideal) ℓ) (c : Dev nD)

/-- The operands are the arguments: the weights of the norms as one row, the others in another format. -/
theorem arg0_at (r : Fin 16384) (h : Fin 1024) :
    (V m c main_arg0 : FVec Ideal S16384x1024 .f32) (ix2 r h) = (m ((c : Thread nD τ).loc main_arg0) : FVec Ideal S16384x1024 .f32) (ix2 r h) := by
  rw [V_main_arg0]

theorem v0_at (h : Fin 1024) :
    (V m c main_v0 : FVec Ideal S1x1024 .f32) (ix2 0 h) = (m ((c : Thread nD τ).loc main_arg1) : FVec Ideal S1024 .f32) (ix1 h) := by
  unfold V
  repeat after_reads_at

theorem v1_at (h : Fin 1024) :
    (V m c main_v1 : FVec Ideal S1x1024 .f32) (ix2 0 h) = (m ((c : Thread nD τ).loc main_arg1) : FVec Ideal S1024 .f32) (ix1 h) := by
  unfold V
  repeat after_reads_at

theorem v2_at (k : Fin 1024) (j : Fin 2816) :
    (V m c main_v2 : FVec Ideal S1024x2816 .bf16) (ix2 k j) = (m ((c : Thread nD τ).loc main_arg2) : FVec Ideal S1024x2816 .f32) (ix2 k j) := by
  unfold V
  repeat after_reads_at

theorem v3_at (k : Fin 1024) (j : Fin 2816) :
    (V m c main_v3 : FVec Ideal S1024x2816 .bf16) (ix2 k j) = (m ((c : Thread nD τ).loc main_arg3) : FVec Ideal S1024x2816 .f32) (ix2 k j) := by
  unfold V
  repeat after_reads_at

theorem v4_at (j : Fin 2816) (h : Fin 1024) :
    (V m c main_v4 : FVec Ideal S2816x1024 .bf16) (ix2 j h) = (m ((c : Thread nD τ).loc main_arg4) : FVec Ideal S2816x1024 .f32) (ix2 j h) := by
  unfold V
  repeat after_reads_at

/-- Which block each window holds at a grid point. -/
theorem idx : ∀ t : Fin cfg0.N,
    (win0_0.index t 0 = t.val / 2 ∧ win0_0.index t 1 = 0)
    ∧ (win0_1.index t 0 = 0 ∧ win0_1.index t 1 = 0)
    ∧ (win0_2.index t 0 = 0 ∧ win0_2.index t 1 = t.val % 2)
    ∧ (win0_3.index t 0 = 0 ∧ win0_3.index t 1 = t.val % 2)
    ∧ (win0_4.index t 0 = t.val % 2 ∧ win0_4.index t 1 = 0)
    ∧ (win0_5.index t 0 = 0 ∧ win0_5.index t 1 = 0)
    ∧ (win0_6.index t 0 = t.val / 2 ∧ win0_6.index t 1 = 0) :=
  (by decide +kernel : ∀ t : Fin grid0.N, _)

theorem lt64 (t : Fin cfg0.N) : t.val < 64 := lt_of_lt_of_eq t.isLt N_0

theorem blk0_at (t : Fin cfg0.N) (r : Fin 512) (h : Fin 1024) :
    (iblk m c 0 t : FVec Ideal S512x1024 .f32) (ix2 r h)
      = (V m c main_arg0 : FVec Ideal S16384x1024 .f32) (ix2 ⟨t.val / 2 * 512 + r.val, by have := lt64 t; omega⟩ h) := by
  obtain ⟨⟨h1, h2⟩, -⟩ := idx t
  blk_ext [iblk, h1, h2]

theorem blk1_at (t : Fin cfg0.N) (h : Fin 1024) :
    (iblk m c 1 t : FVec Ideal S1x1024 .f32) (ix2 0 h) = (V m c main_v1 : FVec Ideal S1x1024 .f32) (ix2 0 h) := by
  obtain ⟨-, ⟨h1, h2⟩, -⟩ := idx t
  blk_ext [iblk, h1, h2]

theorem blk2_at (t : Fin cfg0.N) (k : Fin 1024) (j : Fin 1408) :
    (iblk m c 2 t : FVec Ideal S1024x1408 .bf16) (ix2 k j) = (V m c main_v2 : FVec Ideal S1024x2816 .bf16) (ix2 k ⟨t.val % 2 * 1408 + j.val, by omega⟩) := by
  obtain ⟨-, -, ⟨h1, h2⟩, -⟩ := idx t
  blk_ext [iblk, h1, h2]

theorem blk3_at (t : Fin cfg0.N) (k : Fin 1024) (j : Fin 1408) :
    (iblk m c 3 t : FVec Ideal S1024x1408 .bf16) (ix2 k j) = (V m c main_v3 : FVec Ideal S1024x2816 .bf16) (ix2 k ⟨t.val % 2 * 1408 + j.val, by omega⟩) := by
  obtain ⟨-, -, -, ⟨h1, h2⟩, -⟩ := idx t
  blk_ext [iblk, h1, h2]

theorem blk4_at (t : Fin cfg0.N) (j : Fin 1408) (h : Fin 1024) :
    (iblk m c 4 t : FVec Ideal S1408x1024 .bf16) (ix2 j h) = (V m c main_v4 : FVec Ideal S2816x1024 .bf16) (ix2 ⟨t.val % 2 * 1408 + j.val, by omega⟩ h) := by
  obtain ⟨-, -, -, -, ⟨h1, h2⟩, -⟩ := idx t
  blk_ext [iblk, h1, h2]

theorem blk5_at (t : Fin cfg0.N) (h : Fin 1024) :
    (iblk m c 5 t : FVec Ideal S1x1024 .f32) (ix2 0 h) = (V m c main_v0 : FVec Ideal S1x1024 .f32) (ix2 0 h) := by
  obtain ⟨-, -, -, -, -, ⟨h1, h2⟩, -⟩ := idx t
  blk_ext [iblk, h1, h2]

/-- What a row tile's first point leaves in the two scratch buffers. -/
theorem first (t : Fin cfg0.N) (h0 : t.val % 2 = 0) :
    (outsAt0 m c t.val t.isLt).2
      = (k0_pay1 (F := Ideal) (iblk m c 0 t) (iblk m c 1 t),
         k0_pay3 (F := Ideal) (k0_pay1 (F := Ideal) (iblk m c 0 t) (iblk m c 1 t)) (iblk m c 2 t) (iblk m c 3 t) (k0_pay2 (F := Ideal)) (iblk m c 4 t)) := by
  rw [outsAt0_A m c t h0 (by omega)]
  dsimp only
  rw [first_rows, first_sum]

/-- What a row tile's second point, `t`, leaves in the output block; `s` is the point before it. -/
theorem last (t s : Fin cfg0.N) (h1 : t.val % 2 = 1) (hs : s.val = t.val - 1) :
    (outsAt0 m c t.val t.isLt).1
      = k0_pay4 (F := Ideal) (iblk m c 0 t)
          (k0_pay3 (F := Ideal) (k0_pay1 (F := Ideal) (iblk m c 0 s) (iblk m c 1 s)) (iblk m c 2 t) (iblk m c 3 t)
            (k0_pay3 (F := Ideal) (k0_pay1 (F := Ideal) (iblk m c 0 s) (iblk m c 1 s)) (iblk m c 2 s) (iblk m c 3 s) (k0_pay2 (F := Ideal)) (iblk m c 4 s)) (iblk m c 4 t)) := by
  obtain ⟨n, hn⟩ := s
  dsimp only at hs
  subst hs
  rw [outsAt0_B m c t (by omega) h1]
  dsimp only
  rw [last_out, first m c ⟨t.val - 1, hn⟩ (by dsimp only; omega)]

/-- The result array is whatever function its blocks are read off from. -/
theorem final (G : FVec Ideal S16384x1024 .f32)
    (hG : ∀ (t : Fin cfg0.N) (ht : t.val % 2 = 1) (r : Fin 512) (h : Fin 1024),
      ((outsAt0 m c t.val t.isLt).1 : FVec Ideal S512x1024 .f32) (ix2 r h)
        = G (ix2 ⟨t.val / 2 * 512 + r.val, by have := lt64 t; omega⟩ h)) :
    (dats m 0 c).arrAt 6 cfg0.N = G := by
  refine (dats m 0 c).arrAt_eq_of_covers 6 G (by decide +kernel) fun t hf y => ?_
  have ht : t.val % 2 = 1 := (flush0_6 t).mp hf
  obtain ⟨-, -, -, -, -, -, h1, h2⟩ := idx t
  blk_simp
  rw [after0_6]
  revert y
  intro (y : S512x1024.Idx)
  obtain ⟨r, h, rfl⟩ : ∃ (r : Fin 512) (h : Fin 1024), y = ix2 r h := ⟨y 0, y 1, by
    funext a; match a with
    | ⟨0, _⟩ => rfl
    | ⟨1, _⟩ => rfl⟩
  refine (hG t ht r h).trans ?_
  blk_ext [h1, h2]

end Cert.Kernel3Ideal.Ffn

end
-- ==== Proof.FfnRef3.lean ====
/-
  The feed-forward reference, read at an index.
-/
module

public import proofs.«01_k».proof.Proof.Gen.Reference3Ideal.Read
public import proofs.«01_k».proof.Proof.Ffn

@[expose] public section

set_option maxRecDepth 16384

noncomputable section

open Idealize.ShloMosaic Idealize.ShloMosaic.TcCoe Idealize.SL.Sem

namespace Cert.Reference3Ideal.Ffn

open Cert.Reference3Ideal Cert.Reference3Ideal.Gen Cert.Reference3Ideal.Read Cert.Ffn

/-- The arguments' types: rows, norm weights, the two input weights, the output weights. -/
abbrev X := FVec Ideal S16384x1024 .f32
abbrev G := FVec Ideal S1024 .f32
abbrev W := FVec Ideal S1024x2816 .f32
abbrev D := FVec Ideal S2816x1024 .f32

theorem v12_at (x : X) (g : G) (r : Fin 16384) (h : Fin 1024) :
    val_main_v12 (F := Ideal) x g (ix2 r h) = normed (fun k => x (ix2 r k)) (fun k => g (ix1 k)) h := by
  pointwise [val_main_v12, val_main_v11, val_main_v10, val_main_v9, val_main_v8, val_main_v7, val_main_v6, val_main_v5, val_main_cst_1, val_main_v4, val_main_v3, val_main_cst_0,
    val_main_v2, val_main_v1, val_main_v0, val_main_cst]
  rfl

theorem v16_at (x : X) (g : G) (wg wu : W) (r : Fin 16384) (j : Fin 2816) :
    val_main_v16 (F := Ideal) x g wg wu (ix2 r j)
      = hidden (fun k => normed (fun k => x (ix2 r k)) (fun k => g (ix1 k)) k) (fun k => wg (ix2 k j)) (fun k => wu (ix2 k j)) := by
  pointwise [val_main_v16, val_main_v15, val_main_v14, val_main_v13, val_main_call0_v5, val_main_call0_v4, val_main_call0_cst_0, val_main_call0_v3, val_main_call0_v2, val_main_call0_cst, val_main_call0_v1, val_main_call0_v0]
  simp only [v12_at]
  rfl

/-- The residual sum. -/
theorem v18_at (x : X) (g : G) (wg wu : W) (wd : D) (r : Fin 16384) (h : Fin 1024) :
    val_main_v18 (F := Ideal) x g wg wu wd (ix2 r h)
      = x (ix2 r h) + ∑ j : Fin 2816, hidden (fun k => normed (fun k => x (ix2 r k)) (fun k => g (ix1 k)) k) (fun k => wg (ix2 k j)) (fun k => wu (ix2 k j)) * wd (ix2 j h) := by
  pointwise [val_main_v18, val_main_v17]
  simp only [v16_at]

end Cert.Reference3Ideal.Ffn

end
-- ==== Proof.FfnMain3.lean ====
/-
  The feed-forward kernel's result is the reference's: the kernel adds the two halves of the hidden units
  one after the other to zero, the reference adds them all.
-/
module

public import proofs.«01_k».proof.Proof.FfnBlocks3
public import proofs.«01_k».proof.Proof.FfnRef3

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen Cert.Ffn

variable (m : (ℓ : Loc nD τ sig) → Buf (Elt Ideal) ℓ) (c : Dev nD)

/-- The arguments at their array types. -/
abbrev ax : FVec Ideal S16384x1024 .f32 := m ((c : Thread nD τ).loc main_arg0)
abbrev ag : FVec Ideal S1024 .f32 := m ((c : Thread nD τ).loc main_arg1)
abbrev awg : FVec Ideal S1024x2816 .f32 := m ((c : Thread nD τ).loc main_arg2)
abbrev awu : FVec Ideal S1024x2816 .f32 := m ((c : Thread nD τ).loc main_arg3)
abbrev awd : FVec Ideal S2816x1024 .f32 := m ((c : Thread nD τ).loc main_arg4)

/-- The input blocks of a grid point, from the arguments. -/
theorem x_at (t : Fin cfg0.N) (r : Fin 512) (h : Fin 1024) :
    (iblk m c 0 t : FVec Ideal S512x1024 .f32) (ix2 r h) = ax m c (ix2 ⟨t.val / 2 * 512 + r.val, by have := lt64 t; omega⟩ h) :=
  (blk0_at m c t r h).trans (arg0_at m c _ h)

theorem g_at (t : Fin cfg0.N) (h : Fin 1024) : (iblk m c 1 t : FVec Ideal S1x1024 .f32) (ix2 0 h) = ag m c (ix1 h) :=
  (blk1_at m c t h).trans (v1_at m c h)

theorem wg_at (t : Fin cfg0.N) (k : Fin 1024) (j : Fin 1408) :
    (iblk m c 2 t : FVec Ideal S1024x1408 .bf16) (ix2 k j) = awg m c (ix2 k ⟨t.val % 2 * 1408 + j.val, by omega⟩) :=
  (blk2_at m c t k j).trans (v2_at m c k _)

theorem wu_at (t : Fin cfg0.N) (k : Fin 1024) (j : Fin 1408) :
    (iblk m c 3 t : FVec Ideal S1024x1408 .bf16) (ix2 k j) = awu m c (ix2 k ⟨t.val % 2 * 1408 + j.val, by omega⟩) :=
  (blk3_at m c t k j).trans (v3_at m c k _)

theorem wd_at (t : Fin cfg0.N) (j : Fin 1408) (h : Fin 1024) :
    (iblk m c 4 t : FVec Ideal S1408x1024 .bf16) (ix2 j h) = awd m c (ix2 ⟨t.val % 2 * 1408 + j.val, by omega⟩ h) :=
  (blk4_at m c t j h).trans (v4_at m c _ h)
/-- The products of hidden unit `j` with its output weight, for a row and a column of the result. -/
abbrev unit (row : Fin 16384) (h : Fin 1024) (j : Fin 2816) : EReal :=
  hidden (fun k => normed (fun k => ax m c (ix2 row k)) (fun k => ag m c (ix1 k)) k) (fun k => awg m c (ix2 k j)) (fun k => awu m c (ix2 k j)) * awd m c (ix2 j h)

/-- A grid point's sum over its column tile, whose rows were normalised at point `s` of the same row tile. -/
theorem tile_sum (t s : Fin cfg0.N) (hs : s.val / 2 = t.val / 2) (a : FVec Ideal S512x1024 .f32) (r : Fin 512) (h : Fin 1024) :
    k0_pay3 (F := Ideal) (k0_pay1 (F := Ideal) (iblk m c 0 s) (iblk m c 1 s)) (iblk m c 2 t) (iblk m c 3 t) a (iblk m c 4 t) (ix2 r h)
      = a (ix2 r h) + ∑ j : Fin 1408, unit m c ⟨t.val / 2 * 512 + r.val, by have := lt64 t; omega⟩ h ⟨t.val % 2 * 1408 + j.val, by omega⟩ := by
  rw [pay3_at]
  simp only [pay1_at, x_at, g_at, wg_at, wu_at, wd_at, hs]

/-- The two tiles' sums, added to zero, are the reference's sum. -/
theorem sums (t s : Fin cfg0.N) (h1 : t.val % 2 = 1) (hs : s.val = t.val - 1) (r : Fin 512) (h : Fin 1024) :
    k0_pay3 (F := Ideal) (k0_pay1 (F := Ideal) (iblk m c 0 s) (iblk m c 1 s)) (iblk m c 2 t) (iblk m c 3 t)
        (k0_pay3 (F := Ideal) (k0_pay1 (F := Ideal) (iblk m c 0 s) (iblk m c 1 s)) (iblk m c 2 s) (iblk m c 3 s) (k0_pay2 (F := Ideal)) (iblk m c 4 s)) (iblk m c 4 t) (ix2 r h)
      = ∑ j : Fin 2816, unit m c ⟨t.val / 2 * 512 + r.val, by have := lt64 t; omega⟩ h j := by
  have h2 : s.val / 2 = t.val / 2 := by omega
  have h3 : s.val % 2 = 0 := by omega
  rw [tile_sum m c t s h2, tile_sum m c s s rfl, pay2_at, zero_add, sum_halves]
  congr 1
  · refine Finset.sum_congr rfl fun j _ => ?_
    congr 1 <;> simp only [h2, h3, zero_mul, zero_add]
  · refine Finset.sum_congr rfl fun j _ => ?_
    congr 1 <;> simp only [h1, one_mul]

open Cert.Reference3Ideal.Read Cert.Reference3Ideal.Ffn in
/-- The kernel's result array is the reference's result of the same arguments. -/
theorem result_eq :
    ((dats m 0 c).arrAt 6 cfg0.N : FVec Ideal S16384x1024 .f32)
      = val_main_v18 (F := Ideal) (ax m c) (ag m c) (awg m c) (awu m c) (awd m c) := by
  refine final m c _ fun t ht r h => ?_
  have hlt : t.val - 1 < cfg0.N := by have := t.isLt; omega
  rw [last m c t ⟨t.val - 1, hlt⟩ ht rfl, pay4_at]
  rw [v18_at, sums m c t ⟨t.val - 1, hlt⟩ ht rfl, x_at]

end Cert.Kernel3Ideal.Ffn

end
-- ==== Proof.Rope.lean ====
/-
  The rotary position encoding of one head, and the projection of one normalised row.
-/
module

public import proofs.«01_k».proof.Proof.Ffn

@[expose] public section

noncomputable section

open Idealize.ShloMosaic

namespace Cert.Rope

/-- The column whose value a column is turned with: the same place in the other half of its head's 64 columns. -/
def mate {n : ℕ} (hn : n % 64 = 0) (l : Fin n) : Fin n :=
  if h : l.val % 64 < 32 then ⟨l.val + 32, by omega⟩ else ⟨l.val - 32, by omega⟩

theorem mate_val {n : ℕ} (hn : n % 64 = 0) (l : Fin n) :
    (mate hn l).val = if l.val % 64 < 32 then l.val + 32 else l.val - 32 := by
  unfold mate
  split <;> rfl

/-- The angle of position `t` at frequency `j`. -/
def ang (t j : ℕ) : EReal :=
  FloatOps.sitofp (F := Ideal) .f32 (BitVec.ofNat 32 t)
    * Ideal.pow (Ideal.ofBits .f32 1176256512#32) (Ideal.div (-FloatOps.sitofp (F := Ideal) .f32 (BitVec.ofNat 32 j)) (Ideal.ofBits .f32 1107296256#32))

/-- A row of heads, each turned by its position's angles. -/
def turn {n : ℕ} (hn : n % 64 = 0) (y : Fin n → EReal) (t : ℕ) (h : Fin n) : EReal :=
  if h.val % 64 < 32 then y h * Ideal.cos (ang t (h.val % 32)) - y (mate hn h) * Ideal.sin (ang t (h.val % 32))
  else y h * Ideal.cos (ang t (h.val % 32)) + y (mate hn h) * Ideal.sin (ang t (h.val % 32))

/-- The table of sines holds the first half of each head negated, so that one sum serves both halves. -/
def table (t : ℕ) (l : ℕ) : EReal :=
  if l % 64 < 32 then -Ideal.sin (ang t (l % 64)) else Ideal.sin (ang t (l % 64 - 32))

theorem turn_eq {n : ℕ} (hn : n % 64 = 0) (y : Fin n → EReal) (t : ℕ) (h : Fin n) :
    y h * Ideal.cos (ang t (h.val % 128 % 32)) + y (mate hn h) * table t (h.val % 128) = turn hn y t h := by
  have e1 : h.val % 128 % 32 = h.val % 32 := by omega
  have e2 : h.val % 128 % 64 = h.val % 64 := by omega
  unfold turn table
  rw [e1, e2]
  by_cases h0 : h.val % 64 < 32
  · have e3 : h.val % 64 = h.val % 32 := by omega
    rw [if_pos h0, if_pos h0, e3, mul_neg, sub_eq_add_neg]
  · have e3 : h.val % 64 - 32 = h.val % 32 := by omega
    rw [if_neg h0, if_neg h0, e3]

/-- One column of the projection of one normalised row. -/
def proj {n : ℕ} (x g : Fin 1024 → EReal) (w : Fin 1024 → Fin n → EReal) (h : Fin n) : EReal :=
  ∑ k, Cert.Ffn.normed x g k * w k h

/-- The reference turns one head from its two halves. -/
theorem turn_halves {n : ℕ} (hn : n % 64 = 0) (y : Fin n → EReal) (t : ℕ) (o l : ℕ) (hl : l < 64) (ho : o % 64 = 0) (hb : o + 64 ≤ n) :
    (if h : l < 32 then
        y ⟨o + l, by omega⟩ * Ideal.cos (ang t l) - y ⟨o + (32 + l), by omega⟩ * Ideal.sin (ang t l)
      else y ⟨o + (32 + (l - 32)), by omega⟩ * Ideal.cos (ang t (l - 32)) + y ⟨o + (l - 32), by omega⟩ * Ideal.sin (ang t (l - 32)))
      = turn hn y t ⟨o + l, by omega⟩ := by
  unfold turn
  have em : (o + l) % 64 = l := by omega
  by_cases h0 : l < 32
  · have e1 : (o + l) % 32 = l := by omega
    have e2 : mate hn (⟨o + l, by omega⟩ : Fin n) = ⟨o + (32 + l), by omega⟩ := Fin.ext (by
      rw [mate_val]; dsimp only; rw [em, if_pos h0]; omega)
    rw [dif_pos h0, e2]
    dsimp only
    rw [em, e1, if_pos h0]
  · have e1 : (o + l) % 32 = l - 32 := by omega
    have e2 : mate hn (⟨o + l, by omega⟩ : Fin n) = ⟨o + (l - 32), by omega⟩ := Fin.ext (by
      rw [mate_val]; dsimp only; rw [em, if_neg h0]; omega)
    have e3 : o + (32 + (l - 32)) = o + l := by omega
    rw [dif_neg h0, e2]
    dsimp only
    simp only [em, e1, e3]
    rw [if_neg h0]

end Cert.Rope

end
-- ==== Proof.Chunk4.lean ====
/-
  One 128-lane chunk of the projection kernel's rotary encoding, read at an index, and the chunk's place in
  a block of the result.
-/
module

public import proofs.«01_k».proof.Proof.Gen.Kernel4Ideal.Frame
public import proofs.«01_k».proof.Proof.Rope
public import Idealize.ShloMosaic.Lib.Pipeline.Value

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Rope

/-- The lane's number modulo 64, as the kernel computes it, -/
def rem : IVec S512x128 32 :=
  remsi (iota .tc S512x128 32 [1] iota_S512x128_d1_w32) (broadcast S512x128 (Scalar.select (Scalar.cmpi .eq 64#32 0#32) 1#32 64#32))

/-- and made nonnegative. -/
def rem' : IVec S512x128 32 :=
  select (andi (xori (cmpi .slt rem (broadcast S512x128 0#32))
      (broadcastTo S512x128 (broadcast S512x128 (Scalar.cmpi .slt (Scalar.select (Scalar.cmpi .eq 64#32 0#32) 1#32 64#32) 0#32)) broadcasts_S512x128_S512x128))
      (cmpi .ne rem (broadcast S512x128 0#32)))
    (addi rem (broadcast S512x128 (Scalar.select (Scalar.cmpi .eq 64#32 0#32) 1#32 64#32))) rem

/-- Which lanes lie in the first half of their head. -/
def first : IVec S512x128 1 := cmpi .slt rem' (broadcast S512x128 32#32)

/-- The chunk's turned values. -/
def chunk (x co si : FVec Ideal S512x128 .f32) : FVec Ideal S512x128 .f32 :=
  addf (mulf x co) (mulf (select first (dynamicRotate 1 96#32 none x rotates_S512x128_d1) (dynamicRotate 1 32#32 none x rotates_S512x128_d1)) si)

theorem first_at (r : Fin 512) (l : Fin 128) : first (ix2 r l) = if l.val % 64 < 32 then 1#1 else 0#1 := by
  pointwise [first, rem', rem]
  revert l
  decide +kernel

theorem chunk_at (x co si : FVec Ideal S512x128 .f32) (r : Fin 512) (l : Fin 128) :
    chunk x co si (ix2 r l) = x (ix2 r l) * co (ix2 r l) + x (ix2 r (mate rfl l)) * si (ix2 r l) := by
  pointwise [chunk]
  rw [first_at]
  congr 2
  by_cases h : l.val % 64 < 32
  · rw [if_pos h]
    refine congrArg (fun k => x (ix2 r k)) (Fin.ext ?_)
    rw [mate_val, if_pos h]
    show (l.val + 128 - 96) % 128 = _
    omega
  · rw [if_neg h]
    refine congrArg (fun k => x (ix2 r k)) (Fin.ext ?_)
    rw [mate_val, if_neg h]
    show (l.val + 128 - 32) % 128 = _
    omega

theorem ex2 {a b : ℕ} (x : (⟨2, ![a, b]⟩ : Shape).Idx) : ∃ (r : Fin a) (l : Fin b), x = ix2 r l := ⟨x 0, x 1, by
  funext k
  match k with
  | ⟨0, _⟩ => rfl
  | ⟨1, _⟩ => rfl⟩

/-- A block of 512 columns with every head turned. -/
def spun512 (y : FVec Ideal S512x512 .f32) (co si : FVec Ideal S512x128 .f32) (r : Fin 512) (h : Fin 512) : EReal :=
  y (ix2 r h) * co (ix2 r ⟨h.val % 128, by omega⟩) + y (ix2 r (mate rfl h)) * si (ix2 r ⟨h.val % 128, by omega⟩)

/-- Where a chunk's index lies in the block. -/
theorem emb512 (o : ℕ) (ho : o + 128 ≤ 512) (inb : ∀ a, (![0, o] : Fin 2 → ℕ) a + S512x128.size a ≤ S512x512.size a) (r : Fin 512) (l : Fin 128) :
    (Rect.unit (s := S512x512) ![0, o] S512x128.size inb).emb (ix2 r l) = ix2 r ⟨o + l.val, by omega⟩ := by
  funext x; apply Fin.ext
  match x with
  | ⟨0, _⟩ => show 0 + 1 * r.val = r.val; omega
  | ⟨1, _⟩ => show o + 1 * l.val = o + l.val; omega

theorem slice512 (y : FVec Ideal S512x512 .f32) (o : ℕ) (ho : o + 128 ≤ 512) (hs : S512x512.Slices ![0, o] S512x128) (r : Fin 512) (l : Fin 128) :
    extractStridedSlice S512x128 ![0, o] y hs (ix2 r l) = y (ix2 r ⟨o + l.val, by omega⟩) := by
  refine congrArg y ?_
  funext x; apply Fin.ext
  match x with
  | ⟨0, _⟩ => show 0 + r.val = r.val; omega
  | ⟨1, _⟩ => rfl

theorem piece512 (y : FVec Ideal S512x512 .f32) (co si : FVec Ideal S512x128 .f32) (o : ℕ) (ho : o + 128 ≤ 512) (h0 : o % 128 = 0)
    (hs : S512x512.Slices ![0, o] S512x128) (r : Fin 512) (l : Fin 128) :
    chunk (extractStridedSlice S512x128 ![0, o] y hs) co si (ix2 r l) = spun512 y co si r ⟨o + l.val, by omega⟩ := by
  rw [chunk_at, slice512 y o ho, slice512 y o ho]
  unfold spun512
  have e1 : (⟨(o + l.val) % 128, by omega⟩ : Fin 128) = l := Fin.ext (by show (o + l.val) % 128 = l.val; omega)
  have e2 : (⟨o + (mate (n := 128) rfl l).val, by omega⟩ : Fin 512) = mate rfl ⟨o + l.val, by omega⟩ := Fin.ext (by
    show o + (mate (n := 128) rfl l).val = _
    rw [mate_val, mate_val]
    dsimp only
    split <;> split <;> omega)
  rw [← e2]
  dsimp only
  rw [e1]

/-- A block of 768 columns with every head turned. -/
def spun768 (y : FVec Ideal S512x768 .f32) (co si : FVec Ideal S512x128 .f32) (r : Fin 512) (h : Fin 768) : EReal :=
  y (ix2 r h) * co (ix2 r ⟨h.val % 128, by omega⟩) + y (ix2 r (mate rfl h)) * si (ix2 r ⟨h.val % 128, by omega⟩)

/-- Where a chunk's index lies in the block. -/
theorem emb768 (o : ℕ) (ho : o + 128 ≤ 768) (inb : ∀ a, (![0, o] : Fin 2 → ℕ) a + S512x128.size a ≤ S512x768.size a) (r : Fin 512) (l : Fin 128) :
    (Rect.unit (s := S512x768) ![0, o] S512x128.size inb).emb (ix2 r l) = ix2 r ⟨o + l.val, by omega⟩ := by
  funext x; apply Fin.ext
  match x with
  | ⟨0, _⟩ => show 0 + 1 * r.val = r.val; omega
  | ⟨1, _⟩ => show o + 1 * l.val = o + l.val; omega

theorem slice768 (y : FVec Ideal S512x768 .f32) (o : ℕ) (ho : o + 128 ≤ 768) (hs : S512x768.Slices ![0, o] S512x128) (r : Fin 512) (l : Fin 128) :
    extractStridedSlice S512x128 ![0, o] y hs (ix2 r l) = y (ix2 r ⟨o + l.val, by omega⟩) := by
  refine congrArg y ?_
  funext x; apply Fin.ext
  match x with
  | ⟨0, _⟩ => show 0 + r.val = r.val; omega
  | ⟨1, _⟩ => rfl

theorem piece768 (y : FVec Ideal S512x768 .f32) (co si : FVec Ideal S512x128 .f32) (o : ℕ) (ho : o + 128 ≤ 768) (h0 : o % 128 = 0)
    (hs : S512x768.Slices ![0, o] S512x128) (r : Fin 512) (l : Fin 128) :
    chunk (extractStridedSlice S512x128 ![0, o] y hs) co si (ix2 r l) = spun768 y co si r ⟨o + l.val, by omega⟩ := by
  rw [chunk_at, slice768 y o ho, slice768 y o ho]
  unfold spun768
  have e1 : (⟨(o + l.val) % 128, by omega⟩ : Fin 128) = l := Fin.ext (by show (o + l.val) % 128 = l.val; omega)
  have e2 : (⟨o + (mate (n := 128) rfl l).val, by omega⟩ : Fin 768) = mate rfl ⟨o + l.val, by omega⟩ := Fin.ext (by
    show o + (mate (n := 128) rfl l).val = _
    rw [mate_val, mate_val]
    dsimp only
    split <;> split <;> omega)
  rw [← e2]
  dsimp only
  rw [e1]

end Cert.Kernel4Ideal.Proj

end
-- ==== Proof.Out4.lean ====
/-
  What the even layer's projection kernel leaves in its four output blocks, read at an index.
-/
module

public import proofs.«01_k».proof.Proof.Chunk4
public import Idealize.ShloMosaic.Lib.Pipeline.ValueKit

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Rope Cert.Ffn

theorem hz : (![0, 0] : Fin 2 → ℕ) = fun _ => 0 := by
  funext a; match a with
  | ⟨0, _⟩ => rfl
  | ⟨1, _⟩ => rfl

variable (x : Vec Ideal S512x1024 .f32) (g : Vec Ideal S1x1024 .f32) (co si : Vec Ideal S512x128 .f32)
  (wr : Vec Ideal S1024x1792 .bf16) (wq : Vec Ideal S1024x512 .bf16) (wk : Vec Ideal S1024x768 .bf16) (wg : Vec Ideal S1024x128 .bf16) (bi : Vec Ideal S1x128 .f32)

/-- The normalised rows times the second weights, -/
theorem y10_at (r : Fin 512) (h : Fin 512) :
    k0_pay34 (F := Ideal) x g co si wr wq wk wg bi (ix2 r h) = ∑ k : Fin 1024, normed (fun k => x (ix2 r k)) (fun k => g (ix2 0 k)) k * wq (ix2 k h) := by
  unfold k0_pay34
  simp only [View.ld_unit_zero (S := S512x1024) hz, View.ld_unit_zero (S := S1x1024) hz, View.ld_unit_zero (S := S1024x512) hz]
  pointwise [k0_pay4, k0_pay2]
  rfl

/-- and times the third. -/
theorem y11_at (r : Fin 512) (h : Fin 768) :
    k0_pay37 (F := Ideal) x g co si wr wq wk wg bi (ix2 r h) = ∑ k : Fin 1024, normed (fun k => x (ix2 r k)) (fun k => g (ix2 0 k)) k * wk (ix2 k h) := by
  unfold k0_pay37 k0_pay33
  simp only [View.ld_unit_zero (S := S512x1024) hz, View.ld_unit_zero (S := S1x1024) hz, View.ld_unit_zero (S := S1024x768) hz]
  pointwise [k0_pay20, k0_pay2]
  rfl

theorem co_at (r : Fin 512) (l : Fin 128) : k0_pay35 (F := Ideal) x g co si wr wq wk wg bi (ix2 r l) = co (ix2 r l) := by
  unfold k0_pay35
  rw [View.ld_unit_zero (S := S512x128) hz]
  pointwise [k0_pay5]

theorem si_at (r : Fin 512) (l : Fin 128) : k0_pay36 (F := Ideal) x g co si wr wq wk wg bi (ix2 r l) = si (ix2 r l) := by
  unfold k0_pay36
  rw [View.ld_unit_zero (S := S512x128) hz]
  pointwise [k0_pay6]

theorem co'_at (r : Fin 512) (l : Fin 128) : k0_pay38 (F := Ideal) x g co si wr wq wk wg bi (ix2 r l) = co (ix2 r l) := by
  unfold k0_pay38
  rw [View.ld_unit_zero (S := S512x128) hz]
  pointwise [k0_pay21]

theorem si'_at (r : Fin 512) (l : Fin 128) : k0_pay39 (F := Ideal) x g co si wr wq wk wg bi (ix2 r l) = si (ix2 r l) := by
  unfold k0_pay39
  rw [View.ld_unit_zero (S := S512x128) hz]
  pointwise [k0_pay22]

/-- The first block: the plain product. -/
theorem out9_at (r : Fin 512) (h : Fin 1792) :
    out0_9 (F := Ideal) x g co si wr wq wk wg bi (ix2 r h) = ∑ k : Fin 1024, normed (fun k => x (ix2 r k)) (fun k => g (ix2 0 k)) k * wr (ix2 k h) := by
  unfold out0_9
  rw [View.canon_unit_zero (S := S512x1792) hz]
  simp only [View.ld_unit_zero (S := S512x1024) hz, View.ld_unit_zero (S := S1x1024) hz, View.ld_unit_zero (S := S1024x1792) hz]
  pointwise [k0_pay3, k0_pay2]
  rfl

/-- The fourth block: the logistic of the biased product. -/
theorem out12_at (r : Fin 512) (h : Fin 128) :
    out0_12 (F := Ideal) x g co si wr wq wk wg bi (ix2 r h)
      = Ideal.logistic ((∑ k : Fin 1024, normed (fun k => x (ix2 r k)) (fun k => g (ix2 0 k)) k * wg (ix2 k h)) + bi (ix2 0 h)) := by
  unfold out0_12 k0_pay33
  rw [View.canon_unit_zero (S := S512x128) hz]
  simp only [View.ld_unit_zero (S := S512x1024) hz, View.ld_unit_zero (S := S1x1024) hz, View.ld_unit_zero (S := S1024x128) hz, View.ld_unit_zero (S := S1x128) hz]
  pointwise [k0_pay1, k0_pay32, k0_pay2]
  rfl

/-- The second block: every head turned. -/
theorem out10_at (r : Fin 512) (h : Fin 512) :
    out0_10 (F := Ideal) x g co si wr wq wk wg bi (ix2 r h) = spun512 (k0_pay34 (F := Ideal) x g co si wr wq wk wg bi) co si r h := by
  have eco : k0_pay35 (F := Ideal) x g co si wr wq wk wg bi = co := funext fun i => by obtain ⟨r, l, rfl⟩ := ex2 i; exact co_at x g co si wr wq wk wg bi r l
  have esi : k0_pay36 (F := Ideal) x g co si wr wq wk wg bi = si := funext fun i => by obtain ⟨r, l, rfl⟩ := ex2 i; exact si_at x g co si wr wq wk wg bi r l
  have e7 : k0_pay7 (F := Ideal) (View.ld x r0_0) (View.ld g r0_1) (View.ld wq r0_4)
      = extractStridedSlice S512x128 ![0, 0] (k0_pay34 (F := Ideal) x g co si wr wq wk wg bi) slices_S512x512_o0_0_S512x128 := rfl
  unfold out0_10
  rw [eco, esi, e7]
  generalize k0_pay34 (F := Ideal) x g co si wr wq wk wg bi = y
  refine View.canon_apply_of_pieces (Val := Elt Ideal) (S := S512x512) (e := .f32) (fun i => spun512 y co si (i 0) (i 1)) _ ?_ _ (cover0_10 _ _ _ _ _)
  intro p hp
  simp only [List.mem_cons, List.not_mem_nil, or_false] at hp
  rcases hp with rfl | rfl | rfl | rfl
  all_goals
    intro i
    revert i
    intro (i : S512x128.Idx)
    obtain ⟨a, l, rfl⟩ := ex2 i
    dsimp only
  · rw [emb512 384 (by omega)]; exact piece512 y co si 384 (by omega) rfl slices_S512x512_o0_384_S512x128 _ _
  · rw [emb512 256 (by omega)]; exact piece512 y co si 256 (by omega) rfl slices_S512x512_o0_256_S512x128 _ _
  · rw [emb512 128 (by omega)]; exact piece512 y co si 128 (by omega) rfl slices_S512x512_o0_128_S512x128 _ _
  · rw [emb512 0 (by omega)]; exact piece512 y co si 0 (by omega) rfl slices_S512x512_o0_0_S512x128 _ _

/-- The third block: the keys turned, the values as they are. -/
theorem out11_at (r : Fin 512) (h : Fin 768) :
    out0_11 (F := Ideal) x g co si wr wq wk wg bi (ix2 r h)
      = if h.val % 256 < 128 then spun768 (k0_pay37 (F := Ideal) x g co si wr wq wk wg bi) co si r h else k0_pay37 (F := Ideal) x g co si wr wq wk wg bi (ix2 r h) := by
  have eco : k0_pay38 (F := Ideal) x g co si wr wq wk wg bi = co := funext fun i => by obtain ⟨r, l, rfl⟩ := ex2 i; exact co'_at x g co si wr wq wk wg bi r l
  have esi : k0_pay39 (F := Ideal) x g co si wr wq wk wg bi = si := funext fun i => by obtain ⟨r, l, rfl⟩ := ex2 i; exact si'_at x g co si wr wq wk wg bi r l
  have e23 : k0_pay23 (F := Ideal) (k0_pay33 (F := Ideal) x g co si wr wq wk wg bi) (View.ld wk r0_10)
      = extractStridedSlice S512x128 ![0, 0] (k0_pay37 (F := Ideal) x g co si wr wq wk wg bi) slices_S512x768_o0_0_S512x128 := rfl
  unfold out0_11
  rw [eco, esi, e23]
  generalize k0_pay37 (F := Ideal) x g co si wr wq wk wg bi = y
  refine View.canon_apply_of_pieces (Val := Elt Ideal) (S := S512x768) (e := .f32) (fun i => if (i 1).val % 256 < 128 then spun768 y co si (i 0) (i 1) else y i) _ ?_ _ (cover0_11 _ _ _ _ _ _ _)
  intro p hp
  simp only [List.mem_cons, List.not_mem_nil, or_false] at hp
  rcases hp with rfl | rfl | rfl | rfl | rfl | rfl
  all_goals
    intro i
    revert i
    intro (i : S512x128.Idx)
    obtain ⟨a, l, rfl⟩ := ex2 i
    dsimp only
  · rw [emb768 640 (by omega), if_neg (by show ¬ ((640 + l.val) % 256 < 128); omega)]
    exact slice768 y 640 (by omega) slices_S512x768_o0_640_S512x128 _ _
  · rw [emb768 512 (by omega), if_pos (by show (512 + l.val) % 256 < 128; omega)]
    exact piece768 y co si 512 (by omega) rfl slices_S512x768_o0_512_S512x128 _ _
  · rw [emb768 384 (by omega), if_neg (by show ¬ ((384 + l.val) % 256 < 128); omega)]
    exact slice768 y 384 (by omega) slices_S512x768_o0_384_S512x128 _ _
  · rw [emb768 256 (by omega), if_pos (by show (256 + l.val) % 256 < 128; omega)]
    exact piece768 y co si 256 (by omega) rfl slices_S512x768_o0_256_S512x128 _ _
  · rw [emb768 128 (by omega), if_neg (by show ¬ ((128 + l.val) % 256 < 128); omega)]
    exact slice768 y 128 (by omega) slices_S512x768_o0_128_S512x128 _ _
  · rw [emb768 0 (by omega), if_pos (by show (0 + l.val) % 256 < 128; omega)]
    exact piece768 y co si 0 (by omega) rfl slices_S512x768_o0_0_S512x128 _ _

end Cert.Kernel4Ideal.Proj

end
-- ==== Proof.ProjBlocks4.lean ====
/-
  The even layer's projection kernel: its operands and blocks, read at an index.
-/
module

public import proofs.«01_k».proof.Proof.Out4
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Ffn Cert.Rope

variable (m : (ℓ : Loc nD τ sig) → Buf (Elt Ideal) ℓ) (c : Dev nD)

/-- The arguments at their array types. -/
abbrev ax : FVec Ideal S4x4096x1024 .f32 := m ((c : Thread nD τ).loc main_arg0)
abbrev ag : FVec Ideal S1024 .f32 := m ((c : Thread nD τ).loc main_arg1)
abbrev aw : FVec Ideal S1024x3096 .f32 := m ((c : Thread nD τ).loc main_arg2)
abbrev ab : FVec Ideal S24 .f32 := m ((c : Thread nD τ).loc main_arg3)

/-- The table of cosines, -/
theorem v17_at (t : Fin 4096) (h : Fin 128) :
    (V m c main_v17 : FVec Ideal S4096x128 .f32) (ix2 t h) = Ideal.cos (ang t.val (h.val % 32)) := by
  unfold V
  repeat after_reads_at
  rfl

/-- and of sines. -/
theorem v22_at (t : Fin 4096) (h : Fin 128) :
    (V m c main_v22 : FVec Ideal S4096x128 .f32) (ix2 t h) = table t.val h.val := by
  unfold V
  repeat after_reads_at
  rfl

theorem v24_at (k : Fin 1024) (h : Fin 1792) :
    (V m c main_v24 : FVec Ideal S1024x1792 .bf16) (ix2 k h) = aw m c (ix2 k ⟨h.val, by omega⟩) := by
  unfold V
  repeat after_reads_at

theorem v25_at (k : Fin 1024) (h : Fin 512) :
    (V m c main_v25 : FVec Ideal S1024x512 .bf16) (ix2 k h) = aw m c (ix2 k ⟨1792 + h.val, by omega⟩) := by
  unfold V
  repeat after_reads_at

theorem v26_at (k : Fin 1024) (h : Fin 768) :
    (V m c main_v26 : FVec Ideal S1024x768 .bf16) (ix2 k h) = aw m c (ix2 k ⟨2304 + h.val, by omega⟩) := by
  unfold V
  repeat after_reads_at

/-- The gates' columns, of the padded array only those that are used, -/
theorem v28_at (k : Fin 1024) (h : Fin 24) :
    (V m c main_v28 : FVec Ideal S1024x128 .bf16) (ix2 k ⟨h.val, by omega⟩) = aw m c (ix2 k ⟨3072 + h.val, by omega⟩) := by
  unfold V
  repeat after_reads_at

/-- and their bias. -/
theorem v30_at (h : Fin 24) :
    (V m c main_v30 : FVec Ideal S1x128 .f32) (ix2 0 ⟨h.val, by omega⟩) = ab m c (ix1 h) := by
  unfold V
  repeat after_reads_at

theorem v31_at (r : Fin 16384) (k : Fin 1024) :
    (V m c main_v31 : FVec Ideal S16384x1024 .f32) (ix2 r k) = ax m c (ix3 ⟨r.val / 4096, by omega⟩ ⟨r.val % 4096, by omega⟩ k) := by
  unfold V
  repeat after_reads_at

theorem v32_at (k : Fin 1024) :
    (V m c main_v32 : FVec Ideal S1x1024 .f32) (ix2 0 k) = ag m c (ix1 k) := by
  unfold V
  repeat after_reads_at

/-- Which block each window holds at a grid point. -/
theorem idx : ∀ t : Fin cfg0.N,
    (win0_0.index t 0 = t.val ∧ win0_0.index t 1 = 0)
    ∧ (win0_1.index t 0 = 0 ∧ win0_1.index t 1 = 0)
    ∧ (win0_2.index t 0 = t.val % 8 ∧ win0_2.index t 1 = 0)
    ∧ (win0_3.index t 0 = t.val % 8 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0) :=
  (by decide +kernel : ∀ t : Fin grid0.N, _)

theorem lt32 (t : Fin cfg0.N) : t.val < 32 := lt_of_lt_of_eq t.isLt N_0

theorem blk0_at (t : Fin cfg0.N) (r : Fin 512) (h : Fin 1024) :
    (iblk m c 0 t : FVec Ideal S512x1024 .f32) (ix2 r h)
      = (V m c main_v31 : FVec Ideal S16384x1024 .f32) (ix2 ⟨t.val * 512 + r.val, by have := lt32 t; omega⟩ h) := by
  obtain ⟨⟨h1, h2⟩, -⟩ := idx t
  blk_ext [iblk, h1, h2]

theorem blk1_at (t : Fin cfg0.N) (h : Fin 1024) :
    (iblk m c 1 t : FVec Ideal S1x1024 .f32) (ix2 0 h) = (V m c main_v32 : FVec Ideal S1x1024 .f32) (ix2 0 h) := by
  obtain ⟨-, ⟨h1, h2⟩, -⟩ := idx t
  blk_ext [iblk, h1, h2]

theorem blk2_at (t : Fin cfg0.N) (r : Fin 512) (l : Fin 128) :
    (iblk m c 2 t : FVec Ideal S512x128 .f32) (ix2 r l) = (V m c main_v17 : FVec Ideal S4096x128 .f32) (ix2 ⟨t.val % 8 * 512 + r.val, by omega⟩ l) := by
  obtain ⟨-, -, ⟨h1, h2⟩, -⟩ := idx t
  blk_ext [iblk, h1, h2]

theorem blk3_at (t : Fin cfg0.N) (r : Fin 512) (l : Fin 128) :
    (iblk m c 3 t : FVec Ideal S512x128 .f32) (ix2 r l) = (V m c main_v22 : FVec Ideal S4096x128 .f32) (ix2 ⟨t.val % 8 * 512 + r.val, by omega⟩ l) := by
  obtain ⟨-, -, -, ⟨h1, h2⟩, -⟩ := idx t
  blk_ext [iblk, h1, h2]

theorem blk4_at (t : Fin cfg0.N) (k : Fin 1024) (h : Fin 1792) :
    (iblk m c 4 t : FVec Ideal S1024x1792 .bf16) (ix2 k h) = (V m c main_v24 : FVec Ideal S1024x1792 .bf16) (ix2 k h) := by
  obtain ⟨-, -, -, -, ⟨h1, h2⟩, -⟩ := idx t
  blk_ext [iblk, h1, h2]

theorem blk5_at (t : Fin cfg0.N) (k : Fin 1024) (h : Fin 512) :
    (iblk m c 5 t : FVec Ideal S1024x512 .bf16) (ix2 k h) = (V m c main_v25 : FVec Ideal S1024x512 .bf16) (ix2 k h) := by
  obtain ⟨-, -, -, -, -, ⟨h1, h2⟩, -⟩ := idx t
  blk_ext [iblk, h1, h2]

theorem blk6_at (t : Fin cfg0.N) (k : Fin 1024) (h : Fin 768) :
    (iblk m c 6 t : FVec Ideal S1024x768 .bf16) (ix2 k h) = (V m c main_v26 : FVec Ideal S1024x768 .bf16) (ix2 k h) := by
  obtain ⟨-, -, -, -, -, -, ⟨h1, h2⟩, -⟩ := idx t
  blk_ext [iblk, h1, h2]

theorem blk7_at (t : Fin cfg0.N) (k : Fin 1024) (h : Fin 128) :
    (iblk m c 7 t : FVec Ideal S1024x128 .bf16) (ix2 k h) = (V m c main_v28 : FVec Ideal S1024x128 .bf16) (ix2 k h) := by
  obtain ⟨-, -, -, -, -, -, -, ⟨h1, h2⟩, -⟩ := idx t
  blk_ext [iblk, h1, h2]

theorem blk8_at (t : Fin cfg0.N) (h : Fin 128) :
    (iblk m c 8 t : FVec Ideal S1x128 .f32) (ix2 0 h) = (V m c main_v30 : FVec Ideal S1x128 .f32) (ix2 0 h) := by
  obtain ⟨-, -, -, -, -, -, -, -, ⟨h1, h2⟩, -⟩ := idx t
  blk_ext [iblk, h1, h2]

/-- The result arrays are whatever functions their blocks are read off from. -/
theorem final9 (G : FVec Ideal S16384x1792 .f32)
    (hG : ∀ (t : Fin cfg0.N) (r : Fin 512) (h : Fin 1792),
      (out0_9 (F := Ideal) (iblk m c 0 t) (iblk m c 1 t) (iblk m c 2 t) (iblk m c 3 t) (iblk m c 4 t) (iblk m c 5 t) (iblk m c 6 t) (iblk m c 7 t) (iblk m c 8 t)) (ix2 r h)
        = G (ix2 ⟨t.val * 512 + r.val, by have := lt32 t; omega⟩ h)) :
    (dats m 0 c).arrAt 9 cfg0.N = G := by
  refine (dats m 0 c).arrAt_eq_of_covers 9 G (by decide +kernel) fun t hf y => ?_
  obtain ⟨-, -, -, -, -, -, -, -, -, ⟨h1, h2⟩, -⟩ := idx t
  blk_simp
  rw [after0_9]
  revert y
  intro (y : S512x1792.Idx)
  obtain ⟨r, h, rfl⟩ := ex2 y
  refine (hG t r h).trans ?_
  blk_ext [h1, h2]

theorem final10 (G : FVec Ideal S16384x512 .f32)
    (hG : ∀ (t : Fin cfg0.N) (r : Fin 512) (h : Fin 512),
      (out0_10 (F := Ideal) (iblk m c 0 t) (iblk m c 1 t) (iblk m c 2 t) (iblk m c 3 t) (iblk m c 4 t) (iblk m c 5 t) (iblk m c 6 t) (iblk m c 7 t) (iblk m c 8 t)) (ix2 r h)
        = G (ix2 ⟨t.val * 512 + r.val, by have := lt32 t; omega⟩ h)) :
    (dats m 0 c).arrAt 10 cfg0.N = G := by
  refine (dats m 0 c).arrAt_eq_of_covers 10 G (by decide +kernel) fun t hf y => ?_
  obtain ⟨-, -, -, -, -, -, -, -, -, -, ⟨h1, h2⟩, -⟩ := idx t
  blk_simp
  rw [after0_10]
  revert y
  intro (y : S512x512.Idx)
  obtain ⟨r, h, rfl⟩ := ex2 y
  refine (hG t r h).trans ?_
  blk_ext [h1, h2]

theorem final11 (G : FVec Ideal S16384x768 .f32)
    (hG : ∀ (t : Fin cfg0.N) (r : Fin 512) (h : Fin 768),
      (out0_11 (F := Ideal) (iblk m c 0 t) (iblk m c 1 t) (iblk m c 2 t) (iblk m c 3 t) (iblk m c 4 t) (iblk m c 5 t) (iblk m c 6 t) (iblk m c 7 t) (iblk m c 8 t)) (ix2 r h)
        = G (ix2 ⟨t.val * 512 + r.val, by have := lt32 t; omega⟩ h)) :
    (dats m 0 c).arrAt 11 cfg0.N = G := by
  refine (dats m 0 c).arrAt_eq_of_covers 11 G (by decide +kernel) fun t hf y => ?_
  obtain ⟨-, -, -, -, -, -, -, -, -, -, -, ⟨h1, h2⟩, -⟩ := idx t
  blk_simp
  rw [after0_11]
  revert y
  intro (y : S512x768.Idx)
  obtain ⟨r, h, rfl⟩ := ex2 y
  refine (hG t r h).trans ?_
  blk_ext [h1, h2]

theorem final12 (G : FVec Ideal S16384x128 .f32)
    (hG : ∀ (t : Fin cfg0.N) (r : Fin 512) (h : Fin 128),
      (out0_12 (F := Ideal) (iblk m c 0 t) (iblk m c 1 t) (iblk m c 2 t) (iblk m c 3 t) (iblk m c 4 t) (iblk m c 5 t) (iblk m c 6 t) (iblk m c 7 t) (iblk m c 8 t)) (ix2 r h)
        = G (ix2 ⟨t.val * 512 + r.val, by have := lt32 t; omega⟩ h)) :
    (dats m 0 c).arrAt 12 cfg0.N = G := by
  refine (dats m 0 c).arrAt_eq_of_covers 12 G (by decide +kernel) fun t hf y => ?_
  obtain ⟨-, -, -, -, -, -, -, -, -, -, -, -, ⟨h1, h2⟩⟩ := idx t
  blk_simp
  rw [after0_12]
  revert y
  intro (y : S512x128.Idx)
  obtain ⟨r, h, rfl⟩ := ex2 y
  refine (hG t r h).trans ?_
  blk_ext [h1, h2]

end Cert.Kernel4Ideal.Proj

end
-- ==== Proof.ProjRef4.lean ====
/-
  The even layer's projection reference, read at an index.
-/
module

public import proofs.«01_k».proof.Proof.Gen.Reference4Ideal.Read
public import proofs.«01_k».proof.Proof.Rope

@[expose] public section

set_option maxRecDepth 16384

noncomputable section

open Idealize.ShloMosaic Idealize.ShloMosaic.TcCoe Idealize.SL.Sem

namespace Cert.Reference4Ideal.Proj

open Cert.Reference4Ideal Cert.Reference4Ideal.Gen Cert.Reference4Ideal.Read Cert.Ffn Cert.Rope

/-- The arguments' types: rows, norm weights, projection weights, gate bias. -/
abbrev X := FVec Ideal S4x4096x1024 .f32
abbrev G := FVec Ideal S1024 .f32
abbrev W := FVec Ideal S1024x3096 .f32
abbrev B := FVec Ideal S24 .f32

theorem v45_at (t : Fin 4096) (j : Fin 32) : val_main_v45 (F := Ideal) (ix2 t j) = ang t.val j.val := by
  pointwise [val_main_v45, val_main_v44, val_main_v43, val_main_v42, val_main_v41, val_main_v40, val_main_v39, val_main_v38, val_main_v37, val_main_v36, val_main_v35, val_main_v34, val_main_cst_5, val_main_cst_4, val_main_v0]
  rfl

theorem v85_at (t : Fin 4096) (j : Fin 32) : val_main_v85 (F := Ideal) (ix2 t j) = ang t.val j.val := by
  pointwise [val_main_v85, val_main_v84, val_main_v83, val_main_v82, val_main_v81, val_main_v80, val_main_v79, val_main_v78, val_main_v77, val_main_v76, val_main_v75, val_main_v74, val_main_cst_7, val_main_cst_6, val_main_v0]
  rfl

variable (x : X) (g : G) (w : W) (gb : B)

theorem v13_at (b : Fin 4) (t : Fin 4096) (h : Fin 1024) :
    val_main_v13 (F := Ideal) x g (ix3 b t h) = normed (fun k => x (ix3 b t k)) (fun k => g (ix1 k)) h := by
  pointwise [val_main_v13, val_main_v12, val_main_v11, val_main_v10, val_main_v9, val_main_v8, val_main_v7, val_main_v6, val_main_v5, val_main_v4, val_main_v3, val_main_v2, val_main_v1, val_main_cst, val_main_cst_0, val_main_cst_1]
  rfl

/-- The projected rows. -/
theorem v14_at (b : Fin 4) (t : Fin 4096) (h : Fin 3096) :
    val_main_v14 (F := Ideal) x g w (ix3 b t h) = proj (fun k => x (ix3 b t k)) (fun k => g (ix1 k)) (fun k h => w (ix2 k h)) h := by
  pointwise [val_main_v14]
  simp only [v13_at]
  rfl

/-- The recurrence's columns, -/
theorem v15_at (b : Fin 4) (t : Fin 4096) (h : Fin 1792) :
    val_main_v15 (F := Ideal) x g w (ix3 b t h) = val_main_v14 (F := Ideal) x g w (ix3 b t ⟨h.val, by omega⟩) := by
  pointwise [val_main_v15]

/-- and those of the last token. -/
theorem v73_at (b : Fin 4) (h : Fin 1792) :
    val_main_v73 (F := Ideal) x g w (ix2 b h) = val_main_v14 (F := Ideal) x g w (ix3 b ⟨4095, by omega⟩ ⟨h.val, by omega⟩) := by
  pointwise [val_main_v73, val_main_v72, val_main_v15]

theorem v17_at (b : Fin 4) (t : Fin 4096) (h : Fin 8) (l : Fin 64) :
    val_main_v17 (F := Ideal) x g w (ix4 b t h l) = val_main_v14 (F := Ideal) x g w (ix3 b t ⟨1792 + (h.val * 64 + l.val), by omega⟩) := by
  pointwise [val_main_v17, val_main_v16]

theorem v33_at (b : Fin 4) (t : Fin 4096) (e : Fin 6) (l : Fin 64) :
    val_main_v33 (F := Ideal) x g w (ix4 b t e l)
      = val_main_v14 (F := Ideal) x g w (ix3 b t ⟨2304 + (e.val / 2 * 256 + e.val % 2 * 64 + l.val), by omega⟩) := by
  pointwise [val_main_v33, val_main_v32, val_main_v31, val_main_v19, val_main_v18]

theorem v65_at (b : Fin 4) (t : Fin 4096) (e : Fin 3) (z : Fin 2) (l : Fin 64) :
    val_main_v65 (F := Ideal) x g w (ix5 b t e z l)
      = val_main_v14 (F := Ideal) x g w (ix3 b t ⟨2304 + (e.val * 256 + 128 + z.val * 64 + l.val), by omega⟩) := by
  pointwise [val_main_v65, val_main_v64, val_main_v19, val_main_v18]

/-- The gates. -/
theorem v30_at (b : Fin 4) (t : Fin 4096) (h : Fin 8) (e : Fin 3) :
    val_main_v30 (F := Ideal) x g w gb (ix4 b t h e)
      = Ideal.logistic (val_main_v14 (F := Ideal) x g w (ix3 b t ⟨3072 + (h.val * 3 + e.val), by omega⟩) + gb (ix1 ⟨h.val * 3 + e.val, by omega⟩)) := by
  pointwise [val_main_v30, val_main_v29, val_main_v28, val_main_v27, val_main_v26, val_main_v25, val_main_v24, val_main_v23, val_main_v22, val_main_v21, val_main_v20, val_main_cst_2, val_main_cst_3]
  generalize val_main_v14 (F := Ideal) x g w = y
  rfl

/-- The two halves of the heads. -/
theorem v90_at (b : Fin 4) (t : Fin 4096) (h : Fin 8) (l : Fin 32) :
    val_main_v90 (F := Ideal) x g w (ix4 b t h l) = val_main_v14 (F := Ideal) x g w (ix3 b t ⟨1792 + (h.val * 64 + l.val), by omega⟩) := by
  refine Eq.trans ?_ (v17_at x g w b t h ⟨l.val, by omega⟩)
  rw [val_main_v90_apply]
  generalize val_main_v17 (F := Ideal) x g w = z
  refine congrArg z ?_
  funext n
  match n with
  | ⟨0, _⟩ => rfl
  | ⟨1, _⟩ => rfl
  | ⟨2, _⟩ => rfl
  | ⟨3, _⟩ => rfl

theorem v91_at (b : Fin 4) (t : Fin 4096) (h : Fin 8) (l : Fin 32) :
    val_main_v91 (F := Ideal) x g w (ix4 b t h l) = val_main_v14 (F := Ideal) x g w (ix3 b t ⟨1792 + (h.val * 64 + (32 + l.val)), by omega⟩) := by
  refine Eq.trans ?_ (v17_at x g w b t h ⟨32 + l.val, by omega⟩)
  rw [val_main_v91_apply]
  generalize val_main_v17 (F := Ideal) x g w = z
  refine congrArg z ?_
  funext n
  match n with
  | ⟨0, _⟩ => rfl
  | ⟨1, _⟩ => rfl
  | ⟨2, _⟩ => rfl
  | ⟨3, _⟩ => rfl

/-- The queries: every head turned. -/
theorem v102_at (b : Fin 4) (t : Fin 4096) (h : Fin 8) (l : Fin 64) :
    val_main_v102 (F := Ideal) x g w (ix4 b t h l)
      = turn rfl (fun k : Fin 512 => val_main_v14 (F := Ideal) x g w (ix3 b t ⟨1792 + k.val, by omega⟩)) t.val ⟨h.val * 64 + l.val, by omega⟩ := by
  pointwise [val_main_v102, val_main_v101, val_main_v100, val_main_v99, val_main_v98, val_main_v97, val_main_v96, val_main_v95, val_main_v94, val_main_v93, val_main_v92, val_main_v89, val_main_v88, val_main_v87, val_main_v86]
  simp only [v85_at, v90_at, v91_at]
  generalize val_main_v14 (F := Ideal) x g w = y
  exact turn_halves rfl (fun k : Fin 512 => y (ix3 b t ⟨1792 + k.val, by omega⟩)) t.val (h.val * 64) l.val l.isLt (by omega) (by omega)

/-- The two halves of the heads. -/
theorem v50_at (b : Fin 4) (t : Fin 4096) (h : Fin 6) (l : Fin 32) :
    val_main_v50 (F := Ideal) x g w (ix4 b t h l) = val_main_v14 (F := Ideal) x g w (ix3 b t ⟨2304 + (h.val / 2 * 256 + h.val % 2 * 64 + l.val), by omega⟩) := by
  refine Eq.trans ?_ (v33_at x g w b t h ⟨l.val, by omega⟩)
  rw [val_main_v50_apply]
  generalize val_main_v33 (F := Ideal) x g w = z
  refine congrArg z ?_
  funext n
  match n with
  | ⟨0, _⟩ => rfl
  | ⟨1, _⟩ => rfl
  | ⟨2, _⟩ => rfl
  | ⟨3, _⟩ => rfl

theorem v51_at (b : Fin 4) (t : Fin 4096) (h : Fin 6) (l : Fin 32) :
    val_main_v51 (F := Ideal) x g w (ix4 b t h l) = val_main_v14 (F := Ideal) x g w (ix3 b t ⟨2304 + (h.val / 2 * 256 + h.val % 2 * 64 + (32 + l.val)), by omega⟩) := by
  refine Eq.trans ?_ (v33_at x g w b t h ⟨32 + l.val, by omega⟩)
  rw [val_main_v51_apply]
  generalize val_main_v33 (F := Ideal) x g w = z
  refine congrArg z ?_
  funext n
  match n with
  | ⟨0, _⟩ => rfl
  | ⟨1, _⟩ => rfl
  | ⟨2, _⟩ => rfl
  | ⟨3, _⟩ => rfl

/-- The keys: every head turned. -/
theorem v62_at (b : Fin 4) (t : Fin 4096) (e : Fin 6) (l : Fin 64) :
    val_main_v62 (F := Ideal) x g w (ix4 b t e l)
      = turn rfl (fun k : Fin 768 => val_main_v14 (F := Ideal) x g w (ix3 b t ⟨2304 + k.val, by omega⟩)) t.val
          ⟨e.val / 2 * 256 + e.val % 2 * 64 + l.val, by omega⟩ := by
  pointwise [val_main_v62, val_main_v61, val_main_v60, val_main_v59, val_main_v58, val_main_v57, val_main_v56, val_main_v55, val_main_v54, val_main_v53, val_main_v52, val_main_v49, val_main_v48, val_main_v47, val_main_v46]
  simp only [v45_at, v50_at, v51_at]
  generalize val_main_v14 (F := Ideal) x g w = y
  exact turn_halves rfl (fun k : Fin 768 => y (ix3 b t ⟨2304 + k.val, by omega⟩)) t.val (e.val / 2 * 256 + e.val % 2 * 64) l.val l.isLt (by omega) (by omega)

/-- Keys and values are set side by side, keys first. -/
theorem joined (p q : FVec Ideal S4x4096x3x1x2x64 .f32) (b : Fin 4) (t : Fin 4096) (e : Fin 6) (z : Fin 2) (l : Fin 64) :
    shapeCast S4x4096x6x2x64 (concatenate S4x4096x3x2x2x64 3 [⟨S4x4096x3x1x2x64, p⟩, ⟨S4x4096x3x1x2x64, q⟩] concatenates_S4x4096x3x1x2x64_S4x4096x3x1x2x64_S4x4096x3x2x2x64_d3)
        shapeCasts_S4x4096x3x2x2x64_S4x4096x6x2x64 (ix5 b t e z l)
      = if e.val % 2 < 1 then p (ix6 b t ⟨e.val / 2, by omega⟩ 0 z l) else q (ix6 b t ⟨e.val / 2, by omega⟩ 0 z l) := by
  pointwise
  by_cases he : e.val % 2 < 1
  · rw [dif_pos he, if_pos he]
    exact congrArg (fun k : Fin 1 => p (ix6 b t ⟨e.val / 2, by omega⟩ k z l)) (Subsingleton.elim _ _)
  · rw [dif_neg he, if_neg he]
    exact congrArg (fun k : Fin 1 => q (ix6 b t ⟨e.val / 2, by omega⟩ k z l)) (Subsingleton.elim _ _)

theorem v63_at (b : Fin 4) (t : Fin 4096) (s : Fin 3) (z : Fin 2) (l : Fin 64) :
    val_main_v63 (F := Ideal) x g w (ix5 b t s z l) = val_main_v62 (F := Ideal) x g w (ix4 b t ⟨s.val * 2 + z.val, by omega⟩ l) := by
  unfold val_main_v63
  generalize val_main_v62 (F := Ideal) x g w = y
  pointwise

theorem v66_at (b : Fin 4) (t : Fin 4096) (s : Fin 3) (z : Fin 2) (l : Fin 64) :
    val_main_v66 (F := Ideal) x g w (ix6 b t s 0 z l) = val_main_v63 (F := Ideal) x g w (ix5 b t s z l) := by
  rw [val_main_v66_apply]
  generalize val_main_v63 (F := Ideal) x g w = y
  refine congrArg y ?_
  funext n
  match n with
  | ⟨0, _⟩ => rfl
  | ⟨1, _⟩ => rfl
  | ⟨2, _⟩ => rfl
  | ⟨3, _⟩ => rfl
  | ⟨4, _⟩ => rfl

theorem v67_at (b : Fin 4) (t : Fin 4096) (s : Fin 3) (z : Fin 2) (l : Fin 64) :
    val_main_v67 (F := Ideal) x g w (ix6 b t s 0 z l) = val_main_v65 (F := Ideal) x g w (ix5 b t s z l) := by
  rw [val_main_v67_apply]
  generalize val_main_v65 (F := Ideal) x g w = y
  refine congrArg y ?_
  funext n
  match n with
  | ⟨0, _⟩ => rfl
  | ⟨1, _⟩ => rfl
  | ⟨2, _⟩ => rfl
  | ⟨3, _⟩ => rfl
  | ⟨4, _⟩ => rfl

/-- Keys and values. -/
theorem v69_at (b : Fin 4) (t : Fin 4096) (e : Fin 6) (z : Fin 2) (l : Fin 64) :
    val_main_v69 (F := Ideal) x g w (ix5 b t e z l)
      = if e.val % 2 < 1 then turn rfl (fun k : Fin 768 => val_main_v14 (F := Ideal) x g w (ix3 b t ⟨2304 + k.val, by omega⟩)) t.val
          ⟨e.val * 128 + z.val * 64 + l.val, by omega⟩
        else val_main_v14 (F := Ideal) x g w (ix3 b t ⟨2304 + (e.val * 128 + z.val * 64 + l.val), by omega⟩) := by
  refine (joined (val_main_v66 (F := Ideal) x g w) (val_main_v67 (F := Ideal) x g w) b t e z l).trans ?_
  rw [v66_at, v67_at, v63_at, v62_at, v65_at]
  generalize val_main_v14 (F := Ideal) x g w = y
  by_cases he : e.val % 2 < 1
  · rw [if_pos he, if_pos he]
    refine congrArg (turn rfl (fun k : Fin 768 => y (ix3 b t ⟨2304 + k.val, by omega⟩)) t.val) (Fin.ext ?_)
    show (e.val / 2 * 2 + z.val) / 2 * 256 + (e.val / 2 * 2 + z.val) % 2 * 64 + l.val = e.val * 128 + z.val * 64 + l.val
    omega
  · rw [if_neg he, if_neg he]
    refine congrArg (fun k => y (ix3 b t k)) (Fin.ext ?_)
    show 2304 + (e.val / 2 * 256 + 128 + z.val * 64 + l.val) = 2304 + (e.val * 128 + z.val * 64 + l.val)
    omega

/-- Those of the keys and values that are kept of every token, -/
theorem v70_at (b : Fin 4) (t : Fin 4096) (e : Fin 4) (z : Fin 2) (l : Fin 64) :
    val_main_v70 (F := Ideal) x g w (ix5 b t e z l) = val_main_v69 (F := Ideal) x g w (ix5 b t ⟨e.val, by omega⟩ z l) := by
  rw [val_main_v70_apply]
  generalize val_main_v69 (F := Ideal) x g w = y
  refine congrArg y ?_
  funext n
  match n with
  | ⟨0, _⟩ => rfl
  | ⟨1, _⟩ => rfl
  | ⟨2, _⟩ => rfl
  | ⟨3, _⟩ => rfl
  | ⟨4, _⟩ => rfl

/-- and of the last tokens. -/
theorem v71_at (b : Fin 4) (t : Fin 512) (e : Fin 2) (z : Fin 2) (l : Fin 64) :
    val_main_v71 (F := Ideal) x g w (ix5 b t e z l) = val_main_v69 (F := Ideal) x g w (ix5 b ⟨3584 + t.val, by omega⟩ ⟨4 + e.val, by omega⟩ z l) := by
  rw [val_main_v71_apply]
  generalize val_main_v69 (F := Ideal) x g w = y
  refine congrArg y ?_
  funext n
  match n with
  | ⟨0, _⟩ => rfl
  | ⟨1, _⟩ => rfl
  | ⟨2, _⟩ => rfl
  | ⟨3, _⟩ => rfl
  | ⟨4, _⟩ => rfl

end Cert.Reference4Ideal.Proj

end
-- ==== Proof.ProjMain4.lean ====
/-
  The even layer's projection kernel ends with the reference's arrays.
-/
module

public import proofs.«01_k».proof.Proof.ProjBlocks4
public import proofs.«01_k».proof.Proof.ProjRef4

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen Cert.Ffn Cert.Rope

variable (m : (ℓ : Loc nD τ sig) → Buf (Elt Ideal) ℓ) (c : Dev nD)

/-- The input blocks of a grid point, from the arguments. -/
theorem x_at (t : Fin cfg0.N) (r : Fin 512) (h : Fin 1024) :
    (iblk m c 0 t : FVec Ideal S512x1024 .f32) (ix2 r h)
      = ax m c (ix3 ⟨(t.val * 512 + r.val) / 4096, by have := lt32 t; omega⟩ ⟨(t.val * 512 + r.val) % 4096, by omega⟩ h) :=
  (blk0_at m c t r h).trans (v31_at m c _ h)

theorem g_at (t : Fin cfg0.N) (h : Fin 1024) : (iblk m c 1 t : FVec Ideal S1x1024 .f32) (ix2 0 h) = ag m c (ix1 h) :=
  (blk1_at m c t h).trans (v32_at m c h)

theorem cos_at (t : Fin cfg0.N) (r : Fin 512) (l : Fin 128) :
    (iblk m c 2 t : FVec Ideal S512x128 .f32) (ix2 r l) = Ideal.cos (ang ((t.val * 512 + r.val) % 4096) (l.val % 32)) :=
  (blk2_at m c t r l).trans ((v17_at m c _ l).trans (congrArg (fun p => Ideal.cos (ang p (l.val % 32))) (by show t.val % 8 * 512 + r.val = _; omega)))

theorem sin_at (t : Fin cfg0.N) (r : Fin 512) (l : Fin 128) :
    (iblk m c 3 t : FVec Ideal S512x128 .f32) (ix2 r l) = table ((t.val * 512 + r.val) % 4096) l.val :=
  (blk3_at m c t r l).trans ((v22_at m c _ l).trans (congrArg (fun p => table p l.val) (by show t.val % 8 * 512 + r.val = _; omega)))

theorem wr_at (t : Fin cfg0.N) (k : Fin 1024) (h : Fin 1792) :
    (iblk m c 4 t : FVec Ideal S1024x1792 .bf16) (ix2 k h) = aw m c (ix2 k ⟨h.val, by omega⟩) :=
  (blk4_at m c t k h).trans (v24_at m c k h)

theorem wq_at (t : Fin cfg0.N) (k : Fin 1024) (h : Fin 512) :
    (iblk m c 5 t : FVec Ideal S1024x512 .bf16) (ix2 k h) = aw m c (ix2 k ⟨1792 + h.val, by omega⟩) :=
  (blk5_at m c t k h).trans (v25_at m c k h)

theorem wk_at (t : Fin cfg0.N) (k : Fin 1024) (h : Fin 768) :
    (iblk m c 6 t : FVec Ideal S1024x768 .bf16) (ix2 k h) = aw m c (ix2 k ⟨2304 + h.val, by omega⟩) :=
  (blk6_at m c t k h).trans (v26_at m c k h)

/-- The gates' padded weights and bias, as the call takes them. -/
abbrev pw : FVec Ideal S1024x128 .bf16 := V m c main_v28
abbrev pb : FVec Ideal S1x128 .f32 := V m c main_v30

/-- The projection of one token. -/
def row (b : Fin 4) (t : Fin 4096) (j : Fin 3096) : EReal :=
  proj (fun k => ax m c (ix3 b t k)) (fun k => ag m c (ix1 k)) (fun k h => aw m c (ix2 k h)) j

/-- The gates of one token, with the padding's columns. -/
def gate (b : Fin 4) (t : Fin 4096) (j : Fin 128) : EReal :=
  Ideal.logistic (proj (fun k => ax m c (ix3 b t k)) (fun k => ag m c (ix1 k)) (fun k h => pw m c (ix2 k h)) j + pb m c (ix2 0 j))

/-- The kernel's four result arrays, the tokens in one row after the other. -/
def flatR : FVec Ideal S16384x1792 .f32 := fun i =>
  row m c ⟨(i 0).val / 4096, by have : (i 0).val < 16384 := (i 0).isLt; omega⟩ ⟨(i 0).val % 4096, by omega⟩ ⟨(i 1).val, by have : (i 1).val < 1792 := (i 1).isLt; omega⟩

def flatQ : FVec Ideal S16384x512 .f32 := fun i =>
  turn rfl (fun k : Fin 512 => row m c ⟨(i 0).val / 4096, by have : (i 0).val < 16384 := (i 0).isLt; omega⟩ ⟨(i 0).val % 4096, by omega⟩ ⟨1792 + k.val, by omega⟩) ((i 0).val % 4096) (i 1)

def flatKv : FVec Ideal S16384x768 .f32 := fun i =>
  if (i 1).val % 256 < 128 then
    turn rfl (fun k : Fin 768 => row m c ⟨(i 0).val / 4096, by have : (i 0).val < 16384 := (i 0).isLt; omega⟩ ⟨(i 0).val % 4096, by omega⟩ ⟨2304 + k.val, by omega⟩) ((i 0).val % 4096) (i 1)
  else row m c ⟨(i 0).val / 4096, by have : (i 0).val < 16384 := (i 0).isLt; omega⟩ ⟨(i 0).val % 4096, by omega⟩ ⟨2304 + (i 1).val, by have : (i 1).val < 768 := (i 1).isLt; omega⟩

def flatG : FVec Ideal S16384x128 .f32 := fun i => gate m c ⟨(i 0).val / 4096, by have : (i 0).val < 16384 := (i 0).isLt; omega⟩ ⟨(i 0).val % 4096, by omega⟩ (i 1)

/-- A grid point's projected rows. -/
theorem y10_row (t : Fin cfg0.N) (r : Fin 512) (h : Fin 512) :
    k0_pay34 (F := Ideal) (iblk m c 0 t) (iblk m c 1 t) (iblk m c 2 t) (iblk m c 3 t) (iblk m c 4 t) (iblk m c 5 t) (iblk m c 6 t) (iblk m c 7 t) (iblk m c 8 t) (ix2 r h) = row m c ⟨(t.val * 512 + r.val) / 4096, by have := lt32 t; omega⟩ ⟨(t.val * 512 + r.val) % 4096, by omega⟩ ⟨1792 + h.val, by omega⟩ := by
  rw [y10_at]
  simp only [x_at, g_at, wq_at]
  rfl

theorem y11_row (t : Fin cfg0.N) (r : Fin 512) (h : Fin 768) :
    k0_pay37 (F := Ideal) (iblk m c 0 t) (iblk m c 1 t) (iblk m c 2 t) (iblk m c 3 t) (iblk m c 4 t) (iblk m c 5 t) (iblk m c 6 t) (iblk m c 7 t) (iblk m c 8 t) (ix2 r h) = row m c ⟨(t.val * 512 + r.val) / 4096, by have := lt32 t; omega⟩ ⟨(t.val * 512 + r.val) % 4096, by omega⟩ ⟨2304 + h.val, by omega⟩ := by
  rw [y11_at]
  simp only [x_at, g_at, wk_at]
  rfl

theorem arr9 : (dats m 0 c).arrAt 9 cfg0.N = flatR m c := by
  refine final9 m c _ fun t r h => ?_
  rw [out9_at]
  simp only [x_at, g_at, wr_at]
  rfl

theorem arr10 : (dats m 0 c).arrAt 10 cfg0.N = flatQ m c := by
  refine final10 m c _ fun t r h => ?_
  rw [out10_at]
  unfold spun512
  simp only [y10_row, cos_at, sin_at]
  exact turn_eq rfl (fun k : Fin 512 => row m c ⟨(t.val * 512 + r.val) / 4096, by have := lt32 t; omega⟩ ⟨(t.val * 512 + r.val) % 4096, by omega⟩ ⟨1792 + k.val, by omega⟩) _ h

theorem arr11 : (dats m 0 c).arrAt 11 cfg0.N = flatKv m c := by
  refine final11 m c _ fun t r h => ?_
  rw [out11_at]
  unfold spun768
  simp only [y11_row, cos_at, sin_at]
  refine (if_congr Iff.rfl ?_ rfl)
  exact turn_eq rfl (fun k : Fin 768 => row m c ⟨(t.val * 512 + r.val) / 4096, by have := lt32 t; omega⟩ ⟨(t.val * 512 + r.val) % 4096, by omega⟩ ⟨2304 + k.val, by omega⟩) _ h

theorem arr12 : (dats m 0 c).arrAt 12 cfg0.N = flatG m c := by
  refine final12 m c _ fun t r h => ?_
  rw [out12_at]
  simp only [x_at, g_at, blk7_at, blk8_at]
  rfl

/-- The arrays have names of their own. -/
theorem injective : Function.Injective (Pipeline.arrRef spec0) := by
  intro a b
  revert a b
  decide

/-- What the host makes of the result arrays. -/
theorem tail34 (b : Fin 4) (t : Fin 4096) (h : Fin 1792) :
    (Pipeline.afterTail₀ cfgs (dats m) 0 (V0 m) [hostOps1] c main_v34 : FVec Ideal S4x4096x1792 .f32) (ix3 b t h)
      = flatR m c (ix2 ⟨b.val * 4096 + t.val, by omega⟩ h) := by
  rw [← arr9]
  unfold Pipeline.afterTail₀
  repeat after_reads_at
  exact congrFun (Pipeline.withArrays_arr spec0 injective c (V0 m c) (fun w => (dats m 0 c).arrAt w cfg0.N) 9) _

theorem tail39 (b : Fin 4) (h : Fin 1792) :
    (Pipeline.afterTail₀ cfgs (dats m) 0 (V0 m) [hostOps1] c main_v39 : FVec Ideal S4x1792 .f32) (ix2 b h)
      = flatR m c (ix2 ⟨b.val * 4096 + 4095, by omega⟩ h) := by
  rw [← arr9]
  unfold Pipeline.afterTail₀
  repeat after_reads_at
  exact congrFun (Pipeline.withArrays_arr spec0 injective c (V0 m c) (fun w => (dats m 0 c).arrAt w cfg0.N) 9) _

theorem tail40 (b : Fin 4) (t : Fin 4096) (h : Fin 8) (l : Fin 64) :
    (Pipeline.afterTail₀ cfgs (dats m) 0 (V0 m) [hostOps1] c main_v40 : FVec Ideal S4x4096x8x64 .f32) (ix4 b t h l)
      = flatQ m c (ix2 ⟨b.val * 4096 + t.val, by omega⟩ ⟨h.val * 64 + l.val, by omega⟩) := by
  rw [← arr10]
  unfold Pipeline.afterTail₀
  repeat after_reads_at
  exact congrFun (Pipeline.withArrays_arr spec0 injective c (V0 m c) (fun w => (dats m 0 c).arrAt w cfg0.N) 10) _

theorem tail35 (b : Fin 4) (t : Fin 4096) (e : Fin 6) (z : Fin 2) (l : Fin 64) :
    (Pipeline.afterTail₀ cfgs (dats m) 0 (V0 m) [hostOps1] c main_v35 : FVec Ideal S4x4096x6x2x64 .f32) (ix5 b t e z l)
      = flatKv m c (ix2 ⟨b.val * 4096 + t.val, by omega⟩ ⟨e.val * 128 + z.val * 64 + l.val, by omega⟩) := by
  rw [← arr11]
  unfold Pipeline.afterTail₀
  repeat after_reads_at
  exact congrFun (Pipeline.withArrays_arr spec0 injective c (V0 m c) (fun w => (dats m 0 c).arrAt w cfg0.N) 11) _

theorem tail36 (b : Fin 4) (t : Fin 4096) (e : Fin 4) (z : Fin 2) (l : Fin 64) :
    (Pipeline.afterTail₀ cfgs (dats m) 0 (V0 m) [hostOps1] c main_v36 : FVec Ideal S4x4096x4x2x64 .f32) (ix5 b t e z l)
      = flatKv m c (ix2 ⟨b.val * 4096 + t.val, by omega⟩ ⟨e.val * 128 + z.val * 64 + l.val, by omega⟩) := by
  rw [← arr11]
  unfold Pipeline.afterTail₀
  repeat after_reads_at
  exact congrFun (Pipeline.withArrays_arr spec0 injective c (V0 m c) (fun w => (dats m 0 c).arrAt w cfg0.N) 11) _

theorem tail37 (b : Fin 4) (t : Fin 512) (e : Fin 2) (z : Fin 2) (l : Fin 64) :
    (Pipeline.afterTail₀ cfgs (dats m) 0 (V0 m) [hostOps1] c main_v37 : FVec Ideal S4x512x2x2x64 .f32) (ix5 b t e z l)
      = flatKv m c (ix2 ⟨b.val * 4096 + (3584 + t.val), by omega⟩ ⟨(4 + e.val) * 128 + z.val * 64 + l.val, by omega⟩) := by
  rw [← arr11]
  unfold Pipeline.afterTail₀
  repeat after_reads_at
  exact congrFun (Pipeline.withArrays_arr spec0 injective c (V0 m c) (fun w => (dats m 0 c).arrAt w cfg0.N) 11) _

theorem tail42 (b : Fin 4) (t : Fin 4096) (h : Fin 8) (e : Fin 3) :
    (Pipeline.afterTail₀ cfgs (dats m) 0 (V0 m) [hostOps1] c main_v42 : FVec Ideal S4x4096x8x3 .f32) (ix4 b t h e)
      = flatG m c (ix2 ⟨b.val * 4096 + t.val, by omega⟩ ⟨h.val * 3 + e.val, by omega⟩) := by
  rw [← arr12]
  unfold Pipeline.afterTail₀
  repeat after_reads_at
  exact congrFun (Pipeline.withArrays_arr spec0 injective c (V0 m c) (fun w => (dats m 0 c).arrAt w cfg0.N) 12) _

theorem div_eq (b : Fin 4) (t : Fin 4096) : (b.val * 4096 + t.val) / 4096 = b.val := by omega
theorem mod_eq (b : Fin 4) (t : Fin 4096) : (b.val * 4096 + t.val) % 4096 = t.val := by omega

/-- The token a row of the result arrays belongs to. -/
theorem flatR_at (b : Fin 4) (t : Fin 4096) (j : Fin 1792) :
    flatR m c (ix2 ⟨b.val * 4096 + t.val, by omega⟩ j) = row m c b t ⟨j.val, by omega⟩ := by
  show row m c ⟨(b.val * 4096 + t.val) / 4096, _⟩ ⟨(b.val * 4096 + t.val) % 4096, _⟩ ⟨j.val, _⟩ = _
  simp only [div_eq, mod_eq]

theorem flatQ_at (b : Fin 4) (t : Fin 4096) (j : Fin 512) :
    flatQ m c (ix2 ⟨b.val * 4096 + t.val, by omega⟩ j) = turn rfl (fun k : Fin 512 => row m c b t ⟨1792 + k.val, by omega⟩) t.val j := by
  show turn rfl (fun k : Fin 512 => row m c ⟨(b.val * 4096 + t.val) / 4096, _⟩ ⟨(b.val * 4096 + t.val) % 4096, _⟩ ⟨1792 + k.val, _⟩) ((b.val * 4096 + t.val) % 4096) j = _
  simp only [div_eq, mod_eq]

theorem flatKv_at (b : Fin 4) (t : Fin 4096) (j : Fin 768) :
    flatKv m c (ix2 ⟨b.val * 4096 + t.val, by omega⟩ j)
      = if j.val % 256 < 128 then turn rfl (fun k : Fin 768 => row m c b t ⟨2304 + k.val, by omega⟩) t.val j else row m c b t ⟨2304 + j.val, by omega⟩ := by
  show (if j.val % 256 < 128 then
      turn rfl (fun k : Fin 768 => row m c ⟨(b.val * 4096 + t.val) / 4096, _⟩ ⟨(b.val * 4096 + t.val) % 4096, _⟩ ⟨2304 + k.val, _⟩) ((b.val * 4096 + t.val) % 4096) j
    else row m c ⟨(b.val * 4096 + t.val) / 4096, _⟩ ⟨(b.val * 4096 + t.val) % 4096, _⟩ ⟨2304 + j.val, _⟩) = _
  simp only [div_eq, mod_eq]

/-- The gates' columns that the host keeps. -/
theorem gate_at (b : Fin 4) (t : Fin 4096) (j : Fin 24) :
    gate m c b t ⟨j.val, by omega⟩ = Ideal.logistic (row m c b t ⟨3072 + j.val, by omega⟩ + ab m c (ix1 j)) := by
  unfold gate row proj
  exact congrArg Ideal.logistic (congrArg₂ (· + ·)
    (Finset.sum_congr rfl fun k _ => congrArg (fun e => normed (fun k => ax m c (ix3 b t k)) (fun k => ag m c (ix1 k)) k * e) (v28_at m c k j)) (v30_at m c j))

theorem flatG_at (b : Fin 4) (t : Fin 4096) (j : Fin 24) :
    flatG m c (ix2 ⟨b.val * 4096 + t.val, by omega⟩ ⟨j.val, by omega⟩) = Ideal.logistic (row m c b t ⟨3072 + j.val, by omega⟩ + ab m c (ix1 j)) := by
  refine Eq.trans ?_ (gate_at m c b t j)
  show gate m c ⟨(b.val * 4096 + t.val) / 4096, _⟩ ⟨(b.val * 4096 + t.val) % 4096, _⟩ ⟨j.val, _⟩ = _
  simp only [div_eq, mod_eq]

theorem ex3 {a b d : ℕ} (x : (⟨3, ![a, b, d]⟩ : Shape).Idx) : ∃ (i : Fin a) (j : Fin b) (k : Fin d), x = ix3 i j k :=
  ⟨x 0, x 1, x 2, by
    funext n
    match n with
    | ⟨0, _⟩ => rfl
    | ⟨1, _⟩ => rfl
    | ⟨2, _⟩ => rfl⟩

theorem ex4 {a b d e : ℕ} (x : (⟨4, ![a, b, d, e]⟩ : Shape).Idx) : ∃ (i : Fin a) (j : Fin b) (k : Fin d) (l : Fin e), x = ix4 i j k l :=
  ⟨x 0, x 1, x 2, x 3, by
    funext n
    match n with
    | ⟨0, _⟩ => rfl
    | ⟨1, _⟩ => rfl
    | ⟨2, _⟩ => rfl
    | ⟨3, _⟩ => rfl⟩

theorem ex5 {a b d e f : ℕ} (x : (⟨5, ![a, b, d, e, f]⟩ : Shape).Idx) :
    ∃ (i : Fin a) (j : Fin b) (k : Fin d) (l : Fin e) (o : Fin f), x = ix5 i j k l o :=
  ⟨x 0, x 1, x 2, x 3, x 4, by
    funext n
    match n with
    | ⟨0, _⟩ => rfl
    | ⟨1, _⟩ => rfl
    | ⟨2, _⟩ => rfl
    | ⟨3, _⟩ => rfl
    | ⟨4, _⟩ => rfl⟩

open Cert.Reference4Ideal.Read Cert.Reference4Ideal.Proj in
/-- A flat row's keys and values are the reference's. -/
theorem kv_same (b : Fin 4) (t : Fin 4096) (e : Fin 6) (z : Fin 2) (l : Fin 64) :
    flatKv m c (ix2 ⟨b.val * 4096 + t.val, by omega⟩ ⟨e.val * 128 + z.val * 64 + l.val, by omega⟩) = val_main_v69 (F := Ideal) (ax m c) (ag m c) (aw m c) (ix5 b t e z l) := by
  refine (flatKv_at m c b t _).trans (Eq.trans ?_ (v69_at (ax m c) (ag m c) (aw m c) b t e z l).symm)
  have hz := z.isLt
  have hl := l.isLt
  by_cases he : e.val % 2 < 1
  · rw [if_pos he, if_pos (by dsimp only; omega)]
    refine congrArg (fun y => turn rfl y t.val ⟨e.val * 128 + z.val * 64 + l.val, by omega⟩) (funext fun k => ?_)
    exact (v14_at (ax m c) (ag m c) (aw m c) b t _).symm
  · rw [if_neg he, if_neg (by dsimp only; omega)]
    exact (v14_at (ax m c) (ag m c) (aw m c) b t _).symm

open Cert.Reference4Ideal.Read Cert.Reference4Ideal.Proj in
/-- The recurrence's columns are the reference's, -/
theorem r_eq : (Pipeline.afterTail₀ cfgs (dats m) 0 (V0 m) [hostOps1] c main_v34 : FVec Ideal S4x4096x1792 .f32)
    = val_main_v15 (F := Ideal) (ax m c) (ag m c) (aw m c) := by
  funext i
  obtain ⟨b, t, h, rfl⟩ := ex3 i
  refine (tail34 m c b t h).trans ((flatR_at m c b t h).trans ?_)
  exact ((v15_at (ax m c) (ag m c) (aw m c) b t h).trans (v14_at (ax m c) (ag m c) (aw m c) b t _)).symm

open Cert.Reference4Ideal.Read Cert.Reference4Ideal.Proj in
/-- the last token's too, -/
theorem last_eq : (Pipeline.afterTail₀ cfgs (dats m) 0 (V0 m) [hostOps1] c main_v39 : FVec Ideal S4x1792 .f32)
    = val_main_v73 (F := Ideal) (ax m c) (ag m c) (aw m c) := by
  funext i
  obtain ⟨b, h, rfl⟩ := ex2 i
  refine (tail39 m c b h).trans ((flatR_at m c b ⟨4095, by omega⟩ h).trans ?_)
  exact ((v73_at (ax m c) (ag m c) (aw m c) b h).trans (v14_at (ax m c) (ag m c) (aw m c) b _ _)).symm

open Cert.Reference4Ideal.Read Cert.Reference4Ideal.Proj in
/-- the queries, -/
theorem q_eq : (Pipeline.afterTail₀ cfgs (dats m) 0 (V0 m) [hostOps1] c main_v40 : FVec Ideal S4x4096x8x64 .f32)
    = val_main_v102 (F := Ideal) (ax m c) (ag m c) (aw m c) := by
  funext i
  obtain ⟨b, t, h, l, rfl⟩ := ex4 i
  refine (tail40 m c b t h l).trans ((flatQ_at m c b t _).trans ?_)
  refine Eq.trans ?_ (v102_at (ax m c) (ag m c) (aw m c) b t h l).symm
  refine congrArg (fun y => turn rfl y t.val ⟨h.val * 64 + l.val, by omega⟩) (funext fun k => ?_)
  exact (v14_at (ax m c) (ag m c) (aw m c) b t _).symm

open Cert.Reference4Ideal.Read Cert.Reference4Ideal.Proj in
/-- the keys and values, -/
theorem kv_eq : (Pipeline.afterTail₀ cfgs (dats m) 0 (V0 m) [hostOps1] c main_v35 : FVec Ideal S4x4096x6x2x64 .f32)
    = val_main_v69 (F := Ideal) (ax m c) (ag m c) (aw m c) := by
  funext i
  obtain ⟨b, t, e, z, l, rfl⟩ := ex5 i
  exact (tail35 m c b t e z l).trans (kv_same m c b t e z l)

open Cert.Reference4Ideal.Read Cert.Reference4Ideal.Proj in
/-- those of them that are kept of every token, -/
theorem new_eq : (Pipeline.afterTail₀ cfgs (dats m) 0 (V0 m) [hostOps1] c main_v36 : FVec Ideal S4x4096x4x2x64 .f32)
    = val_main_v70 (F := Ideal) (ax m c) (ag m c) (aw m c) := by
  funext i
  obtain ⟨b, t, e, z, l, rfl⟩ := ex5 i
  exact (tail36 m c b t e z l).trans ((kv_same m c b t ⟨e.val, by omega⟩ z l).trans (v70_at (ax m c) (ag m c) (aw m c) b t e z l).symm)

open Cert.Reference4Ideal.Read Cert.Reference4Ideal.Proj in
/-- those that are kept of the last tokens, -/
theorem win_eq : (Pipeline.afterTail₀ cfgs (dats m) 0 (V0 m) [hostOps1] c main_v37 : FVec Ideal S4x512x2x2x64 .f32)
    = val_main_v71 (F := Ideal) (ax m c) (ag m c) (aw m c) := by
  funext i
  obtain ⟨b, t, e, z, l, rfl⟩ := ex5 i
  exact (tail37 m c b t e z l).trans ((kv_same m c b ⟨3584 + t.val, by omega⟩ ⟨4 + e.val, by omega⟩ z l).trans (v71_at (ax m c) (ag m c) (aw m c) b t e z l).symm)

open Cert.Reference4Ideal.Read Cert.Reference4Ideal.Proj in
/-- and the gates. -/
theorem gate_eq : (Pipeline.afterTail₀ cfgs (dats m) 0 (V0 m) [hostOps1] c main_v42 : FVec Ideal S4x4096x8x3 .f32)
    = val_main_v30 (F := Ideal) (ax m c) (ag m c) (aw m c) (ab m c) := by
  funext i
  obtain ⟨b, t, h, e, rfl⟩ := ex4 i
  refine (tail42 m c b t h e).trans ((flatG_at m c b t ⟨h.val * 3 + e.val, by omega⟩).trans ?_)
  refine Eq.trans ?_ (Cert.Reference4Ideal.Proj.v30_at (ax m c) (ag m c) (aw m c) (ab m c) b t h e).symm
  refine congrArg (fun y => Ideal.logistic (y + ab m c (ix1 ⟨h.val * 3 + e.val, by omega⟩))) ?_
  exact (v14_at (ax m c) (ag m c) (aw m c) b t _).symm

/-- The run, its results named. -/
theorem run (ρ : Dev nD → PrngReg) : θ_run defs (onTc (τ := τ) (main (F := Ideal))) ⟨m, fun _ => 0, ρ⟩ fun r => ∀ c : Dev nD,
      r.2.mem ((c.tc : Thread nD τ).loc main_v36) = Cert.Reference4Ideal.Read.val_main_v70 (F := Ideal) (ax m c) (ag m c) (aw m c)
      ∧ r.2.mem ((c.tc : Thread nD τ).loc main_v37) = Cert.Reference4Ideal.Read.val_main_v71 (F := Ideal) (ax m c) (ag m c) (aw m c)
      ∧ r.2.mem ((c.tc : Thread nD τ).loc main_v39) = Cert.Reference4Ideal.Read.val_main_v73 (F := Ideal) (ax m c) (ag m c) (aw m c)
      ∧ r.2.mem ((c.tc : Thread nD τ).loc main_v34) = Cert.Reference4Ideal.Read.val_main_v15 (F := Ideal) (ax m c) (ag m c) (aw m c)
      ∧ r.2.mem ((c.tc : Thread nD τ).loc main_v40) = Cert.Reference4Ideal.Read.val_main_v102 (F := Ideal) (ax m c) (ag m c) (aw m c)
      ∧ r.2.mem ((c.tc : Thread nD τ).loc main_v35) = Cert.Reference4Ideal.Read.val_main_v69 (F := Ideal) (ax m c) (ag m c) (aw m c)
      ∧ r.2.mem ((c.tc : Thread nD τ).loc main_v42) = Cert.Reference4Ideal.Read.val_main_v30 (F := Ideal) (ax m c) (ag m c) (aw m c) (ab m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v36 (Pipeline.mem_restRefs_of main_v36 (by decide) (by decide))).trans (new_eq m c),
      ((h c).2 main_v37 (Pipeline.mem_restRefs_of main_v37 (by decide) (by decide))).trans (win_eq m c),
      ((h c).2 main_v39 (Pipeline.mem_restRefs_of main_v39 (by decide) (by decide))).trans (last_eq m c),
      ((h c).2 main_v34 (Pipeline.mem_restRefs_of main_v34 (by decide) (by decide))).trans (r_eq m c),
      ((h c).2 main_v40 (Pipeline.mem_restRefs_of main_v40 (by decide) (by decide))).trans (q_eq m c),
      ((h c).2 main_v35 (Pipeline.mem_restRefs_of main_v35 (by decide) (by decide))).trans (kv_eq m c),
      ((h c).2 main_v42 (Pipeline.mem_restRefs_of main_v42 (by decide) (by decide))).trans (gate_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.Kernel4Ideal.Proj

end
-- ==== Proof.Pair4.lean ====
/-
  The even layer's projection kernel and its reference end with the same arrays.
-/
module

public import proofs.«01_k».proof.Defs
public import proofs.«01_k».proof.Proof.ProjMain4
public import proofs.«01_k».proof.Proof.Gen.Reference4Ideal.Run
public import proofs.«01_k».proof.Proof.Gen.Reference4Ideal.Read
public import Idealize.ShloMosaic.Lib.Claim
public import Idealize.ShloMosaic.Adequacy
public import Idealize.ShloMosaic.Init

@[expose] public section

set_option maxRecDepth 16384

noncomputable section

namespace Cert.Reference4Ideal.Proj

open Idealize.ShloMosaic Idealize.SL.Sem Cert.Reference4Ideal Cert.Reference4Ideal.Read

variable (m : (ℓ : Loc nD τ sig) → Buf (Elt Ideal) ℓ)

/-- The reference's run, each result written as a function of the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v70) = val_main_v70 (F := Ideal) (m ((c.tc : Thread nD τ).loc main_arg0)) (m ((c.tc : Thread nD τ).loc main_arg1)) (m ((c.tc : Thread nD τ).loc main_arg2))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2))
      ∧ r.2.mem ((c.tc : Thread nD τ).loc main_v73) = val_main_v73 (F := Ideal) (m ((c.tc : Thread nD τ).loc main_arg0)) (m ((c.tc : Thread nD τ).loc main_arg1)) (m ((c.tc : Thread nD τ).loc main_arg2))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg2))
      ∧ r.2.mem ((c.tc : Thread nD τ).loc main_v102) = val_main_v102 (F := Ideal) (m ((c.tc : Thread nD τ).loc main_arg0)) (m ((c.tc : Thread nD τ).loc main_arg1)) (m ((c.tc : Thread nD τ).loc main_arg2))
      ∧ r.2.mem ((c.tc : Thread nD τ).loc main_v69) = val_main_v69 (F := Ideal) (m ((c.tc : Thread nD τ).loc main_arg0)) (m ((c.tc : Thread nD τ).loc main_arg1)) (m ((c.tc : Thread nD τ).loc main_arg2))
      ∧ r.2.mem ((c.tc : Thread nD τ).loc main_v30) = val_main_v30 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨hv70, hv71, hv73, hv15, hv102, hv69, hv30, ha⟩ := h c
    exact ⟨hv70.trans (val_main_v70_eq m c), hv71.trans (val_main_v71_eq m c), hv73.trans (val_main_v73_eq _ _ _), hv15.trans (val_main_v15_eq _ _ _), hv102.trans (val_main_v102_eq m c), hv69.trans (val_main_v69_eq m c), hv30.trans (val_main_v30_eq _ _ _ _), ha⟩)
    (Cert.Reference4Ideal.Value.run (F := Ideal) m ρ)

end Cert.Reference4Ideal.Proj

namespace Cert.Proof

open Idealize.ShloMosaic Idealize.SL.Sem

/-- The projection kernel of the even layer and its reference end with the same arrays. -/
theorem algebraic4 :
    Cert.algebraic_Kernel4Ideal_Reference4Ideal (hKernel4Ideal := Cert.Kernel4Ideal.Gen.facts) (hReference4Ideal := Cert.Reference4Ideal.Gen.facts) := by
  intro m g m' g' _ hagree
  refine ⟨fun c => Cert.Reference4Ideal.Read.val_main_v70 (F := Ideal) (Cert.Kernel4Ideal.Proj.ax m c) (Cert.Kernel4Ideal.Proj.ag m c) (Cert.Kernel4Ideal.Proj.aw m c),
    fun c => Cert.Reference4Ideal.Read.val_main_v71 (F := Ideal) (Cert.Kernel4Ideal.Proj.ax m c) (Cert.Kernel4Ideal.Proj.ag m c) (Cert.Kernel4Ideal.Proj.aw m c),
    fun c => Cert.Reference4Ideal.Read.val_main_v73 (F := Ideal) (Cert.Kernel4Ideal.Proj.ax m c) (Cert.Kernel4Ideal.Proj.ag m c) (Cert.Kernel4Ideal.Proj.aw m c),
    fun c => Cert.Reference4Ideal.Read.val_main_v15 (F := Ideal) (Cert.Kernel4Ideal.Proj.ax m c) (Cert.Kernel4Ideal.Proj.ag m c) (Cert.Kernel4Ideal.Proj.aw m c),
    fun c => Cert.Reference4Ideal.Read.val_main_v102 (F := Ideal) (Cert.Kernel4Ideal.Proj.ax m c) (Cert.Kernel4Ideal.Proj.ag m c) (Cert.Kernel4Ideal.Proj.aw m c),
    fun c => Cert.Reference4Ideal.Read.val_main_v69 (F := Ideal) (Cert.Kernel4Ideal.Proj.ax m c) (Cert.Kernel4Ideal.Proj.ag m c) (Cert.Kernel4Ideal.Proj.aw m c),
    fun c => Cert.Reference4Ideal.Read.val_main_v30 (F := Ideal) (Cert.Kernel4Ideal.Proj.ax m c) (Cert.Kernel4Ideal.Proj.ag m c) (Cert.Kernel4Ideal.Proj.aw m c) (Cert.Kernel4Ideal.Proj.ab m c), Cert.Kernel4Ideal.Proj.run m g, ?_⟩
  refine (θ_run _ _ _).mono (fun r h c => ?_) (Cert.Reference4Ideal.Proj.run m' g')
  obtain ⟨e0, e1, e2, e3⟩ := hagree c
  obtain ⟨hv70, hv71, hv73, hv15, hv102, hv69, hv30, ha⟩ := h c
  exact ⟨hv70.trans (by rw [e0, e1, e2]),
    hv71.trans (by rw [e0, e1, e2]),
    hv73.trans (by rw [e0, e1, e2]),
    hv15.trans (by rw [e0, e1, e2]),
    hv102.trans (by rw [e0, e1, e2]),
    hv69.trans (by rw [e0, e1, e2]),
    hv30.trans (by rw [e0, e1, e2, e3]), ha⟩

end Cert.Proof

end
-- ==== Proof.Chunk5.lean ====
/-
  One 128-lane chunk of the projection kernel's rotary encoding, read at an index, and the chunk's place in
  a block of the result.
-/
module

public import proofs.«01_k».proof.Proof.Gen.Kernel5Ideal.Frame
public import proofs.«01_k».proof.Proof.Rope
public import Idealize.ShloMosaic.Lib.Pipeline.Value

@[expose] public section

set_option maxRecDepth 16384

noncomputable section

open Idealize.ShloMosaic Idealize.ShloMosaic.TcCoe Idealize.SL.Sem

namespace Cert.Kernel5Ideal.Proj

open Cert.Kernel5Ideal Cert.Kernel5Ideal.Gen Cert.Rope

/-- The lane's number modulo 64, as the kernel computes it, -/
def rem : IVec S512x128 32 :=
  remsi (iota .tc S512x128 32 [1] iota_S512x128_d1_w32) (broadcast S512x128 (Scalar.select (Scalar.cmpi .eq 64#32 0#32) 1#32 64#32))

/-- and made nonnegative. -/
def rem' : IVec S512x128 32 :=
  select (andi (xori (cmpi .slt rem (broadcast S512x128 0#32))
      (broadcastTo S512x128 (broadcast S512x128 (Scalar.cmpi .slt (Scalar.select (Scalar.cmpi .eq 64#32 0#32) 1#32 64#32) 0#32)) broadcasts_S512x128_S512x128))
      (cmpi .ne rem (broadcast S512x128 0#32)))
    (addi rem (broadcast S512x128 (Scalar.select (Scalar.cmpi .eq 64#32 0#32) 1#32 64#32))) rem

/-- Which lanes lie in the first half of their head. -/
def first : IVec S512x128 1 := cmpi .slt rem' (broadcast S512x128 32#32)

/-- The chunk's turned values. -/
def chunk (x co si : FVec Ideal S512x128 .f32) : FVec Ideal S512x128 .f32 :=
  addf (mulf x co) (mulf (select first (dynamicRotate 1 96#32 none x rotates_S512x128_d1) (dynamicRotate 1 32#32 none x rotates_S512x128_d1)) si)

theorem first_at (r : Fin 512) (l : Fin 128) : first (ix2 r l) = if l.val % 64 < 32 then 1#1 else 0#1 := by
  pointwise [first, rem', rem]
  revert l
  decide +kernel

theorem chunk_at (x co si : FVec Ideal S512x128 .f32) (r : Fin 512) (l : Fin 128) :
    chunk x co si (ix2 r l) = x (ix2 r l) * co (ix2 r l) + x (ix2 r (mate rfl l)) * si (ix2 r l) := by
  pointwise [chunk]
  rw [first_at]
  congr 2
  by_cases h : l.val % 64 < 32
  · rw [if_pos h]
    refine congrArg (fun k => x (ix2 r k)) (Fin.ext ?_)
    rw [mate_val, if_pos h]
    show (l.val + 128 - 96) % 128 = _
    omega
  · rw [if_neg h]
    refine congrArg (fun k => x (ix2 r k)) (Fin.ext ?_)
    rw [mate_val, if_neg h]
    show (l.val + 128 - 32) % 128 = _
    omega

theorem ex2 {a b : ℕ} (x : (⟨2, ![a, b]⟩ : Shape).Idx) : ∃ (r : Fin a) (l : Fin b), x = ix2 r l := ⟨x 0, x 1, by
  funext k
  match k with
  | ⟨0, _⟩ => rfl
  | ⟨1, _⟩ => rfl⟩

/-- A block of 1024 columns with every head turned. -/
def spun1024 (y : FVec Ideal S512x1024 .f32) (co si : FVec Ideal S512x128 .f32) (r : Fin 512) (h : Fin 1024) : EReal :=
  y (ix2 r h) * co (ix2 r ⟨h.val % 128, by omega⟩) + y (ix2 r (mate rfl h)) * si (ix2 r ⟨h.val % 128, by omega⟩)

/-- Where a chunk's index lies in the block. -/
theorem emb1024 (o : ℕ) (ho : o + 128 ≤ 1024) (inb : ∀ a, (![0, o] : Fin 2 → ℕ) a + S512x128.size a ≤ S512x1024.size a) (r : Fin 512) (l : Fin 128) :
    (Rect.unit (s := S512x1024) ![0, o] S512x128.size inb).emb (ix2 r l) = ix2 r ⟨o + l.val, by omega⟩ := by
  funext x; apply Fin.ext
  match x with
  | ⟨0, _⟩ => show 0 + 1 * r.val = r.val; omega
  | ⟨1, _⟩ => show o + 1 * l.val = o + l.val; omega

theorem slice1024 (y : FVec Ideal S512x1024 .f32) (o : ℕ) (ho : o + 128 ≤ 1024) (hs : S512x1024.Slices ![0, o] S512x128) (r : Fin 512) (l : Fin 128) :
    extractStridedSlice S512x128 ![0, o] y hs (ix2 r l) = y (ix2 r ⟨o + l.val, by omega⟩) := by
  refine congrArg y ?_
  funext x; apply Fin.ext
  match x with
  | ⟨0, _⟩ => show 0 + r.val = r.val; omega
  | ⟨1, _⟩ => rfl

theorem piece1024 (y : FVec Ideal S512x1024 .f32) (co si : FVec Ideal S512x128 .f32) (o : ℕ) (ho : o + 128 ≤ 1024) (h0 : o % 128 = 0)
    (hs : S512x1024.Slices ![0, o] S512x128) (r : Fin 512) (l : Fin 128) :
    chunk (extractStridedSlice S512x128 ![0, o] y hs) co si (ix2 r l) = spun1024 y co si r ⟨o + l.val, by omega⟩ := by
  rw [chunk_at, slice1024 y o ho, slice1024 y o ho]
  unfold spun1024
  have e1 : (⟨(o + l.val) % 128, by omega⟩ : Fin 128) = l := Fin.ext (by show (o + l.val) % 128 = l.val; omega)
  have e2 : (⟨o + (mate (n := 128) rfl l).val, by omega⟩ : Fin 1024) = mate rfl ⟨o + l.val, by omega⟩ := Fin.ext (by
    show o + (mate (n := 128) rfl l).val = _
    rw [mate_val, mate_val]
    dsimp only
    split <;> split <;> omega)
  rw [← e2]
  dsimp only
  rw [e1]

/-- A block of 512 columns with every head turned. -/
def spun512 (y : FVec Ideal S512x512 .f32) (co si : FVec Ideal S512x128 .f32) (r : Fin 512) (h : Fin 512) : EReal :=
  y (ix2 r h) * co (ix2 r ⟨h.val % 128, by omega⟩) + y (ix2 r (mate rfl h)) * si (ix2 r ⟨h.val % 128, by omega⟩)

/-- Where a chunk's index lies in the block. -/
theorem emb512 (o : ℕ) (ho : o + 128 ≤ 512) (inb : ∀ a, (![0, o] : Fin 2 → ℕ) a + S512x128.size a ≤ S512x512.size a) (r : Fin 512) (l : Fin 128) :
    (Rect.unit (s := S512x512) ![0, o] S512x128.size inb).emb (ix2 r l) = ix2 r ⟨o + l.val, by omega⟩ := by
  funext x; apply Fin.ext
  match x with
  | ⟨0, _⟩ => show 0 + 1 * r.val = r.val; omega
  | ⟨1, _⟩ => show o + 1 * l.val = o + l.val; omega

theorem slice512 (y : FVec Ideal S512x512 .f32) (o : ℕ) (ho : o + 128 ≤ 512) (hs : S512x512.Slices ![0, o] S512x128) (r : Fin 512) (l : Fin 128) :
    extractStridedSlice S512x128 ![0, o] y hs (ix2 r l) = y (ix2 r ⟨o + l.val, by omega⟩) := by
  refine congrArg y ?_
  funext x; apply Fin.ext
  match x with
  | ⟨0, _⟩ => show 0 + r.val = r.val; omega
  | ⟨1, _⟩ => rfl

theorem piece512 (y : FVec Ideal S512x512 .f32) (co si : FVec Ideal S512x128 .f32) (o : ℕ) (ho : o + 128 ≤ 512) (h0 : o % 128 = 0)
    (hs : S512x512.Slices ![0, o] S512x128) (r : Fin 512) (l : Fin 128) :
    chunk (extractStridedSlice S512x128 ![0, o] y hs) co si (ix2 r l) = spun512 y co si r ⟨o + l.val, by omega⟩ := by
  rw [chunk_at, slice512 y o ho, slice512 y o ho]
  unfold spun512
  have e1 : (⟨(o + l.val) % 128, by omega⟩ : Fin 128) = l := Fin.ext (by show (o + l.val) % 128 = l.val; omega)
  have e2 : (⟨o + (mate (n := 128) rfl l).val, by omega⟩ : Fin 512) = mate rfl ⟨o + l.val, by omega⟩ := Fin.ext (by
    show o + (mate (n := 128) rfl l).val = _
    rw [mate_val, mate_val]
    dsimp only
    split <;> split <;> omega)
  rw [← e2]
  dsimp only
  rw [e1]

end Cert.Kernel5Ideal.Proj

end
-- ==== Proof.Out5.lean ====
/-
  What the odd layer's projection kernel leaves in its two output blocks, read at an index.
-/
module

public import proofs.«01_k».proof.Proof.Chunk5
public import Idealize.ShloMosaic.Lib.Pipeline.ValueKit

@[expose] public section

set_option maxRecDepth 16384

noncomputable section

open Idealize.ShloMosaic Idealize.ShloMosaic.TcCoe Idealize.SL.Sem

namespace Cert.Kernel5Ideal.Proj

open Cert.Kernel5Ideal Cert.Kernel5Ideal.Gen Cert.Rope Cert.Ffn

theorem hz : (![0, 0] : Fin 2 → ℕ) = fun _ => 0 := by
  funext a; match a with
  | ⟨0, _⟩ => rfl
  | ⟨1, _⟩ => rfl

variable (x : Vec Ideal S512x1024 .f32) (g : Vec Ideal S1x1024 .f32) (co si : Vec Ideal S512x128 .f32)
  (wq : Vec Ideal S1024x1024 .bf16) (wk : Vec Ideal S1024x512 .bf16)

/-- The normalised rows times the first weights, -/
theorem y6_at (r : Fin 512) (h : Fin 1024) :
    k0_pay33 (F := Ideal) x g co si wq wk (ix2 r h) = ∑ k : Fin 1024, normed (fun k => x (ix2 r k)) (fun k => g (ix2 0 k)) k * wq (ix2 k h) := by
  unfold k0_pay33
  simp only [View.ld_unit_zero (S := S512x1024) hz, View.ld_unit_zero (S := S1x1024) hz, View.ld_unit_zero (S := S1024x1024) hz]
  pointwise [k0_pay5, k0_pay4]
  rfl

/-- and times the second. -/
theorem y7_at (r : Fin 512) (h : Fin 512) :
    k0_pay36 (F := Ideal) x g co si wq wk (ix2 r h) = ∑ k : Fin 1024, normed (fun k => x (ix2 r k)) (fun k => g (ix2 0 k)) k * wk (ix2 k h) := by
  unfold k0_pay36
  simp only [View.ld_unit_zero (S := S512x1024) hz, View.ld_unit_zero (S := S1x1024) hz, View.ld_unit_zero (S := S1024x512) hz]
  pointwise [k0_pay25, k0_pay4]
  rfl

theorem co_at (r : Fin 512) (l : Fin 128) : k0_pay34 (F := Ideal) x g co si wq wk (ix2 r l) = co (ix2 r l) := by
  unfold k0_pay34
  rw [View.ld_unit_zero (S := S512x128) hz]
  pointwise [k0_pay6]

theorem si_at (r : Fin 512) (l : Fin 128) : k0_pay35 (F := Ideal) x g co si wq wk (ix2 r l) = si (ix2 r l) := by
  unfold k0_pay35
  rw [View.ld_unit_zero (S := S512x128) hz]
  pointwise [k0_pay7]

theorem same (v : Vec Ideal S512x128 .f32) : shapeCast S512x128 v shapeCasts_S512x128_S512x128 = v := by
  funext i
  obtain ⟨r, l, rfl⟩ := ex2 i
  pointwise

/-- The first block: every head turned. -/
theorem out6_at (r : Fin 512) (h : Fin 1024) :
    out0_6 (F := Ideal) x g co si wq wk (ix2 r h) = spun1024 (k0_pay33 (F := Ideal) x g co si wq wk) co si r h := by
  have eco : k0_pay34 (F := Ideal) x g co si wq wk = co := funext fun i => by obtain ⟨r, l, rfl⟩ := ex2 i; exact co_at x g co si wq wk r l
  have esi : k0_pay35 (F := Ideal) x g co si wq wk = si := funext fun i => by obtain ⟨r, l, rfl⟩ := ex2 i; exact si_at x g co si wq wk r l
  have e8 : k0_pay8 (F := Ideal) (View.ld x r0_0) (View.ld g r0_1) (View.ld wq r0_2)
      = extractStridedSlice S512x128 ![0, 0] (k0_pay33 (F := Ideal) x g co si wq wk) slices_S512x1024_o0_0_S512x128 := rfl
  unfold out0_6
  rw [eco, esi, e8]
  generalize k0_pay33 (F := Ideal) x g co si wq wk = y
  refine View.canon_apply_of_pieces (Val := Elt Ideal) (S := S512x1024) (e := .f32) (fun i => spun1024 y co si (i 0) (i 1)) _ ?_ _ (cover0_6 _ _ _ _ _ _ _ _ _)
  intro p hp
  simp only [List.mem_cons, List.not_mem_nil, or_false] at hp
  rcases hp with rfl | rfl | rfl | rfl | rfl | rfl | rfl | rfl
  all_goals
    intro i
    revert i
    intro (i : S512x128.Idx)
    obtain ⟨a, l, rfl⟩ := ex2 i
    dsimp only
  · rw [emb1024 896 (by omega)]; exact piece1024 y co si 896 (by omega) rfl slices_S512x1024_o0_896_S512x128 _ _
  · rw [emb1024 768 (by omega)]; exact piece1024 y co si 768 (by omega) rfl slices_S512x1024_o0_768_S512x128 _ _
  · rw [emb1024 640 (by omega)]; exact piece1024 y co si 640 (by omega) rfl slices_S512x1024_o0_640_S512x128 _ _
  · rw [emb1024 512 (by omega)]; exact piece1024 y co si 512 (by omega) rfl slices_S512x1024_o0_512_S512x128 _ _
  · rw [emb1024 384 (by omega)]; exact piece1024 y co si 384 (by omega) rfl slices_S512x1024_o0_384_S512x128 _ _
  · rw [emb1024 256 (by omega)]; exact piece1024 y co si 256 (by omega) rfl slices_S512x1024_o0_256_S512x128 _ _
  · rw [emb1024 128 (by omega)]; exact piece1024 y co si 128 (by omega) rfl slices_S512x1024_o0_128_S512x128 _ _
  · rw [emb1024 0 (by omega)]; exact piece1024 y co si 0 (by omega) rfl slices_S512x1024_o0_0_S512x128 _ _

/-- The second block: the keys turned, the values as they are. -/
theorem out7_at (r : Fin 512) (h : Fin 512) :
    out0_7 (F := Ideal) x g co si wq wk (ix2 r h)
      = if h.val < 256 then spun512 (k0_pay36 (F := Ideal) x g co si wq wk) co si r h else k0_pay36 (F := Ideal) x g co si wq wk (ix2 r h) := by
  unfold out0_7
  generalize k0_pay36 (F := Ideal) x g co si wq wk = y
  have eco : View.ld co r0_3 = co := View.ld_unit_zero (S := S512x128) hz _ _
  have esi : View.ld si r0_3 = si := View.ld_unit_zero (S := S512x128) hz _ _
  rw [eco, esi]
  refine View.canon_apply_of_pieces (Val := Elt Ideal) (S := S512x512) (e := .f32) (fun i => if (i 1).val < 256 then spun512 y co si (i 0) (i 1) else y i) _ ?_ _ (cover0_7 _ _ _ _ _)
  intro p hp
  simp only [List.mem_cons, List.not_mem_nil, or_false] at hp
  rcases hp with rfl | rfl | rfl | rfl
  all_goals
    intro i
    revert i
    intro (i : S512x128.Idx)
    obtain ⟨a, l, rfl⟩ := ex2 i
    dsimp only
  · rw [emb512 384 (by omega), if_neg (by show ¬ (384 + l.val < 256); omega)]
    exact slice512 y 384 (by omega) slices_S512x512_o0_384_S512x128 _ _
  · rw [emb512 256 (by omega), if_neg (by show ¬ (256 + l.val < 256); omega)]
    exact slice512 y 256 (by omega) slices_S512x512_o0_256_S512x128 _ _
  · rw [emb512 128 (by omega), if_pos (by show 128 + l.val < 256; omega)]
    refine Eq.trans ?_ (piece512 y co si 128 (by omega) rfl slices_S512x512_o0_128_S512x128 _ _)
    show chunk _ (shapeCast S512x128 co shapeCasts_S512x128_S512x128) (shapeCast S512x128 si shapeCasts_S512x128_S512x128) _ = _
    rw [same, same]
    rfl
  · rw [emb512 0 (by omega), if_pos (by show 0 + l.val < 256; omega)]
    refine Eq.trans ?_ (piece512 y co si 0 (by omega) rfl slices_S512x512_o0_0_S512x128 _ _)
    show chunk _ (shapeCast S512x128 co shapeCasts_S512x128_S512x128) (shapeCast S512x128 si shapeCasts_S512x128_S512x128) _ = _
    rw [same, same]
    rfl

end Cert.Kernel5Ideal.Proj

end
-- ==== Proof.ProjBlocks5.lean ====
/-
  The odd layer's projection kernel: its operands and blocks, read at an index.
-/
module

public import proofs.«01_k».proof.Proof.Out5
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.Kernel5Ideal.Proj

open Cert.Kernel5Ideal Cert.Kernel5Ideal.Gen Cert.Ffn Cert.Rope

variable (m : (ℓ : Loc nD τ sig) → Buf (Elt Ideal) ℓ) (c : Dev nD)

/-- The arguments at their array types. -/
abbrev ax : FVec Ideal S4x4096x1024 .f32 := m ((c : Thread nD τ).loc main_arg0)
abbrev ag : FVec Ideal S1024 .f32 := m ((c : Thread nD τ).loc main_arg1)
abbrev aw : FVec Ideal S1024x1536 .f32 := m ((c : Thread nD τ).loc main_arg2)

/-- The table of cosines, -/
theorem v17_at (t : Fin 4096) (h : Fin 128) :
    (V m c main_v17 : FVec Ideal S4096x128 .f32) (ix2 t h) = Ideal.cos (ang t.val (h.val % 32)) := by
  unfold V
  repeat after_reads_at
  rfl

/-- and of sines. -/
theorem v22_at (t : Fin 4096) (h : Fin 128) :
    (V m c main_v22 : FVec Ideal S4096x128 .f32) (ix2 t h) = table t.val h.val := by
  unfold V
  repeat after_reads_at
  rfl

theorem v24_at (k : Fin 1024) (h : Fin 1024) :
    (V m c main_v24 : FVec Ideal S1024x1024 .bf16) (ix2 k h) = aw m c (ix2 k ⟨h.val, by omega⟩) := by
  unfold V
  repeat after_reads_at

theorem v25_at (k : Fin 1024) (h : Fin 512) :
    (V m c main_v25 : FVec Ideal S1024x512 .bf16) (ix2 k h) = aw m c (ix2 k ⟨1024 + h.val, by omega⟩) := by
  unfold V
  repeat after_reads_at

theorem v26_at (r : Fin 16384) (k : Fin 1024) :
    (V m c main_v26 : FVec Ideal S16384x1024 .f32) (ix2 r k) = ax m c (ix3 ⟨r.val / 4096, by omega⟩ ⟨r.val % 4096, by omega⟩ k) := by
  unfold V
  repeat after_reads_at

theorem v27_at (k : Fin 1024) :
    (V m c main_v27 : FVec Ideal S1x1024 .f32) (ix2 0 k) = ag m c (ix1 k) := by
  unfold V
  repeat after_reads_at

/-- Which block each window holds at a grid point. -/
theorem idx : ∀ t : Fin cfg0.N,
    (win0_0.index t 0 = t.val ∧ win0_0.index t 1 = 0)
    ∧ (win0_1.index t 0 = 0 ∧ win0_1.index t 1 = 0)
    ∧ (win0_2.index t 0 = t.val % 8 ∧ win0_2.index t 1 = 0)
    ∧ (win0_3.index t 0 = t.val % 8 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0) :=
  (by decide +kernel : ∀ t : Fin grid0.N, _)

theorem lt32 (t : Fin cfg0.N) : t.val < 32 := lt_of_lt_of_eq t.isLt N_0

theorem blk0_at (t : Fin cfg0.N) (r : Fin 512) (h : Fin 1024) :
    (iblk m c 0 t : FVec Ideal S512x1024 .f32) (ix2 r h)
      = (V m c main_v26 : FVec Ideal S16384x1024 .f32) (ix2 ⟨t.val * 512 + r.val, by have := lt32 t; omega⟩ h) := by
  obtain ⟨⟨h1, h2⟩, -⟩ := idx t
  blk_ext [iblk, h1, h2]

theorem blk1_at (t : Fin cfg0.N) (h : Fin 1024) :
    (iblk m c 1 t : FVec Ideal S1x1024 .f32) (ix2 0 h) = (V m c main_v27 : FVec Ideal S1x1024 .f32) (ix2 0 h) := by
  obtain ⟨-, ⟨h1, h2⟩, -⟩ := idx t
  blk_ext [iblk, h1, h2]

theorem blk2_at (t : Fin cfg0.N) (r : Fin 512) (l : Fin 128) :
    (iblk m c 2 t : FVec Ideal S512x128 .f32) (ix2 r l) = (V m c main_v17 : FVec Ideal S4096x128 .f32) (ix2 ⟨t.val % 8 * 512 + r.val, by omega⟩ l) := by
  obtain ⟨-, -, ⟨h1, h2⟩, -⟩ := idx t
  blk_ext [iblk, h1, h2]

theorem blk3_at (t : Fin cfg0.N) (r : Fin 512) (l : Fin 128) :
    (iblk m c 3 t : FVec Ideal S512x128 .f32) (ix2 r l) = (V m c main_v22 : FVec Ideal S4096x128 .f32) (ix2 ⟨t.val % 8 * 512 + r.val, by omega⟩ l) := by
  obtain ⟨-, -, -, ⟨h1, h2⟩, -⟩ := idx t
  blk_ext [iblk, h1, h2]

theorem blk4_at (t : Fin cfg0.N) (k : Fin 1024) (h : Fin 1024) :
    (iblk m c 4 t : FVec Ideal S1024x1024 .bf16) (ix2 k h) = (V m c main_v24 : FVec Ideal S1024x1024 .bf16) (ix2 k h) := by
  obtain ⟨-, -, -, -, ⟨h1, h2⟩, -⟩ := idx t
  blk_ext [iblk, h1, h2]

theorem blk5_at (t : Fin cfg0.N) (k : Fin 1024) (h : Fin 512) :
    (iblk m c 5 t : FVec Ideal S1024x512 .bf16) (ix2 k h) = (V m c main_v25 : FVec Ideal S1024x512 .bf16) (ix2 k h) := by
  obtain ⟨-, -, -, -, -, ⟨h1, h2⟩, -⟩ := idx t
  blk_ext [iblk, h1, h2]

/-- The result arrays are whatever functions their blocks are read off from. -/
theorem final6 (G : FVec Ideal S16384x1024 .f32)
    (hG : ∀ (t : Fin cfg0.N) (r : Fin 512) (h : Fin 1024),
      (out0_6 (F := Ideal) (iblk m c 0 t) (iblk m c 1 t) (iblk m c 2 t) (iblk m c 3 t) (iblk m c 4 t) (iblk m c 5 t)) (ix2 r h)
        = G (ix2 ⟨t.val * 512 + r.val, by have := lt32 t; omega⟩ h)) :
    (dats m 0 c).arrAt 6 cfg0.N = G := by
  refine (dats m 0 c).arrAt_eq_of_covers 6 G (by decide +kernel) fun t hf y => ?_
  obtain ⟨-, -, -, -, -, -, ⟨h1, h2⟩, -⟩ := idx t
  blk_simp
  rw [after0_6]
  revert y
  intro (y : S512x1024.Idx)
  obtain ⟨r, h, rfl⟩ := ex2 y
  refine (hG t r h).trans ?_
  blk_ext [h1, h2]

theorem final7 (G : FVec Ideal S16384x512 .f32)
    (hG : ∀ (t : Fin cfg0.N) (r : Fin 512) (h : Fin 512),
      (out0_7 (F := Ideal) (iblk m c 0 t) (iblk m c 1 t) (iblk m c 2 t) (iblk m c 3 t) (iblk m c 4 t) (iblk m c 5 t)) (ix2 r h)
        = G (ix2 ⟨t.val * 512 + r.val, by have := lt32 t; omega⟩ h)) :
    (dats m 0 c).arrAt 7 cfg0.N = G := by
  refine (dats m 0 c).arrAt_eq_of_covers 7 G (by decide +kernel) fun t hf y => ?_
  obtain ⟨-, -, -, -, -, -, -, ⟨h1, h2⟩⟩ := idx t
  blk_simp
  rw [after0_7]
  revert y
  intro (y : S512x512.Idx)
  obtain ⟨r, h, rfl⟩ := ex2 y
  refine (hG t r h).trans ?_
  blk_ext [h1, h2]

end Cert.Kernel5Ideal.Proj

end
-- ==== Proof.ProjRef5.lean ====
/-
  The odd layer's projection reference, read at an index.
-/
module

public import proofs.«01_k».proof.Proof.Gen.Reference5Ideal.Read
public import proofs.«01_k».proof.Proof.Rope

@[expose] public section

set_option maxRecDepth 16384

noncomputable section

open Idealize.ShloMosaic Idealize.ShloMosaic.TcCoe Idealize.SL.Sem

namespace Cert.Reference5Ideal.Proj

open Cert.Reference5Ideal Cert.Reference5Ideal.Gen Cert.Reference5Ideal.Read Cert.Ffn Cert.Rope

/-- The arguments' types: rows, norm weights, projection weights. -/
abbrev X := FVec Ideal S4x4096x1024 .f32
abbrev G := FVec Ideal S1024 .f32
abbrev W := FVec Ideal S1024x1536 .f32

theorem v28_at (t : Fin 4096) (j : Fin 32) : val_main_v28 (F := Ideal) (ix2 t j) = ang t.val j.val := by
  pointwise [val_main_v28, val_main_v27, val_main_v26, val_main_v25, val_main_v24, val_main_v23, val_main_v22, val_main_v21, val_main_cst_3, val_main_v20, val_main_v19, val_main_cst_2, val_main_v18, val_main_v17, val_main_v0]
  rfl

theorem v61_at (t : Fin 4096) (j : Fin 32) : val_main_v61 (F := Ideal) (ix2 t j) = ang t.val j.val := by
  pointwise [val_main_v61, val_main_v60, val_main_v59, val_main_v58, val_main_v57, val_main_v56, val_main_v55, val_main_v54, val_main_cst_5, val_main_v53, val_main_v52, val_main_cst_4, val_main_v51, val_main_v50, val_main_v0]
  rfl

variable (x : X) (g : G) (w : W)

theorem v13_at (b : Fin 4) (t : Fin 4096) (h : Fin 1024) :
    val_main_v13 (F := Ideal) x g (ix3 b t h) = normed (fun k => x (ix3 b t k)) (fun k => g (ix1 k)) h := by
  pointwise [val_main_v13, val_main_v12, val_main_v11, val_main_v10, val_main_v9, val_main_v8, val_main_v7, val_main_v6, val_main_v5, val_main_cst_1, val_main_v4, val_main_v3, val_main_cst_0,
    val_main_v2, val_main_v1, val_main_cst]
  rfl

/-- The projected rows. -/
theorem v14_at (b : Fin 4) (t : Fin 4096) (h : Fin 1536) :
    val_main_v14 (F := Ideal) x g w (ix3 b t h) = proj (fun k => x (ix3 b t k)) (fun k => g (ix1 k)) (fun k h => w (ix2 k h)) h := by
  pointwise [val_main_v14]
  simp only [v13_at]
  rfl

theorem v16_at (b : Fin 4) (t : Fin 4096) (h : Fin 16) (l : Fin 64) :
    val_main_v16 (F := Ideal) x g w (ix4 b t h l) = val_main_v14 (F := Ideal) x g w (ix3 b t ⟨h.val * 64 + l.val, by omega⟩) := by
  pointwise [val_main_v16, val_main_v15]

theorem v49_at (b : Fin 4) (t : Fin 4096) (h : Fin 4) (l : Fin 64) :
    val_main_v49 (F := Ideal) x g w (ix4 b t h l) = val_main_v14 (F := Ideal) x g w (ix3 b t ⟨1024 + (h.val * 64 + l.val), by omega⟩) := by
  pointwise [val_main_v49, val_main_v48, val_main_v47, val_main_v46]

/-- The two halves of the heads. -/
theorem v33_at (b : Fin 4) (t : Fin 4096) (h : Fin 16) (l : Fin 32) :
    val_main_v33 (F := Ideal) x g w (ix4 b t h l) = val_main_v14 (F := Ideal) x g w (ix3 b t ⟨h.val * 64 + l.val, by omega⟩) := by
  refine Eq.trans ?_ (v16_at x g w b t h ⟨l.val, by omega⟩)
  rw [val_main_v33_apply]
  generalize val_main_v16 (F := Ideal) x g w = z
  refine congrArg z ?_
  funext n
  match n with
  | ⟨0, _⟩ => rfl
  | ⟨1, _⟩ => rfl
  | ⟨2, _⟩ => rfl
  | ⟨3, _⟩ => rfl

theorem v34_at (b : Fin 4) (t : Fin 4096) (h : Fin 16) (l : Fin 32) :
    val_main_v34 (F := Ideal) x g w (ix4 b t h l) = val_main_v14 (F := Ideal) x g w (ix3 b t ⟨h.val * 64 + (32 + l.val), by omega⟩) := by
  refine Eq.trans ?_ (v16_at x g w b t h ⟨32 + l.val, by omega⟩)
  rw [val_main_v34_apply]
  generalize val_main_v16 (F := Ideal) x g w = z
  refine congrArg z ?_
  funext n
  match n with
  | ⟨0, _⟩ => rfl
  | ⟨1, _⟩ => rfl
  | ⟨2, _⟩ => rfl
  | ⟨3, _⟩ => rfl

/-- The queries: every head turned. -/
theorem v45_at (b : Fin 4) (t : Fin 4096) (h : Fin 16) (l : Fin 64) :
    val_main_v45 (F := Ideal) x g w (ix4 b t h l)
      = turn rfl (fun k : Fin 1024 => val_main_v14 (F := Ideal) x g w (ix3 b t ⟨k.val, by omega⟩)) t.val ⟨h.val * 64 + l.val, by omega⟩ := by
  pointwise [val_main_v45, val_main_v44, val_main_v43, val_main_v42, val_main_v41, val_main_v40, val_main_v39, val_main_v38, val_main_v37, val_main_v36, val_main_v35, val_main_v32, val_main_v31, val_main_v30, val_main_v29]
  simp only [v28_at, v33_at, v34_at]
  generalize val_main_v14 (F := Ideal) x g w = y
  exact turn_halves rfl (fun k : Fin 1024 => y (ix3 b t ⟨k.val, by omega⟩)) t.val (h.val * 64) l.val l.isLt (by omega) (by omega)

/-- The two halves of the heads. -/
theorem v66_at (b : Fin 4) (t : Fin 4096) (h : Fin 4) (l : Fin 32) :
    val_main_v66 (F := Ideal) x g w (ix4 b t h l) = val_main_v14 (F := Ideal) x g w (ix3 b t ⟨1024 + (h.val * 64 + l.val), by omega⟩) := by
  refine Eq.trans ?_ (v49_at x g w b t h ⟨l.val, by omega⟩)
  rw [val_main_v66_apply]
  generalize val_main_v49 (F := Ideal) x g w = z
  refine congrArg z ?_
  funext n
  match n with
  | ⟨0, _⟩ => rfl
  | ⟨1, _⟩ => rfl
  | ⟨2, _⟩ => rfl
  | ⟨3, _⟩ => rfl

theorem v67_at (b : Fin 4) (t : Fin 4096) (h : Fin 4) (l : Fin 32) :
    val_main_v67 (F := Ideal) x g w (ix4 b t h l) = val_main_v14 (F := Ideal) x g w (ix3 b t ⟨1024 + (h.val * 64 + (32 + l.val)), by omega⟩) := by
  refine Eq.trans ?_ (v49_at x g w b t h ⟨32 + l.val, by omega⟩)
  rw [val_main_v67_apply]
  generalize val_main_v49 (F := Ideal) x g w = z
  refine congrArg z ?_
  funext n
  match n with
  | ⟨0, _⟩ => rfl
  | ⟨1, _⟩ => rfl
  | ⟨2, _⟩ => rfl
  | ⟨3, _⟩ => rfl

/-- The keys: every head turned. -/
theorem v78_at (b : Fin 4) (t : Fin 4096) (h : Fin 4) (l : Fin 64) :
    val_main_v78 (F := Ideal) x g w (ix4 b t h l)
      = turn rfl (fun k : Fin 512 => val_main_v14 (F := Ideal) x g w (ix3 b t ⟨1024 + k.val, by omega⟩)) t.val ⟨h.val * 64 + l.val, by omega⟩ := by
  pointwise [val_main_v78, val_main_v77, val_main_v76, val_main_v75, val_main_v74, val_main_v73, val_main_v72, val_main_v71, val_main_v70, val_main_v69, val_main_v68, val_main_v65, val_main_v64, val_main_v63, val_main_v62]
  simp only [v61_at, v66_at, v67_at]
  generalize val_main_v14 (F := Ideal) x g w = y
  exact turn_halves rfl (fun k : Fin 512 => y (ix3 b t ⟨1024 + k.val, by omega⟩)) t.val (h.val * 64) l.val l.isLt (by omega) (by omega)

/-- Keys and values are set side by side, keys first. -/
theorem joined (p q : FVec Ideal S4x4096x1x4x64 .f32) (b : Fin 4) (t : Fin 4096) (z : Fin 2) (h : Fin 4) (l : Fin 64) :
    concatenate S4x4096x2x4x64 2 [⟨S4x4096x1x4x64, p⟩, ⟨S4x4096x1x4x64, q⟩] concatenates_S4x4096x1x4x64_S4x4096x1x4x64_S4x4096x2x4x64_d2 (ix5 b t z h l)
      = if z.val < 1 then p (ix5 b t 0 h l) else q (ix5 b t 0 h l) := by
  pointwise
  by_cases hz : z.val < 1
  · rw [dif_pos hz, if_pos hz]
    exact congrArg (fun k : Fin 1 => p (ix5 b t k h l)) (Subsingleton.elim _ _)
  · rw [dif_neg hz, if_neg hz]
    exact congrArg (fun k : Fin 1 => q (ix5 b t k h l)) (Subsingleton.elim _ _)

theorem v80_at (b : Fin 4) (t : Fin 4096) (h : Fin 4) (l : Fin 64) :
    val_main_v80 (F := Ideal) x g w (ix4 b t h l) = val_main_v14 (F := Ideal) x g w (ix3 b t ⟨1024 + (256 + h.val * 64 + l.val), by omega⟩) := by
  pointwise [val_main_v80, val_main_v79, val_main_v47, val_main_v46]

theorem v81_at (b : Fin 4) (t : Fin 4096) (h : Fin 4) (l : Fin 64) :
    val_main_v81 (F := Ideal) x g w (ix5 b t 0 h l) = val_main_v78 (F := Ideal) x g w (ix4 b t h l) := by
  rw [val_main_v81_apply]
  generalize val_main_v78 (F := Ideal) x g w = y
  refine congrArg y ?_
  funext n
  match n with
  | ⟨0, _⟩ => rfl
  | ⟨1, _⟩ => rfl
  | ⟨2, _⟩ => rfl
  | ⟨3, _⟩ => rfl

theorem v82_at (b : Fin 4) (t : Fin 4096) (h : Fin 4) (l : Fin 64) :
    val_main_v82 (F := Ideal) x g w (ix5 b t 0 h l) = val_main_v80 (F := Ideal) x g w (ix4 b t h l) := by
  rw [val_main_v82_apply]
  generalize val_main_v80 (F := Ideal) x g w = y
  refine congrArg y ?_
  funext n
  match n with
  | ⟨0, _⟩ => rfl
  | ⟨1, _⟩ => rfl
  | ⟨2, _⟩ => rfl
  | ⟨3, _⟩ => rfl

/-- Keys and values. -/
theorem v83_at (b : Fin 4) (t : Fin 4096) (z : Fin 2) (h : Fin 4) (l : Fin 64) :
    val_main_v83 (F := Ideal) x g w (ix5 b t z h l)
      = if z.val < 1 then val_main_v78 (F := Ideal) x g w (ix4 b t h l)
        else val_main_v14 (F := Ideal) x g w (ix3 b t ⟨1024 + (256 + h.val * 64 + l.val), by omega⟩) := by
  refine (joined (val_main_v81 (F := Ideal) x g w) (val_main_v82 (F := Ideal) x g w) b t z h l).trans ?_
  rw [v81_at, v82_at, v80_at]

end Cert.Reference5Ideal.Proj

end
-- ==== Proof.ProjMain5.lean ====
/-
  The odd layer's projection kernel ends with the reference's arrays.
-/
module

public import proofs.«01_k».proof.Proof.ProjBlocks5
public import proofs.«01_k».proof.Proof.ProjRef5

@[expose] public section

set_option maxRecDepth 16384

noncomputable section

open Idealize.ShloMosaic Idealize.ShloMosaic.TcCoe Idealize.SL.Sem

namespace Cert.Kernel5Ideal.Proj

open Cert.Kernel5Ideal Cert.Kernel5Ideal.Gen Cert.Ffn Cert.Rope

variable (m : (ℓ : Loc nD τ sig) → Buf (Elt Ideal) ℓ) (c : Dev nD)

/-- The input blocks of a grid point, from the arguments. -/
theorem x_at (t : Fin cfg0.N) (r : Fin 512) (h : Fin 1024) :
    (iblk m c 0 t : FVec Ideal S512x1024 .f32) (ix2 r h)
      = ax m c (ix3 ⟨(t.val * 512 + r.val) / 4096, by have := lt32 t; omega⟩ ⟨(t.val * 512 + r.val) % 4096, by omega⟩ h) :=
  (blk0_at m c t r h).trans (v26_at m c _ h)

theorem g_at (t : Fin cfg0.N) (h : Fin 1024) : (iblk m c 1 t : FVec Ideal S1x1024 .f32) (ix2 0 h) = ag m c (ix1 h) :=
  (blk1_at m c t h).trans (v27_at m c h)

theorem cos_at (t : Fin cfg0.N) (r : Fin 512) (l : Fin 128) :
    (iblk m c 2 t : FVec Ideal S512x128 .f32) (ix2 r l) = Ideal.cos (ang ((t.val * 512 + r.val) % 4096) (l.val % 32)) :=
  (blk2_at m c t r l).trans ((v17_at m c _ l).trans (congrArg (fun p => Ideal.cos (ang p (l.val % 32))) (by show t.val % 8 * 512 + r.val = _; omega)))

theorem sin_at (t : Fin cfg0.N) (r : Fin 512) (l : Fin 128) :
    (iblk m c 3 t : FVec Ideal S512x128 .f32) (ix2 r l) = table ((t.val * 512 + r.val) % 4096) l.val :=
  (blk3_at m c t r l).trans ((v22_at m c _ l).trans (congrArg (fun p => table p l.val) (by show t.val % 8 * 512 + r.val = _; omega)))

theorem wq_at (t : Fin cfg0.N) (k : Fin 1024) (h : Fin 1024) :
    (iblk m c 4 t : FVec Ideal S1024x1024 .bf16) (ix2 k h) = aw m c (ix2 k ⟨h.val, by omega⟩) :=
  (blk4_at m c t k h).trans (v24_at m c k h)

theorem wk_at (t : Fin cfg0.N) (k : Fin 1024) (h : Fin 512) :
    (iblk m c 5 t : FVec Ideal S1024x512 .bf16) (ix2 k h) = aw m c (ix2 k ⟨1024 + h.val, by omega⟩) :=
  (blk5_at m c t k h).trans (v25_at m c k h)

/-- The projection of one token. -/
def row (b : Fin 4) (t : Fin 4096) (j : Fin 1536) : EReal :=
  proj (fun k => ax m c (ix3 b t k)) (fun k => ag m c (ix1 k)) (fun k h => aw m c (ix2 k h)) j

/-- The kernel's two result arrays, the tokens in one row after the other. -/
def flatQ : FVec Ideal S16384x1024 .f32 := fun i =>
  turn rfl (fun k : Fin 1024 => row m c ⟨(i 0).val / 4096, by have : (i 0).val < 16384 := (i 0).isLt; omega⟩ ⟨(i 0).val % 4096, by omega⟩ ⟨k.val, by omega⟩) ((i 0).val % 4096) (i 1)

def flatKv : FVec Ideal S16384x512 .f32 := fun i =>
  if (i 1).val < 256 then
    turn rfl (fun k : Fin 512 => row m c ⟨(i 0).val / 4096, by have : (i 0).val < 16384 := (i 0).isLt; omega⟩ ⟨(i 0).val % 4096, by omega⟩ ⟨1024 + k.val, by omega⟩) ((i 0).val % 4096) (i 1)
  else row m c ⟨(i 0).val / 4096, by have : (i 0).val < 16384 := (i 0).isLt; omega⟩ ⟨(i 0).val % 4096, by omega⟩
    ⟨1024 + (i 1).val, by have : (i 1).val < 512 := (i 1).isLt; omega⟩

/-- A grid point's projected rows. -/
theorem y6_row (t : Fin cfg0.N) (r : Fin 512) (h : Fin 1024) :
    k0_pay33 (F := Ideal) (iblk m c 0 t) (iblk m c 1 t) (iblk m c 2 t) (iblk m c 3 t) (iblk m c 4 t) (iblk m c 5 t) (ix2 r h)
      = row m c ⟨(t.val * 512 + r.val) / 4096, by have := lt32 t; omega⟩ ⟨(t.val * 512 + r.val) % 4096, by omega⟩ ⟨h.val, by omega⟩ := by
  rw [y6_at]
  simp only [x_at, g_at, wq_at]
  rfl

theorem y7_row (t : Fin cfg0.N) (r : Fin 512) (h : Fin 512) :
    k0_pay36 (F := Ideal) (iblk m c 0 t) (iblk m c 1 t) (iblk m c 2 t) (iblk m c 3 t) (iblk m c 4 t) (iblk m c 5 t) (ix2 r h)
      = row m c ⟨(t.val * 512 + r.val) / 4096, by have := lt32 t; omega⟩ ⟨(t.val * 512 + r.val) % 4096, by omega⟩ ⟨1024 + h.val, by omega⟩ := by
  rw [y7_at]
  simp only [x_at, g_at, wk_at]
  rfl

theorem arr6 : (dats m 0 c).arrAt 6 cfg0.N = flatQ m c := by
  refine final6 m c _ fun t r h => ?_
  rw [out6_at]
  unfold spun1024
  simp only [y6_row, cos_at, sin_at]
  exact turn_eq rfl (fun k : Fin 1024 => row m c ⟨(t.val * 512 + r.val) / 4096, by have := lt32 t; omega⟩ ⟨(t.val * 512 + r.val) % 4096, by omega⟩ ⟨k.val, by omega⟩) _ h

theorem arr7 : (dats m 0 c).arrAt 7 cfg0.N = flatKv m c := by
  refine final7 m c _ fun t r h => ?_
  rw [out7_at]
  unfold spun512
  simp only [y7_row, cos_at, sin_at]
  refine (if_congr Iff.rfl ?_ rfl)
  exact turn_eq rfl (fun k : Fin 512 => row m c ⟨(t.val * 512 + r.val) / 4096, by have := lt32 t; omega⟩ ⟨(t.val * 512 + r.val) % 4096, by omega⟩ ⟨1024 + k.val, by omega⟩) _ h

/-- The arrays have names of their own. -/
theorem injective : Function.Injective (Pipeline.arrRef spec0) := by
  intro a b
  revert a b
  decide

/-- What the host makes of the result arrays. -/
theorem tail29 (b : Fin 4) (t : Fin 4096) (h : Fin 16) (l : Fin 64) :
    (Pipeline.afterTail₀ cfgs (dats m) 0 (V0 m) [hostOps1] c main_v29 : FVec Ideal S4x4096x16x64 .f32) (ix4 b t h l)
      = flatQ m c (ix2 ⟨b.val * 4096 + t.val, by omega⟩ ⟨h.val * 64 + l.val, by omega⟩) := by
  rw [← arr6]
  unfold Pipeline.afterTail₀
  repeat after_reads_at
  exact congrFun (Pipeline.withArrays_arr spec0 injective c (V0 m c) (fun w => (dats m 0 c).arrAt w cfg0.N) 6) _

theorem tail30 (b : Fin 4) (t : Fin 4096) (z : Fin 2) (h : Fin 4) (l : Fin 64) :
    (Pipeline.afterTail₀ cfgs (dats m) 0 (V0 m) [hostOps1] c main_v30 : FVec Ideal S4x4096x2x4x64 .f32) (ix5 b t z h l)
      = flatKv m c (ix2 ⟨b.val * 4096 + t.val, by omega⟩ ⟨z.val * 256 + h.val * 64 + l.val, by omega⟩) := by
  rw [← arr7]
  unfold Pipeline.afterTail₀
  repeat after_reads_at
  exact congrFun (Pipeline.withArrays_arr spec0 injective c (V0 m c) (fun w => (dats m 0 c).arrAt w cfg0.N) 7) _

theorem div_eq (b : Fin 4) (t : Fin 4096) : (b.val * 4096 + t.val) / 4096 = b.val := by omega
theorem mod_eq (b : Fin 4) (t : Fin 4096) : (b.val * 4096 + t.val) % 4096 = t.val := by omega

theorem flatQ_at (b : Fin 4) (t : Fin 4096) (j : Fin 1024) :
    flatQ m c (ix2 ⟨b.val * 4096 + t.val, by omega⟩ j) = turn rfl (fun k : Fin 1024 => row m c b t ⟨k.val, by omega⟩) t.val j := by
  show turn rfl (fun k : Fin 1024 => row m c ⟨(b.val * 4096 + t.val) / 4096, _⟩ ⟨(b.val * 4096 + t.val) % 4096, _⟩ ⟨k.val, _⟩) ((b.val * 4096 + t.val) % 4096) j = _
  simp only [div_eq, mod_eq]

theorem flatKv_at (b : Fin 4) (t : Fin 4096) (j : Fin 512) :
    flatKv m c (ix2 ⟨b.val * 4096 + t.val, by omega⟩ j)
      = if j.val < 256 then turn rfl (fun k : Fin 512 => row m c b t ⟨1024 + k.val, by omega⟩) t.val j else row m c b t ⟨1024 + j.val, by omega⟩ := by
  show (if j.val < 256 then
      turn rfl (fun k : Fin 512 => row m c ⟨(b.val * 4096 + t.val) / 4096, _⟩ ⟨(b.val * 4096 + t.val) % 4096, _⟩ ⟨1024 + k.val, _⟩) ((b.val * 4096 + t.val) % 4096) j
    else row m c ⟨(b.val * 4096 + t.val) / 4096, _⟩ ⟨(b.val * 4096 + t.val) % 4096, _⟩ ⟨1024 + j.val, _⟩) = _
  simp only [div_eq, mod_eq]

theorem ex4 {a b d e : ℕ} (x : (⟨4, ![a, b, d, e]⟩ : Shape).Idx) : ∃ (i : Fin a) (j : Fin b) (k : Fin d) (l : Fin e), x = ix4 i j k l :=
  ⟨x 0, x 1, x 2, x 3, by
    funext n
    match n with
    | ⟨0, _⟩ => rfl
    | ⟨1, _⟩ => rfl
    | ⟨2, _⟩ => rfl
    | ⟨3, _⟩ => rfl⟩

theorem ex5 {a b d e f : ℕ} (x : (⟨5, ![a, b, d, e, f]⟩ : Shape).Idx) :
    ∃ (i : Fin a) (j : Fin b) (k : Fin d) (l : Fin e) (o : Fin f), x = ix5 i j k l o :=
  ⟨x 0, x 1, x 2, x 3, x 4, by
    funext n
    match n with
    | ⟨0, _⟩ => rfl
    | ⟨1, _⟩ => rfl
    | ⟨2, _⟩ => rfl
    | ⟨3, _⟩ => rfl
    | ⟨4, _⟩ => rfl⟩

open Cert.Reference5Ideal.Read Cert.Reference5Ideal.Proj in
/-- The queries are the reference's. -/
theorem q_eq : (Pipeline.afterTail₀ cfgs (dats m) 0 (V0 m) [hostOps1] c main_v29 : FVec Ideal S4x4096x16x64 .f32)
    = val_main_v45 (F := Ideal) (ax m c) (ag m c) (aw m c) := by
  funext i
  obtain ⟨b, t, h, l, rfl⟩ := ex4 i
  refine (tail29 m c b t h l).trans ((flatQ_at m c b t _).trans ?_)
  refine Eq.trans ?_ (v45_at (ax m c) (ag m c) (aw m c) b t h l).symm
  refine congrArg (fun y => turn rfl y t.val ⟨h.val * 64 + l.val, by omega⟩) (funext fun k => ?_)
  exact (v14_at (ax m c) (ag m c) (aw m c) b t _).symm

open Cert.Reference5Ideal.Read Cert.Reference5Ideal.Proj in
/-- The keys and values are the reference's. -/
theorem kv_eq : (Pipeline.afterTail₀ cfgs (dats m) 0 (V0 m) [hostOps1] c main_v30 : FVec Ideal S4x4096x2x4x64 .f32)
    = val_main_v83 (F := Ideal) (ax m c) (ag m c) (aw m c) := by
  funext i
  obtain ⟨b, t, z, h, l, rfl⟩ := ex5 i
  refine (tail30 m c b t z h l).trans ((flatKv_at m c b t _).trans ?_)
  refine Eq.trans ?_ (v83_at (ax m c) (ag m c) (aw m c) b t z h l).symm
  have hh := h.isLt
  have hl := l.isLt
  have hzz := z.isLt
  by_cases hz : z.val < 1
  · rw [if_pos hz, if_pos (by dsimp only; omega)]
    refine Eq.trans ?_ (v78_at (ax m c) (ag m c) (aw m c) b t h l).symm
    have e : (⟨z.val * 256 + h.val * 64 + l.val, by omega⟩ : Fin 512) = ⟨h.val * 64 + l.val, by omega⟩ := Fin.ext (by dsimp only; omega)
    rw [e]
    refine congrArg (fun y => turn rfl y t.val ⟨h.val * 64 + l.val, by omega⟩) (funext fun k => ?_)
    exact (v14_at (ax m c) (ag m c) (aw m c) b t _).symm
  · rw [if_neg hz, if_neg (by dsimp only; omega)]
    have e : (⟨1024 + (z.val * 256 + h.val * 64 + l.val), by omega⟩ : Fin 1536) = ⟨1024 + (256 + h.val * 64 + l.val), by omega⟩ := Fin.ext (by dsimp only; omega)
    dsimp only
    rw [e]
    exact (v14_at (ax m c) (ag m c) (aw m c) b t _).symm

/-- The run, its results named. -/
theorem run (ρ : Dev nD → PrngReg) : θ_run defs (onTc (τ := τ) (main (F := Ideal))) ⟨m, fun _ => 0, ρ⟩ fun r => ∀ c : Dev nD,
      r.2.mem ((c.tc : Thread nD τ).loc main_v29) = Cert.Reference5Ideal.Read.val_main_v45 (F := Ideal) (ax m c) (ag m c) (aw m c)
      ∧ r.2.mem ((c.tc : Thread nD τ).loc main_v30) = Cert.Reference5Ideal.Read.val_main_v83 (F := Ideal) (ax m c) (ag m c) (aw m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v29 (Pipeline.mem_restRefs_of main_v29 (by decide) (by decide))).trans (q_eq m c),
      ((h c).2 main_v30 (Pipeline.mem_restRefs_of main_v30 (by decide) (by decide))).trans (kv_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel5Ideal.Proj

end
-- ==== Proof.Pair5.lean ====
/-
  The odd layer's projection kernel and its reference end with the same arrays.
-/
module

public import proofs.«01_k».proof.Defs
public import proofs.«01_k».proof.Proof.ProjMain5
public import proofs.«01_k».proof.Proof.Gen.Reference5Ideal.Run
public import proofs.«01_k».proof.Proof.Gen.Reference5Ideal.Read
public import Idealize.ShloMosaic.Lib.Claim
public import Idealize.ShloMosaic.Adequacy
public import Idealize.ShloMosaic.Init

@[expose] public section

set_option maxRecDepth 16384

noncomputable section

namespace Cert.Reference5Ideal.Proj

open Idealize.ShloMosaic Idealize.SL.Sem Cert.Reference5Ideal Cert.Reference5Ideal.Read

variable (m : (ℓ : Loc nD τ sig) → Buf (Elt Ideal) ℓ)

/-- The reference's run, each result written as a function of the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v45) = val_main_v45 (F := Ideal) (m ((c.tc : Thread nD τ).loc main_arg0)) (m ((c.tc : Thread nD τ).loc main_arg1)) (m ((c.tc : Thread nD τ).loc main_arg2))
      ∧ r.2.mem ((c.tc : Thread nD τ).loc main_v83) = val_main_v83 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨hv45, hv83, ha⟩ := h c
    exact ⟨hv45.trans (val_main_v45_eq m c), hv83.trans (val_main_v83_eq m c), ha⟩)
    (Cert.Reference5Ideal.Value.run (F := Ideal) m ρ)

end Cert.Reference5Ideal.Proj

namespace Cert.Proof

open Idealize.ShloMosaic Idealize.SL.Sem

/-- The projection kernel of the odd layer and its reference end with the same arrays. -/
theorem algebraic5 :
    Cert.algebraic_Kernel5Ideal_Reference5Ideal (hKernel5Ideal := Cert.Kernel5Ideal.Gen.facts) (hReference5Ideal := Cert.Reference5Ideal.Gen.facts) := by
  intro m g m' g' _ hagree
  refine ⟨fun c => Cert.Reference5Ideal.Read.val_main_v45 (F := Ideal) (Cert.Kernel5Ideal.Proj.ax m c) (Cert.Kernel5Ideal.Proj.ag m c) (Cert.Kernel5Ideal.Proj.aw m c),
    fun c => Cert.Reference5Ideal.Read.val_main_v83 (F := Ideal) (Cert.Kernel5Ideal.Proj.ax m c) (Cert.Kernel5Ideal.Proj.ag m c) (Cert.Kernel5Ideal.Proj.aw m c), Cert.Kernel5Ideal.Proj.run m g, ?_⟩
  refine (θ_run _ _ _).mono (fun r h c => ?_) (Cert.Reference5Ideal.Proj.run m' g')
  obtain ⟨e0, e1, e2⟩ := hagree c
  obtain ⟨hv45, hv83, ha⟩ := h c
  exact ⟨hv45.trans (by rw [e0, e1, e2]),
    hv83.trans (by rw [e0, e1, e2]), ha⟩

end Cert.Proof

end
-- ==== Proof.lean ====
/-
  The certificate, for the attention, for the feed-forward part with and without the final norm, and for the
  projections of the even and the odd layer: the programs' runs and unchanged arguments, the named constant,
  and the equality of each kernel's results with its reference's over the extended reals.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Main
public import proofs.«01_k».proof.Proof.FfnMain2
public import proofs.«01_k».proof.Proof.FfnMain3
public import proofs.«01_k».proof.Proof.Pair4
public import proofs.«01_k».proof.Proof.Pair5
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The attention kernel and the reference end with the same array. -/
theorem algebraic [Cert.Pre_finite.Facts] :
    Cert.algebraic_KernelIdeal_ReferenceIdeal_pre_finite (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    obtain ⟨hq, hm⟩ := Cert.Pre_finite.real _ _ _ (hpre c)
    obtain ⟨e0, e1, e2⟩ := hagree c
    rw [Cert.ReferenceIdeal.Read.val_main_v68_eq, e0, e1, e2]
    exact (Cert.KernelIdeal.Moba.result_eq m c hq hm).symm

/-- The feed-forward kernel with the final norm and its reference end with the same array. -/
theorem algebraic2 :
    Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    obtain ⟨e0, e1, e2, e3, e4, e5⟩ := hagree c
    rw [Cert.Reference2Ideal.Read.val_main_v31_eq, e0, e1, e2, e3, e4, e5]
    exact (Cert.Kernel2Ideal.Ffn.result_eq m c).symm

/-- The feed-forward kernel without the final norm and its reference end with the same array. -/
theorem algebraic3 :
    Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    rw [Cert.Reference3Ideal.Read.val_main_v18_eq]
    exact (Cert.Kernel3Ideal.Ffn.result_eq m c).symm

/-- The references' runs: they are host operations only, which declare no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference2 : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩)
    (Cert.Reference2Ideal.Value.run (F := Ideal) m ρ)

theorem frame_reference3 : Cert.quiescent_Reference3Ideal (hReference3Ideal := Cert.Reference3Ideal.Gen.facts) := fun m ρ _ =>
  (θ_run (Cert.Reference3Ideal.defs (F := Ideal)) _ _).mono (fun r h => ⟨fun c => (h c).2, sem_eq_zero_of_no_sems (by decide) r.2⟩)
    (Cert.Reference3Ideal.Value.run (F := Ideal) m ρ)

theorem frame_reference4 : Cert.quiescent_Reference4Ideal (hReference4Ideal := Cert.Reference4Ideal.Gen.facts) := fun m ρ _ =>
  (θ_run (Cert.Reference4Ideal.defs (F := Ideal)) _ _).mono (fun r h => ⟨fun c => (h c).2.2.2.2.2.2.2, sem_eq_zero_of_no_sems (by decide) r.2⟩)
    (Cert.Reference4Ideal.Value.run (F := Ideal) m ρ)

theorem frame_reference5 : Cert.quiescent_Reference5Ideal (hReference5Ideal := Cert.Reference5Ideal.Gen.facts) := fun m ρ _ =>
  (θ_run (Cert.Reference5Ideal.defs (F := Ideal)) _ _).mono (fun r h => ⟨fun c => (h c).2.2, sem_eq_zero_of_no_sems (by decide) r.2⟩)
    (Cert.Reference5Ideal.Value.run (F := Ideal) m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  IdealRules.named_const.statement Cert.KernelIdeal.κ "mask" .f32 0xF149F2CA#32 ⊥ rfl,
  haveI := Cert.Pre_finite.facts; algebraic,
  trivial,
  algebraic2,
  trivial,
  algebraic3,
  trivial,
  algebraic4,
  trivial,
  algebraic5⟩

end Cert.Proof

end
